-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_tables_in_range.lean ====
abbrev S159 : Shape := ⟨1, ![159]⟩
abbrev S651264x128 : Shape := ⟨2, ![651264, 128]⟩
abbrev S32x2048x512 : Shape := ⟨3, ![32, 2048, 512]⟩
abbrev S32x512x2048 : Shape := ⟨3, ![32, 512, 2048]⟩
abbrev S_ : Shape := ⟨0, ![]⟩

class Facts : Prop where
  bcast_S_S159 : S_.BroadcastsInDim S159 (![] : Fin 0 → Fin S159.rank)

variable [Facts]

def fn {F : FTy → Type} [FloatOps F] (main_arg0 : IVec S159 32) (main_arg1 : IVec S159 32) (main_arg2 : IVec S159 32) (main_arg3 : FVec F S651264x128 .f32) (main_arg4 : FVec F S32x2048x512 .f32) (main_arg5 : FVec F S32x2048x512 .f32) (main_arg6 : FVec F S32x512x2048 .f32) : IVec S159 1 × IVec S159 1 :=
  let main_c : IVec S_ 32 := constantI S_ 32 0#32
  let main_v0 : IVec S159 32 := broadcastInDim S159 ![] bcast_S_S159 main_c
  let main_v1 : IVec S159 1 := cmpi .sge main_arg0 main_v0
  let main_c_0 : IVec S_ 32 := constantI S_ 32 32#32
  let main_v2 : IVec S159 32 := broadcastInDim S159 ![] bcast_S_S159 main_c_0
  let main_v3 : IVec S159 1 := cmpi .slt main_arg0 main_v2
  let main_v4 : IVec S159 1 := andi main_v1 main_v3
  let main_c_1 : IVec S_ 32 := constantI S_ 32 0#32
  let main_v5 : IVec S159 32 := broadcastInDim S159 ![] bcast_S_S159 main_c_1
  let main_v6 : IVec S159 1 := cmpi .sge main_arg1 main_v5
  let main_c_2 : IVec S_ 32 := constantI S_ 32 159#32
  let main_v7 : IVec S159 32 := broadcastInDim S159 ![] bcast_S_S159 main_c_2
  let main_v8 : IVec S159 1 := cmpi .slt main_arg1 main_v7
  let main_v9 : IVec S159 1 := andi main_v6 main_v8
  (main_v4, main_v9)
-- ==== Kernel.lean ====
abbrev S159 : Shape := ⟨1, ![159]⟩
abbrev S651264x128 : Shape := ⟨2, ![651264, 128]⟩
abbrev S32x2048x512 : Shape := ⟨3, ![32, 2048, 512]⟩
abbrev S32x512x2048 : Shape := ⟨3, ![32, 512, 2048]⟩
abbrev S4096x128 : Shape := ⟨2, ![4096, 128]⟩
abbrev S1 : Shape := ⟨1, ![1]⟩
abbrev S1x2048x512 : Shape := ⟨3, ![1, 2048, 512]⟩
abbrev S1x512x2048 : Shape := ⟨3, ![1, 512, 2048]⟩
abbrev S256x2048 : Shape := ⟨2, ![256, 2048]⟩
abbrev S256x128 : Shape := ⟨2, ![256, 128]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 8
  | .vmem => 11
  | .smem => 3
  | _ => 0

abbrev bufTy : (tb : Table) → Fin (tcTables nBuf tb) → BufTy
  | .hbm, ⟨0, _⟩ => ⟨S651264x128, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S32x2048x512, .bf16⟩
  | .hbm, ⟨5, _⟩ => ⟨S32x2048x512, .bf16⟩
  | .hbm, ⟨6, _⟩ => ⟨S32x512x2048, .bf16⟩
  | .hbm, ⟨7, _⟩ => ⟨S651264x128, .f32⟩
  | .local _ .vmem, ⟨0, _⟩ => ⟨S4096x128, .f32⟩
  | .local _ .vmem, ⟨1, _⟩ => ⟨S4096x128, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S4096x128, .f32⟩
  | .local _ .vmem, ⟨9, _⟩ => ⟨S4096x128, .f32⟩
  | .local _ .vmem, ⟨10, _⟩ => ⟨S256x2048, .bf16⟩
  | .local _ .smem, ⟨0, _⟩ => ⟨S159, .i32⟩
  | .local _ .smem, ⟨1, _⟩ => ⟨S159, .i32⟩
  | .local _ .smem, ⟨2, _⟩ => ⟨S159, .i32⟩
  | _, _ => ⟨S651264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![159], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v_true : BitVec 1 := 1#1
  let v3 : BitVec 1 := Scalar.xori v2 v_true
  let v4 : BitVec 32 := Scalar.extui v3
  let c0_i32_0 : BitVec 32 := 0#32
  let v5 : BitVec 1 := Scalar.cmpi .ne v4 c0_i32_0
  v5

def k0_cond2 (v1 : BitVec 32) : BitVec 1 :=
  let c0_i32 : BitVec 32 := 0#32
  let v2 : BitVec 1 := Scalar.cmpi .sgt v1 c0_i32
  let v6 : BitVec 32 := Scalar.extui v2
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S159.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S159 : Shape := ⟨1, ![159]⟩
abbrev S651264x128 : Shape := ⟨2, ![651264, 128]⟩
abbrev S32x2048x512 : Shape := ⟨3, ![32, 2048, 512]⟩
abbrev S32x512x2048 : Shape := ⟨3, ![32, 512, 2048]⟩
abbrev S159x256x2048 : Shape := ⟨3, ![159, 256, 2048]⟩
abbrev S_ : Shape := ⟨0, ![]⟩
abbrev S159x1 : Shape := ⟨2, ![159, 1]⟩
abbrev S40704x2048 : Shape := ⟨2, ![40704, 2048]⟩
abbrev S1x32 : Shape := ⟨2, ![1, 32]⟩
abbrev S159x32 : Shape := ⟨2, ![159, 32]⟩
abbrev S159x1x32 : Shape := ⟨3, ![159, 1, 32]⟩
abbrev S159x256x32 : Shape := ⟨3, ![159, 256, 32]⟩
abbrev S40704x32 : Shape := ⟨2, ![40704, 32]⟩
abbrev S40704x32x512 : Shape := ⟨3, ![40704, 32, 512]⟩
abbrev S40704x32x1 : Shape := ⟨3, ![40704, 32, 1]⟩

abbrev nBuf : Space → Nat
  | .hbm => 51
  | .vmem => 0
  | .smem => 0
  | _ => 0

abbrev bufTy : (tb : Table) → Fin (tcTables nBuf tb) → BufTy
  | .hbm, ⟨0, _⟩ => ⟨S159, .i32⟩
  | .hbm, ⟨1, _⟩ => ⟨S159, .i32⟩
  | .hbm, ⟨2, _⟩ => ⟨S159, .i32⟩
  | .hbm, ⟨3, _⟩ => ⟨S651264x128, .f32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S159x256x2048, .f32⟩
  | .hbm, ⟨8, _⟩ => ⟨S_, .i32⟩
  | .hbm, ⟨9, _⟩ => ⟨S159, .i32⟩
  | .hbm, ⟨10, _⟩ => ⟨S159, .i1⟩
  | .hbm, ⟨11, _⟩ => ⟨S_, .i32⟩
  | .hbm, ⟨12, _⟩ => ⟨S159, .i32⟩
  | .hbm, ⟨13, _⟩ => ⟨S159, .i32⟩
  | .hbm, ⟨14, _⟩ => ⟨S159, .i32⟩
  | .hbm, ⟨15, _⟩ => ⟨S159x1, .i32⟩
  | .hbm, ⟨16, _⟩ => ⟨S159x256x2048, .f32⟩
  | .hbm, ⟨17, _⟩ => ⟨S40704x2048, .f32⟩
  | .hbm, ⟨18, _⟩ => ⟨S159x1, .i32⟩
  | .hbm, ⟨19, _⟩ => ⟨S1x32, .i32⟩
  | .hbm, ⟨20, _⟩ => ⟨S159x32, .i32⟩
  | .hbm, ⟨21, _⟩ => ⟨S159x32, .i32⟩
  | .hbm, ⟨22, _⟩ => ⟨S159x32, .i1⟩
  | .hbm, ⟨23, _⟩ => ⟨S159x32, .f32⟩
  | .hbm, ⟨24, _⟩ => ⟨S_, .i32⟩
  | .hbm, ⟨25, _⟩ => ⟨S159, .i32⟩
  | .hbm, ⟨26, _⟩ => ⟨S159, .i1⟩
  | .hbm, ⟨27, _⟩ => ⟨S159x1, .i1⟩
  | .hbm, ⟨28, _⟩ => ⟨S159x1, .f32⟩
  | .hbm, ⟨29, _⟩ => ⟨S159x32, .f32⟩
  | .hbm, ⟨30, _⟩ => ⟨S159x32, .f32⟩
  | .hbm, ⟨31, _⟩ => ⟨S159x1x32, .f32⟩
  | .hbm, ⟨32, _⟩ => ⟨S159x256x32, .f32⟩
  | .hbm, ⟨33, _⟩ => ⟨S40704x32, .f32⟩
  | .hbm, ⟨34, _⟩ => ⟨S40704x32x512, .f32⟩
  | .hbm, ⟨35, _⟩ => ⟨S40704x32x512, .f32⟩
  | .hbm, ⟨36, _⟩ => ⟨S40704x32x512, .f32⟩
  | .hbm, ⟨37, _⟩ => ⟨S40704x32x512, .f32⟩
  | .hbm, ⟨38, _⟩ => ⟨S_, .f32⟩
  | .hbm, ⟨39, _⟩ => ⟨S40704x32x512, .f32⟩
  | .hbm, ⟨40, _⟩ => ⟨S40704x32x512, .f32⟩
  | .hbm, ⟨41, _⟩ => ⟨S_, .f32⟩
  | .hbm, ⟨42, _⟩ => ⟨S40704x32x512, .f32⟩
  | .hbm, ⟨43, _⟩ => ⟨S40704x32x512, .f32⟩
  | .hbm, ⟨44, _⟩ => ⟨S40704x32x512, .f32⟩
  | .hbm, ⟨45, _⟩ => ⟨S40704x32x512, .f32⟩
  | .hbm, ⟨46, _⟩ => ⟨S40704x32x1, .f32⟩
  | .hbm, ⟨47, _⟩ => ⟨S40704x32x512, .f32⟩
  | .hbm, ⟨48, _⟩ => ⟨S40704x32x512, .f32⟩
  | .hbm, ⟨49, _⟩ => ⟨S40704x2048, .f32⟩
  | .hbm, ⟨50, _⟩ => ⟨S651264x128, .f32⟩
  | _, _ => ⟨S159, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S4x1x2048 : Shape := ⟨3, ![4, 1, 2048]⟩
abbrev S2048x6160 : Shape := ⟨2, ![2048, 6160]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S16384x2048 : Shape := ⟨2, ![16384, 2048]⟩
abbrev S1x2048 : Shape := ⟨2, ![1, 2048]⟩
abbrev S16384x6144 : Shape := ⟨2, ![16384, 6144]⟩
abbrev S16384x128 : Shape := ⟨2, ![16384, 128]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6160, .f32⟩
  | .hbm, ⟨5, _⟩ => ⟨S2048x6160, .bf16⟩
  | .hbm, ⟨6, _⟩ => ⟨S2048x6144, .bf16⟩
  | .hbm, ⟨7, _⟩ => ⟨S2048x16, .bf16⟩
  | .hbm, ⟨8, _⟩ => ⟨S_, .i32⟩
  | .hbm, ⟨9, _⟩ => ⟨S_, .bf16⟩
  | .hbm, ⟨10, _⟩ => ⟨S2048x128, .bf16⟩
  | .hbm, ⟨11, _⟩ => ⟨S16384x2048, .f32⟩
  | .hbm, ⟨12, _⟩ => ⟨S1x2048, .f32⟩
  | .hbm, ⟨13, _⟩ => ⟨S16384x6144, .bf16⟩
  | .hbm, ⟨14, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x128, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x4096x2048 : Shape := ⟨3, ![4, 4096, 2048]⟩
abbrev S2048 : Shape := ⟨1, ![2048]⟩
abbrev S4x1x2048 : Shape := ⟨3, ![4, 1, 2048]⟩
abbrev S2048x6160 : Shape := ⟨2, ![2048, 6160]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6160 : Shape := ⟨3, ![4, 4096, 6160]⟩
abbrev S16384x6160 : Shape := ⟨2, ![16384, 6160]⟩
abbrev S16384x16 : Shape := ⟨2, ![16384, 16]⟩
abbrev S16384x6144 : Shape := ⟨2, ![16384, 6144]⟩
abbrev S16384x128 : Shape := ⟨2, ![16384, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6160, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x6160, .f32⟩
  | .hbm, ⟨29, _⟩ => ⟨S16384x6160, .f32⟩
  | .hbm, ⟨30, _⟩ => ⟨S16384x16, .f32⟩
  | .hbm, ⟨31, _⟩ => ⟨S16384x6144, .f32⟩
  | .hbm, ⟨32, _⟩ => ⟨S16384x6144, .bf16⟩
  | .hbm, ⟨33, _⟩ => ⟨S_, .i32⟩
  | .hbm, ⟨34, _⟩ => ⟨S_, .f32⟩
  | .hbm, ⟨35, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel3.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x12288, .f32⟩
  | .hbm, ⟨7, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S8x12288 : Shape := ⟨2, ![8, 12288]⟩
abbrev S1x12288 : Shape := ⟨2, ![1, 12288]⟩

abbrev nBuf : Space → Nat
  | .hbm => 19
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S_, .i32⟩
  | .hbm, ⟨14, _⟩ => ⟨S_, .f32⟩
  | .hbm, ⟨15, _⟩ => ⟨S8x12288, .f32⟩
  | .hbm, ⟨16, _⟩ => ⟨S1x12288, .f32⟩
  | .hbm, ⟨17, _⟩ => ⟨S8x12288, .f32⟩
  | .hbm, ⟨18, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel4.lean ====
abbrev S4x4096x6160 : Shape := ⟨3, ![4, 4096, 6160]⟩
abbrev S16x512 : Shape := ⟨2, ![16, 512]⟩
abbrev S512 : Shape := ⟨1, ![512]⟩
abbrev S256 : Shape := ⟨1, ![256]⟩
abbrev S16384x6160 : Shape := ⟨2, ![16384, 6160]⟩
abbrev S16384x6144 : Shape := ⟨2, ![16384, 6144]⟩
abbrev S16384x16 : Shape := ⟨2, ![16384, 16]⟩
abbrev S_ : Shape := ⟨0, ![]⟩
abbrev S16384x128 : Shape := ⟨2, ![16384, 128]⟩
abbrev S128x512 : Shape := ⟨2, ![128, 512]⟩
abbrev S1x512 : Shape := ⟨2, ![1, 512]⟩
abbrev S1x256 : Shape := ⟨2, ![1, 256]⟩
abbrev S16384x1024 : Shape := ⟨2, ![16384, 1024]⟩
abbrev S512x128 : Shape := ⟨2, ![512, 128]⟩
abbrev S512x256 : Shape := ⟨2, ![512, 256]⟩
abbrev S128x128 : Shape := ⟨2, ![128, 128]⟩
abbrev S1x128 : Shape := ⟨2, ![1, 128]⟩
abbrev S256x128 : Shape := ⟨2, ![256, 128]⟩
abbrev S64x64 : Shape := ⟨2, ![64, 64]⟩
abbrev S64x128 : Shape := ⟨2, ![64, 128]⟩
abbrev S64x256 : Shape := ⟨2, ![64, 256]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S4x4096x6160, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S16384x6160, .f32⟩
  | .hbm, ⟨5, _⟩ => ⟨S16384x6144, .f32⟩
  | .hbm, ⟨6, _⟩ => ⟨S16384x6144, .bf16⟩
  | .hbm, ⟨7, _⟩ => ⟨S16384x16, .f32⟩
  | .hbm, ⟨8, _⟩ => ⟨S_, .i32⟩
  | .hbm, ⟨9, _⟩ => ⟨S_, .f32⟩
  | .hbm, ⟨10, _⟩ => ⟨S16384x128, .f32⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S1x512, .f32⟩
  | .hbm, ⟨15, _⟩ => ⟨S1x256, .f32⟩
  | .hbm, ⟨16, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x128, .f32⟩
  | .local _ .vmem, ⟨9, _⟩ => ⟨S512x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S512x256, .bf16⟩
  | .local _ .vmem, ⟨16, _⟩ => ⟨S512x256, .bf16⟩
  | .local _ .vmem, ⟨17, _⟩ => ⟨S256x128, .f32⟩
  | _, _ => ⟨S4x4096x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference4Ideal.lean ====
abbrev S4x4096x6160 : Shape := ⟨3, ![4, 4096, 6160]⟩
abbrev S16x512 : Shape := ⟨2, ![16, 512]⟩
abbrev S512 : Shape := ⟨1, ![512]⟩
abbrev S256 : Shape := ⟨1, ![256]⟩
abbrev S4x4096x512 : Shape := ⟨3, ![4, 4096, 512]⟩
abbrev S4x4096x1024 : Shape := ⟨3, ![4, 4096, 1024]⟩
abbrev S4x4096x16 : Shape := ⟨3, ![4, 4096, 16]⟩
abbrev S1x1x512 : Shape := ⟨3, ![1, 1, 512]⟩
abbrev S_ : Shape := ⟨0, ![]⟩
abbrev S4x4096x4x128 : Shape := ⟨4, ![4, 4096, 4, 128]⟩
abbrev S4x4096x4x256 : Shape := ⟨4, ![4, 4096, 4, 256]⟩
abbrev S4x64x64x4x128 : Shape := ⟨5, ![4, 64, 64, 4, 128]⟩
abbrev S64x4x4x64x128 : Shape := ⟨5, ![64, 4, 4, 64, 128]⟩
abbrev S4x64x64x4x256 : Shape := ⟨5, ![4, 64, 64, 4, 256]⟩
abbrev S64x4x4x64x256 : Shape := ⟨5, ![64, 4, 4, 64, 256]⟩
abbrev S4x4x128x256 : Shape := ⟨4, ![4, 4, 128, 256]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S4x4x1x128 : Shape := ⟨4, ![4, 4, 1, 128]⟩
abbrev S4x4x128 : Shape := ⟨3, ![4, 4, 128]⟩
abbrev S4x4x128x1 : Shape := ⟨4, ![4, 4, 128, 1]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S16384x1024 : Shape := ⟨2, ![16384, 1024]⟩

abbrev nBuf : Space → Nat
  | .hbm => 140
  | .vmem => 0
  | .smem => 0
  | _ => 0

abbrev hbmTy0_0 (i : Nat) : BufTy := match i % 128 with
  | 0 => ⟨S4x4096x6160, .f32⟩
  | 1 => ⟨S16x512, .f32⟩
  | 2 => ⟨S512, .f32⟩
  | 3 => ⟨S256, .f32⟩
  | 4 => ⟨S4x4096x512, .f32⟩
  | 5 => ⟨S4x4096x512, .f32⟩
  | 6 => ⟨S4x4096x1024, .f32⟩
  | 7 => ⟨S4x4096x16, .f32⟩
  | 8 => ⟨S4x4096x512, .f32⟩
  | 9 => ⟨S1x1x512, .f32⟩
  | 10 => ⟨S4x4096x512, .f32⟩
  | 11 => ⟨S4x4096x512, .f32⟩
  | 12 => ⟨S4x4096x512, .f32⟩
  | 13 => ⟨S_, .f32⟩
  | 14 => ⟨S4x4096x512, .f32⟩
  | 15 => ⟨S4x4096x512, .f32⟩
  | 16 => ⟨S4x4096x512, .f32⟩
  | 17 => ⟨S4x4096x512, .f32⟩
  | 18 => ⟨S4x4096x512, .i1⟩
  | 19 => ⟨S4x4096x512, .f32⟩
  | 20 => ⟨S4x4096x512, .f32⟩
  | 21 => ⟨S4x4096x512, .f32⟩
  | 22 => ⟨S4x4096x512, .f32⟩
  | 23 => ⟨S4x4096x512, .f32⟩
  | 24 => ⟨S4x4096x512, .f32⟩
  | 25 => ⟨S4x4096x512, .f32⟩
  | 26 => ⟨S4x4096x512, .f32⟩
  | 27 => ⟨S4x4096x512, .f32⟩
  | 28 => ⟨S_, .f32⟩
  | 29 => ⟨S4x4096x512, .f32⟩
  | 30 => ⟨S4x4096x512, .f32⟩
  | 31 => ⟨S4x4096x4x128, .f32⟩
  | 32 => ⟨S4x4096x4x128, .f32⟩
  | 33 => ⟨S4x4096x4x256, .f32⟩
  | 34 => ⟨S4x4096x4x128, .f32⟩
  | 35 => ⟨S_, .f32⟩
  | 36 => ⟨S4x4096x4x128, .f32⟩
  | 37 => ⟨S4x4096x4x128, .f32⟩
  | 38 => ⟨S4x64x64x4x128, .f32⟩
  | 39 => ⟨S64x4x4x64x128, .f32⟩
  | 40 => ⟨S4x64x64x4x128, .f32⟩
  | 41 => ⟨S64x4x4x64x128, .f32⟩
  | 42 => ⟨S4x64x64x4x256, .f32⟩
  | 43 => ⟨S64x4x4x64x256, .f32⟩
  | 44 => ⟨S4x64x64x4x128, .f32⟩
  | 45 => ⟨S64x4x4x64x128, .f32⟩
  | 46 => ⟨S_, .f32⟩
  | 47 => ⟨S4x4x128x256, .f32⟩
  | 48 => ⟨S_, .f32⟩
  | 49 => ⟨S64x4x4x64x256, .f32⟩
  | 50 => ⟨S_, .i32⟩
  | 51 => ⟨S64x4x4x64x128, .f32⟩
  | 52 => ⟨S64x4x4x64x128, .f32⟩
  | 53 => ⟨S64x4x4x64x256, .f32⟩
  | 54 => ⟨S64x4x4x64x128, .f32⟩
  | 55 => ⟨S_, .i32⟩
  | 56 => ⟨S4x4x128x256, .f32⟩
  | 57 => ⟨S64x4x4x64x256, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x4x4x64x128, .f32⟩
  | 65 => ⟨S4x4x64x128, .f32⟩
  | 66 => ⟨S_, .i32⟩
  | 67 => ⟨S_, .i32⟩
  | 68 => ⟨S_, .i32⟩
  | 69 => ⟨S_, .i32⟩
  | 70 => ⟨S1x4x4x64x128, .f32⟩
  | 71 => ⟨S4x4x64x128, .f32⟩
  | 72 => ⟨S_, .i32⟩
  | 73 => ⟨S_, .i32⟩
  | 74 => ⟨S_, .i32⟩
  | 75 => ⟨S_, .i32⟩
  | 76 => ⟨S1x4x4x64x256, .f32⟩
  | 77 => ⟨S4x4x64x256, .f32⟩
  | 78 => ⟨S_, .i32⟩
  | 79 => ⟨S_, .i32⟩
  | 80 => ⟨S_, .i32⟩
  | 81 => ⟨S_, .i32⟩
  | 82 => ⟨S1x4x4x64x128, .f32⟩
  | 83 => ⟨S4x4x64x128, .f32⟩
  | 84 => ⟨S_, .f32⟩
  | 85 => ⟨S_, .f32⟩
  | 86 => ⟨S4x4x64x128, .f32⟩
  | 87 => ⟨S4x4x1x128, .f32⟩
  | 88 => ⟨S4x4x64x128, .f32⟩
  | 89 => ⟨S4x4x64x128, .f32⟩
  | 90 => ⟨S4x4x64x128, .f32⟩
  | 91 => ⟨S4x4x64x128, .f32⟩
  | 92 => ⟨S4x4x128, .f32⟩
  | 93 => ⟨S4x4x128, .f32⟩
  | 94 => ⟨S4x4x128x1, .f32⟩
  | 95 => ⟨S4x4x128x256, .f32⟩
  | 96 => ⟨S4x4x128x256, .f32⟩
  | 97 => ⟨S4x4x128x256, .f32⟩
  | 98 => ⟨S4x4x128x256, .f32⟩
  | 99 => ⟨S4x4x64x256, .f32⟩
  | 100 => ⟨S1x4x4x64x256, .f32⟩
  | 101 => ⟨S_, .i32⟩
  | 102 => ⟨S_, .i32⟩
  | 103 => ⟨S_, .i32⟩
  | 104 => ⟨S_, .i32⟩
  | 105 => ⟨S64x4x4x64x256, .f32⟩
  | 106 => ⟨S_, .i32⟩
  | 107 => ⟨S_, .i32⟩
  | 108 => ⟨S4x64x64x4x256, .f32⟩
  | 109 => ⟨S4x4096x4x256, .f32⟩
  | 110 => ⟨S4x4096x1024, .f32⟩
  | 111 => ⟨S4x4096x4x256, .f32⟩
  | 112 => ⟨S_, .f32⟩
  | 113 => ⟨S4x4096x4, .f32⟩
  | 114 => ⟨S4x4096x4x1, .f32⟩
  | 115 => ⟨S_, .f32⟩
  | 116 => ⟨S4x4096x4x1, .f32⟩
  | 117 => ⟨S4x4096x4x1, .f32⟩
  | 118 => ⟨S_, .f32⟩
  | 119 => ⟨S4x4096x4x1, .f32⟩
  | 120 => ⟨S4x4096x4x1, .f32⟩
  | 121 => ⟨S4x4096x4x1, .f32⟩
  | 122 => ⟨S4x4096x4x256, .f32⟩
  | 123 => ⟨S4x4096x4x256, .f32⟩
  | 124 => ⟨S1x1x1x256, .f32⟩
  | 125 => ⟨S4x4096x4x256, .f32⟩
  | 126 => ⟨S4x4096x4x256, .f32⟩
  | 127 => ⟨S4x4096x1024, .f32⟩
  | _ => ⟨S4x4096x6160, .f32⟩

abbrev hbmTy0_1 (i : Nat) : BufTy := match i % 128 with
  | 0 => ⟨S4x4096x1024, .f32⟩
  | 1 => ⟨S4x4096x1024, .f32⟩
  | 2 => ⟨S_, .f32⟩
  | 3 => ⟨S4x4096x1024, .f32⟩
  | 4 => ⟨S4x4096x1024, .f32⟩
  | 5 => ⟨S_, .f32⟩
  | 6 => ⟨S4x4096x1024, .f32⟩
  | 7 => ⟨S4x4096x1024, .f32⟩
  | 8 => ⟨S4x4096x1024, .f32⟩
  | 9 => ⟨S4x4096x1024, .f32⟩
  | 10 => ⟨S16384x1024, .f32⟩
  | 11 => ⟨S16384x1024, .bf16⟩
  | _ => ⟨S4x4096x6160, .f32⟩

abbrev hbmTy (i : Nat) : BufTy := match i / 128 with
  | 0 => hbmTy0_0 i
  | 1 => hbmTy0_1 i
  | _ => ⟨S4x4096x6160, .f32⟩

abbrev bufTy : (tb : Table) → Fin (tcTables nBuf tb) → BufTy
  | .hbm, ⟨i, _⟩ => hbmTy i
  | _, _ => ⟨S4x4096x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_c : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev main_v27_3 : Ref sig .tc := ⟨.hbm, 54, rfl⟩
abbrev main_v27_4 : Ref sig .tc := ⟨.hbm, 55, rfl⟩
abbrev main_v27_5 : Ref sig .tc := ⟨.hbm, 56, rfl⟩
abbrev main_v27_6 : Ref sig .tc := ⟨.hbm, 57, rfl⟩
abbrev main_while0c_c_12 : Ref sig .tc := ⟨.hbm, 58, rfl⟩
abbrev main_while0c_v49 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v0 : Ref sig .tc := ⟨.hbm, 64, rfl⟩
abbrev main_while0b_v49 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_v0 : Ref sig .tc := ⟨.hbm, 70, rfl⟩
abbrev main_while0b_v50 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_call3_v0 : Ref sig .tc := ⟨.hbm, 76, rfl⟩
abbrev main_while0b_v51 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_c_2 : Ref sig .tc := ⟨.hbm, 81, rfl⟩
abbrev main_while0b_call4_v0 : Ref sig .tc := ⟨.hbm, 82, rfl⟩
abbrev main_while0b_v52 : Ref sig .tc := ⟨.hbm, 83, rfl⟩
abbrev main_while0b_call5_call0_cst : Ref sig .tc := ⟨.hbm, 84, rfl⟩
abbrev main_while0b_call5_call0_v0 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_call6_v0 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_c_2 : Ref sig .tc := ⟨.hbm, 104, rfl⟩
abbrev main_while0b_v67 : Ref sig .tc := ⟨.hbm, 105, rfl⟩
abbrev main_while0b_c_12 : Ref sig .tc := ⟨.hbm, 106, rfl⟩
abbrev main_while0b_v68 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_3 : Ref sig .tc := ⟨.hbm, 112, rfl⟩
abbrev main_v32 : Ref sig .tc := ⟨.hbm, 113, rfl⟩
abbrev main_v33 : Ref sig .tc := ⟨.hbm, 114, rfl⟩
abbrev main_cst_4 : Ref sig .tc := ⟨.hbm, 115, rfl⟩
abbrev main_v34 : Ref sig .tc := ⟨.hbm, 116, rfl⟩
abbrev main_v35 : Ref sig .tc := ⟨.hbm, 117, rfl⟩
abbrev main_cst_5 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_call7_v0 : Ref sig .tc := ⟨.hbm, 128, rfl⟩
abbrev main_call7_v1 : Ref sig .tc := ⟨.hbm, 129, rfl⟩
abbrev main_call7_cst : Ref sig .tc := ⟨.hbm, 130, rfl⟩
abbrev main_call7_v2 : Ref sig .tc := ⟨.hbm, 131, rfl⟩
abbrev main_call7_v3 : Ref sig .tc := ⟨.hbm, 132, rfl⟩
abbrev main_call7_cst_0 : Ref sig .tc := ⟨.hbm, 133, rfl⟩
abbrev main_call7_v4 : Ref sig .tc := ⟨.hbm, 134, rfl⟩
abbrev main_call7_v5 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩

abbrev nD : Nat := 1
abbrev τ : Topo := Topo.v7x

variable {F : FTy → Type} [FloatOps F]

abbrev main_while0_count : Scf.Loop 32 := ⟨0#32, 64#32, 1#32⟩
-- ==== Kernel5.lean ====
abbrev S4x4096x2048 : Shape := ⟨3, ![4, 4096, 2048]⟩
abbrev S4x4096x1024 : Shape := ⟨3, ![4, 4096, 1024]⟩
abbrev S2048x2048 : Shape := ⟨2, ![2048, 2048]⟩
abbrev S4x1x2048 : Shape := ⟨3, ![4, 1, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S16384x1024 : Shape := ⟨2, ![16384, 1024]⟩
abbrev S16384x2048 : Shape := ⟨2, ![16384, 2048]⟩
abbrev S1x2048 : Shape := ⟨2, ![1, 2048]⟩
abbrev S262144x128 : Shape := ⟨2, ![262144, 128]⟩
abbrev S16384x128 : Shape := ⟨2, ![16384, 128]⟩
abbrev S512x1024 : Shape := ⟨2, ![512, 1024]⟩
abbrev S512x2048 : Shape := ⟨2, ![512, 2048]⟩
abbrev S1x1x2048 : Shape := ⟨3, ![1, 1, 2048]⟩
abbrev S8192x128 : Shape := ⟨2, ![8192, 128]⟩
abbrev S512x128 : Shape := ⟨2, ![512, 128]⟩
abbrev S1024x2048 : Shape := ⟨2, ![1024, 2048]⟩
abbrev S512 : Shape := ⟨1, ![512]⟩
abbrev S512x1 : Shape := ⟨2, ![512, 1]⟩

abbrev nBuf : Space → Nat
  | .hbm => 33
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S2048x2048, .f32⟩
  | .hbm, ⟨4, _⟩ => ⟨S4x1x2048, .f32⟩
  | .hbm, ⟨5, _⟩ => ⟨S2048, .f32⟩
  | .hbm, ⟨6, _⟩ => ⟨S2048, .f32⟩
  | .hbm, ⟨7, _⟩ => ⟨S4x1x2048, .f32⟩
  | .hbm, ⟨8, _⟩ => ⟨S4x1x2048, .f32⟩
  | .hbm, ⟨9, _⟩ => ⟨S2048x4, .f32⟩
  | .hbm, ⟨10, _⟩ => ⟨S4, .f32⟩
  | .hbm, ⟨11, _⟩ => ⟨S2048x32, .f32⟩
  | .hbm, ⟨12, _⟩ => ⟨S32, .f32⟩
  | .hbm, ⟨13, _⟩ => ⟨S2048x36, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S16384x1024, .f32⟩
  | .hbm, ⟨23, _⟩ => ⟨S16384x1024, .bf16⟩
  | .hbm, ⟨24, _⟩ => ⟨S16384x1024, .f32⟩
  | .hbm, ⟨25, _⟩ => ⟨S16384x1024, .bf16⟩
  | .hbm, ⟨26, _⟩ => ⟨S2048x2048, .bf16⟩
  | .hbm, ⟨27, _⟩ => ⟨S16384x2048, .f32⟩
  | .hbm, ⟨28, _⟩ => ⟨S1x2048, .f32⟩
  | .hbm, ⟨29, _⟩ => ⟨S1x2048, .f32⟩
  | .hbm, ⟨30, _⟩ => ⟨S16384x2048, .f32⟩
  | .hbm, ⟨31, _⟩ => ⟨S262144x128, .f32⟩
  | .hbm, ⟨32, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S2048x128, .f32⟩
  | .local _ .vmem, ⟨16, _⟩ => ⟨S1x128, .f32⟩
  | .local _ .vmem, ⟨17, _⟩ => ⟨S512x2048, .f32⟩
  | .local _ .vmem, ⟨18, _⟩ => ⟨S512x2048, .f32⟩
  | .local _ .vmem, ⟨19, _⟩ => ⟨S8192x128, .f32⟩
  | .local _ .vmem, ⟨20, _⟩ => ⟨S8192x128, .f32⟩
  | .local _ .vmem, ⟨21, _⟩ => ⟨S512x128, .f32⟩
  | .local _ .vmem, ⟨22, _⟩ => ⟨S512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S4x4096x2048 : Shape := ⟨3, ![4, 4096, 2048]⟩
abbrev S4x4096x1024 : Shape := ⟨3, ![4, 4096, 1024]⟩
abbrev S2048x2048 : Shape := ⟨2, ![2048, 2048]⟩
abbrev S4x1x2048 : Shape := ⟨3, ![4, 1, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x4 : Shape := ⟨3, ![4, 4096, 4]⟩
abbrev S1x1x4 : Shape := ⟨3, ![1, 1, 4]⟩
abbrev S4x4096x32 : Shape := ⟨3, ![4, 4096, 32]⟩
abbrev S1x1x32 : Shape := ⟨3, ![1, 1, 32]⟩
abbrev S4x4096x36 : Shape := ⟨3, ![4, 4096, 36]⟩
abbrev S16384x36 : Shape := ⟨2, ![16384, 36]⟩
abbrev S16384x128 : Shape := ⟨2, ![16384, 128]⟩
abbrev S16384x2048 : Shape := ⟨2, ![16384, 2048]⟩
abbrev S262144x128 : Shape := ⟨2, ![262144, 128]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S2048x2048, .f32⟩
  | .hbm, ⟨4, _⟩ => ⟨S4x1x2048, .f32⟩
  | .hbm, ⟨5, _⟩ => ⟨S2048, .f32⟩
  | .hbm, ⟨6, _⟩ => ⟨S2048, .f32⟩
  | .hbm, ⟨7, _⟩ => ⟨S4x1x2048, .f32⟩
  | .hbm, ⟨8, _⟩ => ⟨S4x1x2048, .f32⟩
  | .hbm, ⟨9, _⟩ => ⟨S2048x4, .f32⟩
  | .hbm, ⟨10, _⟩ => ⟨S4, .f32⟩
  | .hbm, ⟨11, _⟩ => ⟨S2048x32, .f32⟩
  | .hbm, ⟨12, _⟩ => ⟨S32, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x2048, .f32⟩
  | .hbm, ⟨46, _⟩ => ⟨S4x4096x2048, .f32⟩
  | .hbm, ⟨47, _⟩ => ⟨S1x1x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x1x2048, .f32⟩
  | .hbm, ⟨52, _⟩ => ⟨S4x1x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S4x4096x4, .f32⟩
  | .hbm, ⟨58, _⟩ => ⟨S1x1x4, .f32⟩
  | .hbm, ⟨59, _⟩ => ⟨S4x4096x4, .f32⟩
  | .hbm, ⟨60, _⟩ => ⟨S4x4096x4, .f32⟩
  | .hbm, ⟨61, _⟩ => ⟨S4x4096x32, .f32⟩
  | .hbm, ⟨62, _⟩ => ⟨S1x1x32, .f32⟩
  | .hbm, ⟨63, _⟩ => ⟨S4x4096x32, .f32⟩
  | .hbm, ⟨64, _⟩ => ⟨S4x4096x32, .f32⟩
  | .hbm, ⟨65, _⟩ => ⟨S4x4096x36, .f32⟩
  | .hbm, ⟨66, _⟩ => ⟨S16384x36, .f32⟩
  | .hbm, ⟨67, _⟩ => ⟨S_, .i32⟩
  | .hbm, ⟨68, _⟩ => ⟨S_, .f32⟩
  | .hbm, ⟨69, _⟩ => ⟨S16384x128, .f32⟩
  | .hbm, ⟨70, _⟩ => ⟨S16384x2048, .f32⟩
  | .hbm, ⟨71, _⟩ => ⟨S262144x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c : Ref sig .tc := ⟨.hbm, 67, rfl⟩
abbrev main_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.PrjRun.lean ====
/- The input projection's body run once at the first block of columns of a row of blocks, where it normalizes the rows and
   keeps them, and once at a later one, where it finds them kept, over any float values. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Tactic

@[expose] public section

set_option maxRecDepth 16384

noncomputable section

namespace Cert.Kernel2Ideal.Prj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The propositions the run is stated in. -/
abbrev MM (F : FTy → Type) [FloatOps F] : Type := MT nD τ sig Unit (Elt F) ℕ (UR sig nD τ) ℕ

/-- What the body is handed and what it hands back, beside its outputs and the kept rows. -/
abbrev held (c : Dev nD) (arg2 : Memref sig .tc .vmem S1024x2048 .f32) (arg3 : Memref sig .tc .vmem S1x2048 .f32) (arg4 arg5 : Memref sig .tc .vmem S1x1x2048 .f32) (arg6 : Memref sig .tc .vmem S2048x512 .bf16) (arg7 : Memref sig .tc .vmem S2048x128 .bf16)
    (x0 : S1024x2048.Idx → Elt F .f32) (x1 : S1x2048.Idx → Elt F .f32) (x2 x3 : S1x1x2048.Idx → Elt F .f32) (x4 : S2048x512.Idx → Elt F .bf16) (x5 : S2048x128.Idx → Elt F .bf16) (R : sProp (MM F)) : sProp (MM F) :=
  iprop((arg2.view.loc (c : Thread nD τ) ↦[arg2.view.set]{fullShare} arg2.view.rep x0)
    ∗ (arg3.view.loc (c : Thread nD τ) ↦[arg3.view.set]{fullShare} arg3.view.rep x1)
    ∗ (arg4.view.loc (c : Thread nD τ) ↦[arg4.view.set]{fullShare} arg4.view.rep x2)
    ∗ (arg5.view.loc (c : Thread nD τ) ↦[arg5.view.set]{fullShare} arg5.view.rep x3)
    ∗ (arg6.view.loc (c : Thread nD τ) ↦[arg6.view.set]{fullShare} arg6.view.rep x4)
    ∗ (arg7.view.loc (c : Thread nD τ) ↦[arg7.view.set]{fullShare} arg7.view.rep x5)
    ∗ R)

set_option maxHeartbeats 8000000 in
/-- A later block of columns: the product of the kept rows with the block of weights. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S1024x2048 .bf16) (harg10 : arg10.IsWhole)
    (x0 : S1024x2048.Idx → Elt F .f32) (x1 : S1x2048.Idx → Elt F .f32) (x2 x3 : S1x1x2048.Idx → Elt F .f32) (x4 : S2048x512.Idx → Elt F .bf16) (x5 : S2048x128.Idx → Elt F .bf16) (h : S1024x2048.Idx → Elt F .bf16)
    (k0_h1 : ¬ k0_cond1 i = 1#1) (K : PUnit → sProp (MM F)) :
    held c arg2 arg3 arg4 arg5 arg6 arg7 x0 x1 x2 x3 x4 x5
      iprop((∃ d, owns (c : Thread nD τ) arg8 fullShare d)
        ∗ (arg10.view.loc (c : Thread nD τ) ↦[arg10.view.set]{fullShare} arg10.view.rep h)
        ∗ (held c arg2 arg3 arg4 arg5 arg6 arg7 x0 x1 x2 x3 x4 x5
            iprop(owns (c : Thread nD τ) arg8 fullShare (k0_pay1 h x4)
              ∗ (arg10.view.loc (c : Thread nD τ) ↦[arg10.view.set]{fullShare} arg10.view.rep h)) -∗ K ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10) K := by
  unfold owns
  rw [cc0_in_proj_eq_skeleton]; unfold cc0_in_proj_skel
  iintro ⟨H0, H1, H2, H3, H4, H5, ⟨%d6, %f6, -, HO6⟩, HS0, Hk⟩
  sl_exec (disch := first | (guard_target = ¬(k0_cond1 _ = _); exact k0_h1))
  sl_step
  iapply Hk
  isplitl [H0]; · iexact H0
  isplitl [H1]; · iexact H1
  isplitl [H2]; · iexact H2
  isplitl [H3]; · iexact H3
  isplitl [H4]; · iexact H4
  isplitl [H5]; · iexact H5
  isplitl [HO6]
  · iexists _; isplitr; swap
    · iexact HO6
    · ipureintro
      refine (View.read_writes_full _ _ _ _ _).trans ?_
      exact congr (congrArg k0_pay1 (View.readAt_rep_full _ _ _)) (View.readAt_rep_full _ _ _)
  iexact HS0

set_option maxHeartbeats 8000000 in
/-- The first block of columns: the rows normalized and kept, then their products with both blocks of weights. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S1024x2048 .bf16) (harg10 : arg10.IsWhole)
    (x0 : S1024x2048.Idx → Elt F .f32) (x1 : S1x2048.Idx → Elt F .f32) (x2 x3 : S1x1x2048.Idx → Elt F .f32) (x4 : S2048x512.Idx → Elt F .bf16) (x5 : S2048x128.Idx → Elt F .bf16)
    (k0_h1 : k0_cond1 i = 1#1) (K : PUnit → sProp (MM F)) :
    held c arg2 arg3 arg4 arg5 arg6 arg7 x0 x1 x2 x3 x4 x5
      iprop((∃ d, owns (c : Thread nD τ) arg8 fullShare d)
        ∗ (∃ d, owns (c : Thread nD τ) arg9 fullShare d)
        ∗ (∃ d, owns (c : Thread nD τ) arg10 fullShare d)
        ∗ (held c arg2 arg3 arg4 arg5 arg6 arg7 x0 x1 x2 x3 x4 x5
            iprop(owns (c : Thread nD τ) arg8 fullShare (k0_pay1 (k0_pay2 x0 x1 x2 x3) x4)
              ∗ owns (c : Thread nD τ) arg9 fullShare (k0_pay3 (k0_pay2 x0 x1 x2 x3) x5)
              ∗ owns (c : Thread nD τ) arg10 fullShare (k0_pay2 x0 x1 x2 x3)) -∗ K ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10) K := by
  have eR : ∀ f, arg10.view.readAt (Elt F) (Rect.unit (s := S1024x2048) ![0, 0] S1024x2048.size inb_S1024x2048_S1024x2048_0_0).toLoadRect f = arg10.view.read (Elt F) f := fun f => by
    funext y; rw [View.readAt_apply]; refine congrArg _ (funext fun a => Fin.ext ?_)
    match a with
    | ⟨0, _⟩ => show 0 + 1 * (y 0).val = (y 0).val; omega
    | ⟨1, _⟩ => show 0 + 1 * (y 1).val = (y 1).val; omega
  unfold owns
  rw [cc0_in_proj_eq_skeleton]; unfold cc0_in_proj_skel
  rw [k0_part1_eq_skeleton]; unfold k0_part1_skel
  iintro ⟨H0, H1, H2, H3, H4, H5, ⟨%d6, %f6, -, HO6⟩, ⟨%d7, %f7, -, HO7⟩, ⟨%d8, %f8, -, HS0⟩, Hk⟩
  sl_exec (disch := first | (guard_target = k0_cond1 _ = _; exact k0_h1))
  sl_step
  have eP : k0_pay2 (View.readAt (Elt F) arg2.view (Rect.unit (s := S1024x2048) ![0, 0] S1024x2048.size inb_S1024x2048_S1024x2048_0_0).toLoadRect (arg2.view.rep x0))
      (View.readAt (Elt F) arg3.view (Rect.unit (s := S1x2048) ![0, 0] S1x2048.size inb_S1x2048_S1x2048_0_0).toLoadRect (arg3.view.rep x1))
      (View.readAt (Elt F) arg4.view (Rect.unit (s := S1x1x2048) ![0, 0, 0] S1x1x2048.size inb_S1x1x2048_S1x1x2048_0_0_0).toLoadRect (arg4.view.rep x2))
      (View.readAt (Elt F) arg5.view (Rect.unit (s := S1x1x2048) ![0, 0, 0] S1x1x2048.size inb_S1x1x2048_S1x1x2048_0_0_0).toLoadRect (arg5.view.rep x3)) = k0_pay2 x0 x1 x2 x3 :=
    congr (congr (congr (congrArg k0_pay2 (View.readAt_rep_full _ _ _)) (View.readAt_rep_full _ _ _)) (View.readAt_rep_full _ _ _)) (View.readAt_rep_full _ _ _)
  have eV : runA.sl.v39 c arg2 arg3 arg4 arg5 arg10 x0 x1 x2 x3 = k0_pay2 x0 x1 x2 x3 := by
    unfold runA.sl.v39 View.readCov
    rw [eR]
    exact (View.read_writes_full _ _ _ _ _).trans eP
  iapply Hk
  isplitl [H0]; · iexact H0
  isplitl [H1]; · iexact H1
  isplitl [H2]; · iexact H2
  isplitl [H3]; · iexact H3
  isplitl [H4]; · iexact H4
  isplitl [H5]; · iexact H5
  isplitl [HO6]
  · iexists _; isplitr; swap
    · iexact HO6
    · ipureintro
      refine (View.read_writes_full _ _ _ _ _).trans ?_
      exact congr (congrArg k0_pay1 eV) (View.readAt_rep_full _ _ _)
  isplitl [HO7]
  · iexists _; isplitr; swap
    · iexact HO7
    · ipureintro
      refine (View.read_writes_full _ _ _ _ _).trans ?_
      exact congr (congrArg k0_pay3 eV) (View.readAt_rep_full _ _ _)
  iexists _; isplitr; swap
  · iexact HS0
  · ipureintro
    refine (View.read_writes_full _ _ _ _ _).trans ?_
    exact eP

end Cert.Kernel2Ideal.Prj

end
-- ==== Proof.PrjFrm.lean ====
/- The input projection launched, over any float values: what the pipeline is handed, what its body leaves at each point, the
   run, and the arguments unchanged. -/
module

public import proofs.«01_k».proof.Proof.PrjRun
public import Idealize.ShloMosaic.Lib.Claim
public import Idealize.ShloMosaic.Lib.Pipeline.Frame
public import Idealize.ShloMosaic.Lib.Pipeline.TableIdle
public import Idealize.ShloMosaic.Lib.Quiescent
public import Idealize.ShloMosaic.Adequacy
public import Idealize.ShloMosaic.Init

@[expose] public section

set_option maxRecDepth 16384

noncomputable section

namespace Cert.Kernel2Ideal.Prj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffers' contents where the region is entered: the host's operations done. -/
abbrev V (c : Dev nD) (b : Ref sig .tc) : Buf (Elt F) ((c : Thread nD τ).loc b) :=
  StableHlo.after (List.flatten [hostOps0, hostOps0_1, hostOps0_2]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ Variants.none m (main (F := F)) (V m) :=
  Pipeline.hmain_prefixes cfgs 0 defs₀ Variants.none m main [hostOps0, hostOps0_1, hostOps0_2] (by simp only [List.Forall]; exact ⟨hostOps0_sub, hostOps0_1_sub, hostOps0_2_sub⟩)
    (by simp only [List.Forall]; exact ⟨fresh_0, fresh_1, fresh_2⟩) main_chain

/-- No host operation writes a buffer that is none of their results. -/
theorem V_arg (b : Ref sig .tc) (hb : b ∉ [main_v0, main_v1, main_v2, main_c, main_call0_v0, main_v3, main_v4, main_v5]) (c : Dev nD) :
    V m c b = m ((c : Thread nD τ).loc b) :=
  StableHlo.after_of_forall_not_mem (b := Proc.devRef .tc b) _ _ (List.forall_iff_forall_mem.mp (by
    simp only [List.mem_cons, List.not_mem_nil, or_false, not_or] at hb
    obtain ⟨h0, h1, h2, h3, h4, h5, h6, h7⟩ := hb
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- Each window's buffer at a point. -/
abbrev m0 (t : Fin cfg0.N) : Memref sig .tc .vmem S1024x2048 .f32 := win0_0.stage (cfg0.slots t 0)
abbrev h0 (t : Fin cfg0.N) : (m0 t).IsWhole := hstage0_0 ((cfg0.slots t 0).cast nbuf0_0)
abbrev m1 (t : Fin cfg0.N) : Memref sig .tc .vmem S1x2048 .f32 := win0_1.stage (cfg0.slots t 1)
abbrev h1 (t : Fin cfg0.N) : (m1 t).IsWhole := hstage0_1 ((cfg0.slots t 1).cast nbuf0_1)
abbrev m2 (t : Fin cfg0.N) : Memref sig .tc .vmem S1x1x2048 .f32 := win0_2.stage (cfg0.slots t 2)
abbrev h2 (t : Fin cfg0.N) : (m2 t).IsWhole := hstage0_2 ((cfg0.slots t 2).cast nbuf0_2)
abbrev m3 (t : Fin cfg0.N) : Memref sig .tc .vmem S1x1x2048 .f32 := win0_3.stage (cfg0.slots t 3)
abbrev h3 (t : Fin cfg0.N) : (m3 t).IsWhole := hstage0_3 ((cfg0.slots t 3).cast nbuf0_3)
abbrev m4 (t : Fin cfg0.N) : Memref sig .tc .vmem S2048x512 .bf16 := win0_4.stage (cfg0.slots t 4)
abbrev h4 (t : Fin cfg0.N) : (m4 t).IsWhole := hstage0_4 ((cfg0.slots t 4).cast nbuf0_4)
abbrev m5 (t : Fin cfg0.N) : Memref sig .tc .vmem S2048x128 .bf16 := win0_5.stage (cfg0.slots t 5)
abbrev h5 (t : Fin cfg0.N) : (m5 t).IsWhole := hstage0_5 ((cfg0.slots t 5).cast nbuf0_5)
abbrev m6 (t : Fin cfg0.N) : Memref sig .tc .vmem S1024x512 .bf16 := win0_6.stage (cfg0.slots t 6)
abbrev h6 (t : Fin cfg0.N) : (m6 t).IsWhole := hstage0_6 ((cfg0.slots t 6).cast nbuf0_6)
abbrev m7 (t : Fin cfg0.N) : Memref sig .tc .vmem S1024x128 .f32 := win0_7.stage (cfg0.slots t 7)
abbrev h7 (t : Fin cfg0.N) : (m7 t).IsWhole := hstage0_7 ((cfg0.slots t 7).cast nbuf0_7)
/-- The kept rows' buffer, whole. -/
abbrev scM : Memref sig .tc .vmem S1024x2048 .bf16 := Memref.whole cc0_scratch0

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point where a point's row of blocks starts. -/
def rs (t : Fin cfg0.N) : Fin cfg0.N := ⟨t.val / 12 * 12, lt_of_le_of_lt (Nat.div_mul_le_self _ _) t.isLt⟩

theorem rs_start (t : Fin cfg0.N) (h : t.val % 12 = 0) : rs t = t := Fin.ext (by show t.val / 12 * 12 = t.val; omega)
theorem rs_next (t t' : Fin cfg0.N) (h : t.val / 12 = t'.val / 12) : rs t = rs t' := Fin.ext (by show t.val / 12 * 12 = t'.val / 12 * 12; rw [h])

/-- The rows kept at a point. -/
def hN (c : Dev nD) (t : Fin cfg0.N) : S1024x2048.Idx → Elt F .bf16 :=
  k0_pay2 (iblk m c 0 (rs t)) (iblk m c 1 (rs t)) (iblk m c 2 (rs t)) (iblk m c 3 (rs t))

/-- The last columns' block, as a row of blocks leaves it. -/
def oZ (c : Dev nD) (t : Fin cfg0.N) : S1024x128.Idx → Elt F .f32 := k0_pay3 (hN m c t) (iblk m c 5 (rs t))

theorem hN_next (c : Dev nD) (t t' : Fin cfg0.N) (h : t.val / 12 = t'.val / 12) : hN m c t = hN m c t' := by
  unfold hN; rw [rs_next t t' h]
theorem oZ_next (c : Dev nD) (t t' : Fin cfg0.N) (h : t.val / 12 = t'.val / 12) : oZ m c t = oZ m c t' := by
  unfold oZ; rw [hN_next m c t t' h, rs_next t t' h]

/-- What is carried from point to point: between rows of blocks the scratch at any contents, within one the kept rows. -/
def carried (c : Dev nD) (n : ℕ) (hn : n ≤ cfg0.N) : sProp (MM F) :=
  if h : n % 12 = 0 then Pipeline.ΦA spec0 c
  else iprop(owns (c : Thread nD τ) scM fullShare (hN m c ⟨n, lt_of_le_of_ne hn (fun e => h (by rw [e, show cfg0.N = 192 from N_0]))⟩) ∗ (∃ r, prngReg c r))

/-- What the pipeline is handed on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay1 (hN m c t) (iblk m c 4 t)
    | ⟨7, _⟩ => oZ m c t
  Φ t := carried m c t.val (Nat.le_of_lt_succ t.isLt)
  q _ := fullShare
  owed _ := 0

theorem after_0 (c : Dev nD) (t : Fin cfg0.N) : (dats m 0 c).after (0 : Fin 8) t = iblk m c 0 t := rfl
/-- Input 0 holds its block, fetched at this point or at one before it. -/
theorem before_0 (c : Dev nD) (t : Fin cfg0.N) (d) : (dats m 0 c).before (0 : Fin 8) t d = iblk m c 0 t :=
  ((dats m 0 c).before_in_eq_fetched (0 : Fin 8) rfl (fun _ => rfl) (fun _ _ _ => rfl) (fun t => by rw [after_0]; unfold Dat.blockOf iblk; rfl) t d).trans
    (by unfold Dat.fetched Dat.blockOf iblk; rfl)

theorem after_1 (c : Dev nD) (t : Fin cfg0.N) : (dats m 0 c).after (1 : Fin 8) t = iblk m c 1 t := rfl
/-- Input 1 holds its block, fetched at this point or at one before it. -/
theorem before_1 (c : Dev nD) (t : Fin cfg0.N) (d) : (dats m 0 c).before (1 : Fin 8) t d = iblk m c 1 t :=
  ((dats m 0 c).before_in_eq_fetched (1 : Fin 8) rfl (fun _ => rfl) (fun _ _ _ => rfl) (fun t => by rw [after_1]; unfold Dat.blockOf iblk; rfl) t d).trans
    (by unfold Dat.fetched Dat.blockOf iblk; rfl)

theorem after_2 (c : Dev nD) (t : Fin cfg0.N) : (dats m 0 c).after (2 : Fin 8) t = iblk m c 2 t := rfl
/-- Input 2 holds its block, fetched at this point or at one before it. -/
theorem before_2 (c : Dev nD) (t : Fin cfg0.N) (d) : (dats m 0 c).before (2 : Fin 8) t d = iblk m c 2 t :=
  ((dats m 0 c).before_in_eq_fetched (2 : Fin 8) rfl (fun _ => rfl) (fun _ _ _ => rfl) (fun t => by rw [after_2]; unfold Dat.blockOf iblk; rfl) t d).trans
    (by unfold Dat.fetched Dat.blockOf iblk; rfl)

theorem after_3 (c : Dev nD) (t : Fin cfg0.N) : (dats m 0 c).after (3 : Fin 8) t = iblk m c 3 t := rfl
/-- Input 3 holds its block, fetched at this point or at one before it. -/
theorem before_3 (c : Dev nD) (t : Fin cfg0.N) (d) : (dats m 0 c).before (3 : Fin 8) t d = iblk m c 3 t :=
  ((dats m 0 c).before_in_eq_fetched (3 : Fin 8) rfl (fun _ => rfl) (fun _ _ _ => rfl) (fun t => by rw [after_3]; unfold Dat.blockOf iblk; rfl) t d).trans
    (by unfold Dat.fetched Dat.blockOf iblk; rfl)

theorem after_4 (c : Dev nD) (t : Fin cfg0.N) : (dats m 0 c).after (4 : Fin 8) t = iblk m c 4 t := rfl
/-- Input 4 holds its block, fetched at this point or at one before it. -/
theorem before_4 (c : Dev nD) (t : Fin cfg0.N) (d) : (dats m 0 c).before (4 : Fin 8) t d = iblk m c 4 t :=
  ((dats m 0 c).before_in_eq_fetched (4 : Fin 8) rfl (fun _ => rfl) (fun _ _ _ => rfl) (fun t => by rw [after_4]; unfold Dat.blockOf iblk; rfl) t d).trans
    (by unfold Dat.fetched Dat.blockOf iblk; rfl)

theorem after_5 (c : Dev nD) (t : Fin cfg0.N) : (dats m 0 c).after (5 : Fin 8) t = iblk m c 5 t := rfl
/-- Input 5 holds its block, fetched at this point or at one before it. -/
theorem before_5 (c : Dev nD) (t : Fin cfg0.N) (d) : (dats m 0 c).before (5 : Fin 8) t d = iblk m c 5 t :=
  ((dats m 0 c).before_in_eq_fetched (5 : Fin 8) rfl (fun _ => rfl) (fun _ _ _ => rfl) (fun t => by rw [after_5]; unfold Dat.blockOf iblk; rfl) t d).trans
    (by unfold Dat.fetched Dat.blockOf iblk; rfl)

theorem after_6 (c : Dev nD) (t : Fin cfg0.N) : (dats m 0 c).after (6 : Fin 8) t = k0_pay1 (hN m c t) (iblk m c 4 t) := by
  delta dats; rfl
theorem after_7 (c : Dev nD) (t : Fin cfg0.N) : (dats m 0 c).after (7 : Fin 8) t = oZ m c t := by
  delta dats; rfl

theorem cond_iff (t : Fin cfg0.N) : k0_cond1 (cfg0.grid.coords t) = 1#1 ↔ t.val % 12 = 0 :=
  (by decide +kernel : ∀ t : Fin grid0.N, k0_cond1 (grid0.coords t) = 1#1 ↔ t.val % 12 = 0) t

theorem idle7 (t : Fin cfg0.N) : cfg0.idle (7 : Fin 8) (cfg0.grid.coords t) = !decide (t.val % 12 = 0) := by
  show (!(k0_cond1 (cfg0.grid.coords t) == 1#1)) = _
  by_cases h : t.val % 12 = 0
  · rw [(cond_iff t).mpr h]; simp [h]
  · have hq : ¬ k0_cond1 (grid0.coords t) = 1#1 := fun q => h ((cond_iff t).mp q)
    simp [h, hq]

theorem flush7 (t : Fin cfg0.N) : (cfg0.win (7 : Fin 8)).flush t = decide (t.val % 12 = 11) := by
  rw [Pipeline.Window.flush_eq_flushF]
  exact (by decide +kernel : ∀ t : Fin grid0.N, win0_7.flushF t = decide (t.val % 12 = 11)) t

theorem fresh7 (n : ℕ) (hn : n ≤ cfg0.N) : cfg0.fresh (7 : Fin 8) n = decide (n % 12 = 0) :=
  cfg0.fresh_tab (7 : Fin 8) (fun n => decide (n % 12 = 0)) rfl (fun t => by
    rw [flush7, idle7]
    by_cases h : t.val % 12 = 11 <;> by_cases h' : (t.val + 1) % 12 = 0 <;> by_cases h'' : t.val % 12 = 0 <;> simp [h, h', h''] <;> omega) n hn

/-- Within a row of blocks the last columns' block is found as the row's start left it. -/
theorem before_7 (c : Dev nD) (t : Fin cfg0.N) (h : ¬ t.val % 12 = 0) (d) : (dats m 0 c).before (7 : Fin 8) t d = oZ m c t := by
  rw [(dats m 0 c).before_out_traj (7 : Fin 8) rfl (fun _ _ => rfl) (fun t ht hi hf => by
    rw [fresh7 _ (Nat.le_of_lt t.isLt)] at hf
    rw [after_7, after_7]
    have h' : ¬ t.val % 12 = 0 := of_decide_eq_false hf
    exact oZ_next m c _ _ (show t.val / 12 = (t.val - 1) / 12 from by omega)) t.val t rfl d, fresh7 _ (Nat.le_of_lt t.isLt), decide_eq_false h, if_neg Bool.false_ne_true, after_7]
  exact oZ_next m c _ _ (show (t.val - 1) / 12 = t.val / 12 from by omega)

theorem PhiA_eq (c : Dev nD) : (Pipeline.ΦA spec0 c : sProp (MM F)) = iprop((∃ d, owns (c : Thread nD τ) scM fullShare d) ∗ (∃ r, prngReg c r)) := by
  unfold Pipeline.ΦA; rw [scopedRest0_eq]; simp only [scM, owns_whole]; try rfl

theorem phi_start (c : Dev nD) (t : Fin cfg0.N) (h : t.val % 12 = 0) : (dats m 0 c).Φ t.castSucc = iprop((∃ d, owns (c : Thread nD τ) scM fullShare d) ∗ (∃ r, prngReg c r)) := by
  show carried m c t.val (Nat.le_of_lt t.isLt) = _
  unfold carried
  rw [dif_pos h, PhiA_eq]

theorem phi_mid (c : Dev nD) (t : Fin cfg0.N) (h : ¬ t.val % 12 = 0) : (dats m 0 c).Φ t.castSucc = iprop(owns (c : Thread nD τ) scM fullShare (hN m c t) ∗ (∃ r, prngReg c r)) := by
  show carried m c t.val (Nat.le_of_lt t.isLt) = _
  unfold carried
  rw [dif_neg h]

theorem phi_succ (c : Dev nD) (t : Fin cfg0.N) : iprop(owns (c : Thread nD τ) scM fullShare (hN m c t) ∗ (∃ r, prngReg c r)) ⊢ (dats m 0 c).Φ t.succ := by
  show _ ⊢ carried m c (t.val + 1) t.isLt
  unfold carried
  by_cases h : (t.val + 1) % 12 = 0
  · rw [dif_pos h, PhiA_eq]
    iintro ⟨H, Hg⟩
    isplitl [H]
    · iexists _; iexact H
    iexact Hg
  · rw [dif_neg h, hN_next m c ⟨t.val + 1, _⟩ t (show (t.val + 1) / 12 = t.val / 12 from by omega)]

/-- The body at a point, as the pipeline calls it. -/
abbrev bodyAt (t : Fin cfg0.N) : Prog (TpuEff nD τ sig (Elt F) Λ₀ .tc) PUnit :=
  cc0_in_proj (cfg0.grid.coords t) (m0 t) (h0 t) (m1 t) (h1 t) (m2 t) (h2 t) (m3 t) (h3 t) (m4 t) (h4 t) (m5 t) (h5 t) (m6 t) (h6 t) (m7 t) (h7 t) scM (Memref.isWhole_whole _)

set_option maxHeartbeats 8000000 in
/-- The body at a point, whichever branch it takes. -/
theorem sound_body (c : Dev nD) (t : Fin cfg0.N) :
    iprop((dats m 0 c).Φ t.castSucc ∗ (dats m 0 c).owesAt () t.castSucc
        ∗ (∃ d, owns (c : Thread nD τ) (m0 t) fullShare ((dats m 0 c).before (0 : Fin 8) t d))
        ∗ (∃ d, owns (c : Thread nD τ) (m1 t) fullShare ((dats m 0 c).before (1 : Fin 8) t d))
        ∗ (∃ d, owns (c : Thread nD τ) (m2 t) fullShare ((dats m 0 c).before (2 : Fin 8) t d))
        ∗ (∃ d, owns (c : Thread nD τ) (m3 t) fullShare ((dats m 0 c).before (3 : Fin 8) t d))
        ∗ (∃ d, owns (c : Thread nD τ) (m4 t) fullShare ((dats m 0 c).before (4 : Fin 8) t d))
        ∗ (∃ d, owns (c : Thread nD τ) (m5 t) fullShare ((dats m 0 c).before (5 : Fin 8) t d))
        ∗ (∃ d, owns (c : Thread nD τ) (m6 t) fullShare ((dats m 0 c).before (6 : Fin 8) t d))
        ∗ (∃ d, owns (c : Thread nD τ) (m7 t) fullShare ((dats m 0 c).before (7 : Fin 8) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  have i7 := idle7 t
  have f7 := flush7 t
  rewrite [show (dats m 0 c).owesAt () t.succ = (dats m 0 c).owesAt () t.castSucc from rfl]
  by_cases hc : t.val % 12 = 0
  · rw [decide_eq_true hc, Bool.not_true] at i7
    rewrite [i7]
    rw [phi_start m c t hc]
    simp only [before_0, before_1, before_2, before_3, before_4, before_5, after_0, after_1, after_2, after_3, after_4, after_5, after_6, after_7]
    iintro ⟨⟨⟨%a0, HS0⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (cfg0.grid.coords t) (m0 t) (h0 t) (m1 t) (h1 t) (m2 t) (h2 t) (m3 t) (h3 t) (m4 t) (h4 t) (m5 t) (h5 t) (m6 t) (h6 t) (m7 t) (h7 t) scM (Memref.isWhole_whole _)
      (iblk m c 0 t) (iblk m c 1 t) (iblk m c 2 t) (iblk m c 3 t) (iblk m c 4 t) (iblk m c 5 t) ((cond_iff t).mpr hc) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexists _; iexact H6
    isplitl [H7]; · iexists _; iexact H7
    isplitl [HS0]; · iexists _; iexact HS0
    have eh : hN m c t = k0_pay2 (iblk m c 0 t) (iblk m c 1 t) (iblk m c 2 t) (iblk m c 3 t) := by unfold hN; rw [rs_start t hc]
    have ez : oZ m c t = k0_pay3 (k0_pay2 (iblk m c 0 t) (iblk m c 1 t) (iblk m c 2 t) (iblk m c 3 t)) (iblk m c 5 t) := by unfold oZ; rw [eh, rs_start t hc]
    rw [eh, ez]
    iintro ⟨H0, H1, H2, H3, H4, H5, H6, H7, HS0⟩
    isplitl [HS0 HP]
    · iapply phi_succ
      rw [eh]
      isplitl [HS0]
      · iexact HS0
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexact H6
    iexact H7
  · rw [decide_eq_false hc, Bool.not_false] at i7
    rewrite [i7]
    rw [phi_mid m c t hc]
    simp only [before_0, before_1, before_2, before_3, before_4, before_5, before_7 m c t hc, after_0, after_1, after_2, after_3, after_4, after_5, after_6, after_7]
    iintro ⟨⟨HS0, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (cfg0.grid.coords t) (m0 t) (h0 t) (m1 t) (h1 t) (m2 t) (h2 t) (m3 t) (h3 t) (m4 t) (h4 t) (m5 t) (h5 t) (m6 t) (h6 t) (m7 t) (h7 t) scM (Memref.isWhole_whole _)
      (iblk m c 0 t) (iblk m c 1 t) (iblk m c 2 t) (iblk m c 3 t) (iblk m c 4 t) (iblk m c 5 t) (hN m c t) (fun q => hc ((cond_iff t).mp q)) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexists _; iexact H6
    isplitl [HS0]; · iapply rep_of_owns; iexact HS0
    iintro ⟨H0, H1, H2, H3, H4, H5, H6, HS0⟩
    isplitl [HS0 HP]
    · iapply phi_succ
      isplitl [HS0]
      · iapply owns_of_rep; iexact HS0
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexact H6
    rw [f7]
    by_cases hf : t.val % 12 = 11
    · rw [decide_eq_true hf]
      iexact H7
    · rw [decide_eq_false hf]
      iexists d7
      iexact H7

/-- The body at every point. -/
theorem body_obligation (c : Dev nD) : BodyObligation (dats m 0 c) (defs₀ (F := F)) Variants.none () Set.univ := fun t => by
  rw [bigSep_W0]
  exact sound_body m c t

theorem share_eq (c : Dev nD) (w : Fin cfg0.W) : (dats m 0 c).share w = fullShare := by unfold Dat.share; split <;> rfl

theorem hin (c : Dev nD) : Pipeline.ΦA spec0 c ⊢ (dats m 0 c).Φ 0 := by
  show _ ⊢ carried m c 0 (Nat.zero_le _)
  unfold carried
  rw [dif_pos (Nat.zero_mod _)]

theorem hout (c : Dev nD) : (dats m 0 c).Φ (Fin.last cfg0.N) ⊢ Pipeline.ΦA spec0 c := by
  show carried m c cfg0.N le_rfl ⊢ _
  unfold carried
  rw [dif_pos (show cfg0.N % 12 = 0 by rw [show cfg0.N = 192 from N_0])]

set_option backward.isDefEq.respectTransparency.types false in
set_option maxHeartbeats 4000000 in
/-- The run: every window's array ends at what the points wrote, every other buffer as it was at the launch, the counters at zero. -/
theorem run_frame : θ_run (defs (F := F)) (onTc (τ := τ) (main (F := F))) ⟨m, fun _ => 0, ρ⟩
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := share_eq m) (howed := fun _ _ => rfl)
    (V := V m) (hmain := hmain m) (hA := fun _ _ => rfl) (hin := hin m) (hout := hout m)
    (Q' := fun r => Pipeline.FramePost cfgs (dats m) 0 (V m) r ∧ r.2.sem = fun _ => 0) (hQ' := fun _ h => h)

/-- The run, its results the written arrays and its arguments as launched. -/
theorem run_args : θ_run (defs (F := F)) (onTc (τ := τ) (main (F := F))) ⟨m, fun _ => 0, ρ⟩
    (fun r => (∀ c : Dev nD,
      r.2.mem ((c.tc : Thread nD τ).loc main_v6_0) = (dats m 0 c).arrAt (6 : Fin 8) cfg0.N
      ∧ r.2.mem ((c.tc : Thread nD τ).loc main_v6_1) = (dats m 0 c).arrAt (7 : Fin 8) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run (defs (F := F)) _ _).mono (fun r h => ⟨fun c => ?_, h.2⟩) (run_frame m ρ)
  obtain ⟨hw, hr⟩ := h.1 c
  refine ⟨hw (6 : Fin 8), hw (7 : Fin 8), ?_, ?_, ?_, ?_, ?_⟩
  · exact (hr main_arg0 (show main_arg0 ∈ Pipeline.restRefs sig spec0 from by decide)).trans (V_arg m main_arg0 (by decide) c)
  · exact (hr main_arg1 (show main_arg1 ∈ Pipeline.restRefs sig spec0 from by decide)).trans (V_arg m main_arg1 (by decide) c)
  · exact (hw (2 : Fin 8)).trans (((dats m 0 c).arrAt_in (2 : Fin 8) rfl _).trans (V_arg m main_arg2 (by decide) c))
  · exact (hw (3 : Fin 8)).trans (((dats m 0 c).arrAt_in (3 : Fin 8) rfl _).trans (V_arg m main_arg3 (by decide) c))
  · exact (hr main_arg4 (show main_arg4 ∈ Pipeline.restRefs sig spec0 from by decide)).trans (V_arg m main_arg4 (by decide) c)

end Cert.Kernel2Ideal.Prj

end
-- ==== Proof.PrjVal.lean ====
/- The input projection's two arrays at their end, over the extended reals, as formulas of the arguments. -/
module

public import proofs.«01_k».proof.Proof.PrjFrm
public import Idealize.ShloMosaic.Lib.Pointwise
public import Idealize.ShloMosaic.Lib.Pipeline.ReadBack
public import Idealize.ShloMosaic.Lib.StableHlo.ReadAt
public import Idealize.ShloMosaic.Lib.Pipeline.ValueKit.Geometry

@[expose] public section

set_option maxRecDepth 16384

noncomputable section

namespace Cert.Kernel2Ideal.Prj

open Cert.Kernel2Ideal Cert.Kernel2Ideal.Gen
open Idealize.ShloMosaic
open Idealize.ShloMosaic.TcCoe Idealize.ShloMosaic.Tactic
open Idealize.SL Idealize.SL.Sem

/-- A row, normalized by its mean square, weighted, scaled and shifted. -/
def nrow (x g s h : Fin 2048 → EReal) (j : Fin 2048) : EReal :=
  x j * Ideal.rsqrt (Ideal.div (∑ k : Fin 2048, x k * x k) (Ideal.ofBits .f32 0x45000000#32) + Ideal.ofBits .f32 0x358637BD#32) * g j
    * (Ideal.ofBits .f32 0x3F800000#32 + s j) + h j

/-- Row `R` of all the sequences' rows, normalized and modulated. -/
def nn (x : FVec Ideal S4x4096x2048 .f32) (g : FVec Ideal S2048 .f32) (sc sh : FVec Ideal S4x1x2048 .f32) (R : ℕ) (j : Fin 2048) : EReal :=
  nrow (fun d => x (ix3 ⟨R / 4096 % 4, Nat.mod_lt _ (by decide)⟩ ⟨R % 4096, Nat.mod_lt _ (by decide)⟩ d)) (fun d => g (ix1 d))
    (fun d => sc (ix3 ⟨R / 4096 % 4, Nat.mod_lt _ (by decide)⟩ 0 d)) (fun d => sh (ix3 ⟨R / 4096 % 4, Nat.mod_lt _ (by decide)⟩ 0 d)) j

/-- The projection's first 6144 columns. -/
def goalO (x : FVec Ideal S4x4096x2048 .f32) (g : FVec Ideal S2048 .f32) (sc sh : FVec Ideal S4x1x2048 .f32) (w : FVec Ideal S2048x6160 .f32) :
    FVec Ideal S16384x6144 .bf16 := fun i =>
  (∑ k : Fin 2048, nn x g sc sh (i 0).val k * w (ix2 k ⟨(i 1).val, by have : (i 1).val < 6144 := (i 1).isLt; omega⟩) : EReal)

/-- The projection's last 16 columns, with zero columns after them. -/
def goalZ (x : FVec Ideal S4x4096x2048 .f32) (g : FVec Ideal S2048 .f32) (sc sh : FVec Ideal S4x1x2048 .f32) (w : FVec Ideal S2048x6160 .f32) :
    FVec Ideal S16384x128 .f32 := fun i =>
  if h : (i 1).val < 16 then (∑ k : Fin 2048, nn x g sc sh (i 0).val k * w (ix2 k ⟨6144 + (i 1).val, by omega⟩) : EReal) else (0 : EReal)

/-! The body's operations at an index. -/

theorem pay2_at (x : Vec Ideal S1024x2048 .f32) (g : Vec Ideal S1x2048 .f32) (sc sh : Vec Ideal S1x1x2048 .f32) (r : Fin 1024) (j : Fin 2048) :
    k0_pay2 (F := Ideal) x g sc sh (ix2 r j) = nrow (fun d => x (ix2 r d)) (fun d => g (ix2 0 d)) (fun d => sc (ix3 0 0 d)) (fun d => sh (ix3 0 0 d)) j := by
  pointwise [k0_pay2, nrow]

theorem pay1_at (h : Vec Ideal S1024x2048 .bf16) (w : Vec Ideal S2048x512 .bf16) (r : Fin 1024) (j : Fin 512) :
    k0_pay1 (F := Ideal) h w (ix2 r j) = ∑ d : Fin 2048, (h (ix2 r d) * w (ix2 d j) : EReal) := by
  pointwise [k0_pay1]

theorem pay3_at (h : Vec Ideal S1024x2048 .bf16) (w : Vec Ideal S2048x128 .bf16) (r : Fin 1024) (j : Fin 128) :
    k0_pay3 (F := Ideal) h w (ix2 r j) = ∑ d : Fin 2048, (h (ix2 r d) * w (ix2 d j) : EReal) := by
  pointwise [k0_pay3]

variable (m : (ℓ : Loc nD τ sig) → Buf (Elt Ideal) ℓ)

/-! What the host hands the pipeline. -/

theorem x_at (c : Dev nD) (r : Fin 16384) (d : Fin 2048) :
    V m c main_v4 (ix2 r d) = m ((c : Thread nD τ).loc main_arg0) (ix3 ⟨r.val / 4096, by omega⟩ ⟨r.val % 4096, by omega⟩ d) := by
  simp only [V, hostOps0, hostOps0_1, hostOps0_2, List.flatten_cons, List.flatten_nil, List.append_nil, List.cons_append, List.nil_append]
  after_results_simp
  pointwise

theorem g_at (c : Dev nD) (d : Fin 2048) : V m c main_v5 (ix2 0 d) = m ((c : Thread nD τ).loc main_arg1) (ix1 d) := by
  simp only [V, hostOps0, hostOps0_1, hostOps0_2, List.flatten_cons, List.flatten_nil, List.append_nil, List.cons_append, List.nil_append]
  after_results_simp
  pointwise

theorem w_at (c : Dev nD) (r : Fin 2048) (d : Fin 6144) : V m c main_v1 (ix2 r d) = m ((c : Thread nD τ).loc main_arg4) (ix2 r ⟨d.val, by omega⟩) := by
  simp only [V, hostOps0, hostOps0_1, hostOps0_2, List.flatten_cons, List.flatten_nil, List.append_nil, List.cons_append, List.nil_append]
  after_results_simp
  pointwise

theorem wz_at (c : Dev nD) (r : Fin 2048) (d : Fin 128) :
    V m c main_v3 (ix2 r d) = if h : d.val < 16 then m ((c : Thread nD τ).loc main_arg4) (ix2 r ⟨6144 + d.val, by omega⟩) else (0 : EReal) := by
  simp only [V, hostOps0, hostOps0_1, hostOps0_2, List.flatten_cons, List.flatten_nil, List.append_nil, List.cons_append, List.nil_append]
  after_reads_at
  all_goals simp [FloatOps.sitofp]

/-! The blocks the points read and write. -/

theorem N_lt (t : Fin cfg0.N) : t.val < 192 := lt_of_lt_of_eq t.isLt N_0

theorem ix_0 (t : Fin cfg0.N) : cc0_transform_0 (cfg0.grid.coords t) 0 = t.val / 12 := (by decide +kernel : ∀ t : Fin grid0.N, cc0_transform_0 (grid0.coords t) 0 = t.val / 12) t
theorem ix_2 (t : Fin cfg0.N) : cc0_transform_2 (cfg0.grid.coords t) 0 = t.val / 48 := (by decide +kernel : ∀ t : Fin grid0.N, cc0_transform_2 (grid0.coords t) 0 = t.val / 48) t
theorem ix_3 (t : Fin cfg0.N) : cc0_transform_3 (cfg0.grid.coords t) 0 = t.val / 48 := (by decide +kernel : ∀ t : Fin grid0.N, cc0_transform_3 (grid0.coords t) 0 = t.val / 48) t
theorem ix_4 (t : Fin cfg0.N) : cc0_transform_4 (cfg0.grid.coords t) 1 = t.val % 12 := (by decide +kernel : ∀ t : Fin grid0.N, cc0_transform_4 (grid0.coords t) 1 = t.val % 12) t
theorem ix_6a (t : Fin cfg0.N) : cc0_transform_6 (cfg0.grid.coords t) 0 = t.val / 12 := (by decide +kernel : ∀ t : Fin grid0.N, cc0_transform_6 (grid0.coords t) 0 = t.val / 12) t
theorem ix_6b (t : Fin cfg0.N) : cc0_transform_6 (cfg0.grid.coords t) 1 = t.val % 12 := (by decide +kernel : ∀ t : Fin grid0.N, cc0_transform_6 (grid0.coords t) 1 = t.val % 12) t
theorem ix_7 (t : Fin cfg0.N) : cc0_transform_7 (cfg0.grid.coords t) 0 = t.val / 12 := (by decide +kernel : ∀ t : Fin grid0.N, cc0_transform_7 (grid0.coords t) 0 = t.val / 12) t

theorem blk0 (c : Dev nD) (t : Fin cfg0.N) (r : Fin 1024) (d : Fin 2048) :
    iblk m c 0 t (ix2 r d) = V m c main_v4 (ix2 ⟨1024 * (t.val / 12) + r.val, by have := N_lt t; omega⟩ d) := by
  unfold iblk
  show V m c main_v4 _ = _
  refine congrArg (V m c main_v4) (funext fun a => Fin.ext ?_)
  match a with
  | ⟨0, _⟩ =>
    refine (show _ = cc0_transform_0 (cfg0.grid.coords t) 0 * 1024 + 1 * r.val from rfl).trans ?_
    rw [ix_0]
    show _ = 1024 * (t.val / 12) + r.val
    omega
  | ⟨1, _⟩ =>
    show 0 * 2048 + 1 * d.val = d.val
    omega

theorem blk1 (c : Dev nD) (t : Fin cfg0.N) (d : Fin 2048) : iblk m c 1 t (ix2 0 d) = V m c main_v5 (ix2 0 d) := by
  unfold iblk
  show V m c main_v5 _ = _
  refine congrArg (V m c main_v5) (funext fun a => Fin.ext ?_)
  match a with
  | ⟨0, _⟩ => rfl
  | ⟨1, _⟩ =>
    show 0 * 2048 + 1 * d.val = d.val
    omega

theorem blk2 (c : Dev nD) (t : Fin cfg0.N) (d : Fin 2048) :
    iblk m c 2 t (ix3 0 0 d) = m ((c : Thread nD τ).loc main_arg2) (ix3 ⟨t.val / 48, by have := N_lt t; omega⟩ 0 d) := by
  unfold iblk
  refine (congrFun (congrArg (View.read (Elt Ideal) ((cfg0.win (2 : Fin 8)).blk t).view) (V_arg m main_arg2 (by decide) c)) _).trans ?_
  show m _ _ = _
  refine congrArg (m ((c : Thread nD τ).loc main_arg2)) (funext fun a => Fin.ext ?_)
  match a with
  | ⟨0, _⟩ =>
    refine (show _ = cc0_transform_2 (cfg0.grid.coords t) 0 * 1 + 1 * 0 from rfl).trans ?_
    rw [ix_2]
    show _ = t.val / 48
    omega
  | ⟨1, _⟩ => rfl
  | ⟨2, _⟩ =>
    show 0 * 2048 + 1 * d.val = d.val
    omega

theorem blk3 (c : Dev nD) (t : Fin cfg0.N) (d : Fin 2048) :
    iblk m c 3 t (ix3 0 0 d) = m ((c : Thread nD τ).loc main_arg3) (ix3 ⟨t.val / 48, by have := N_lt t; omega⟩ 0 d) := by
  unfold iblk
  refine (congrFun (congrArg (View.read (Elt Ideal) ((cfg0.win (3 : Fin 8)).blk t).view) (V_arg m main_arg3 (by decide) c)) _).trans ?_
  show m _ _ = _
  refine congrArg (m ((c : Thread nD τ).loc main_arg3)) (funext fun a => Fin.ext ?_)
  match a with
  | ⟨0, _⟩ =>
    refine (show _ = cc0_transform_3 (cfg0.grid.coords t) 0 * 1 + 1 * 0 from rfl).trans ?_
    rw [ix_3]
    show _ = t.val / 48
    omega
  | ⟨1, _⟩ => rfl
  | ⟨2, _⟩ =>
    show 0 * 2048 + 1 * d.val = d.val
    omega

theorem blk4 (c : Dev nD) (t : Fin cfg0.N) (k : Fin 2048) (j : Fin 512) :
    iblk m c 4 t (ix2 k j) = V m c main_v1 (ix2 k ⟨512 * (t.val % 12) + j.val, by omega⟩) := by
  unfold iblk
  show V m c main_v1 _ = _
  refine congrArg (V m c main_v1) (funext fun a => Fin.ext ?_)
  match a with
  | ⟨0, _⟩ =>
    show 0 * 2048 + 1 * k.val = k.val
    omega
  | ⟨1, _⟩ =>
    refine (show _ = cc0_transform_4 (cfg0.grid.coords t) 1 * 512 + 1 * j.val from rfl).trans ?_
    rw [ix_4]
    show _ = 512 * (t.val % 12) + j.val
    omega

theorem blk5 (c : Dev nD) (t : Fin cfg0.N) (k : Fin 2048) (j : Fin 128) : iblk m c 5 t (ix2 k j) = V m c main_v3 (ix2 k j) := by
  unfold iblk
  show V m c main_v3 _ = _
  refine congrArg (V m c main_v3) (funext fun a => Fin.ext ?_)
  match a with
  | ⟨0, _⟩ =>
    show 0 * 2048 + 1 * k.val = k.val
    omega
  | ⟨1, _⟩ =>
    show 0 * 128 + 1 * j.val = j.val
    omega

abbrev NN (c : Dev nD) (R : ℕ) (j : Fin 2048) : EReal :=
  nn (m ((c : Thread nD τ).loc main_arg0)) (m ((c : Thread nD τ).loc main_arg1)) (m ((c : Thread nD τ).loc main_arg2)) (m ((c : Thread nD τ).loc main_arg3)) R j

theorem ix3_eq {α : Type} (x : S4x4096x2048.Idx → α) (a a' : Fin 4) (b b' : Fin 4096) (d : Fin 2048) (ha : a.val = a'.val) (hb : b.val = b'.val) :
    x (ix3 a b d) = x (ix3 a' b' d) := by
  rw [Fin.ext ha, Fin.ext hb]

theorem ix3_eq' {α : Type} (x : S4x1x2048.Idx → α) (a a' : Fin 4) (d : Fin 2048) (ha : a.val = a'.val) : x (ix3 a 0 d) = x (ix3 a' 0 d) := by
  rw [Fin.ext ha]

theorem nrow_congr {x x' g g' s s' h h' : Fin 2048 → EReal} (ex : ∀ d, x d = x' d) (eg : ∀ d, g d = g' d) (es : ∀ d, s d = s' d)
    (eh : ∀ d, h d = h' d) (j : Fin 2048) : nrow x g s h j = nrow x' g' s' h' j := by
  rw [funext ex, funext eg, funext es, funext eh]

/-- The rows kept at a point are its row of blocks' rows, normalized and modulated. -/
theorem hN_at (c : Dev nD) (t : Fin cfg0.N) (r : Fin 1024) (j : Fin 2048) : hN m c t (ix2 r j) = NN m c (1024 * (t.val / 12) + r.val) j := by
  have ht := N_lt t
  have hr := r.isLt
  have h12 : (rs t).val / 12 = t.val / 12 := by show t.val / 12 * 12 / 12 = _; omega
  have h48 : (rs t).val / 48 = t.val / 48 := by show t.val / 12 * 12 / 48 = _; omega
  unfold hN
  refine (pay2_at _ _ _ _ r j).trans (nrow_congr ?_ ?_ ?_ ?_ j)
  · intro d
    refine (blk0 m c (rs t) r d).trans ((x_at m c _ d).trans (ix3_eq _ _ _ _ _ d ?_ ?_))
    · show (1024 * ((rs t).val / 12) + r.val) / 4096 = (1024 * (t.val / 12) + r.val) / 4096 % 4
      rw [h12]; omega
    · show (1024 * ((rs t).val / 12) + r.val) % 4096 = (1024 * (t.val / 12) + r.val) % 4096
      rw [h12]
  · intro d
    exact (blk1 m c (rs t) d).trans (g_at m c d)
  · intro d
    refine (blk2 m c (rs t) d).trans (ix3_eq' _ _ _ d ?_)
    show (rs t).val / 48 = (1024 * (t.val / 12) + r.val) / 4096 % 4
    rw [h48]; omega
  · intro d
    refine (blk3 m c (rs t) d).trans (ix3_eq' _ _ _ d ?_)
    show (rs t).val / 48 = (1024 * (t.val / 12) + r.val) / 4096 % 4
    rw [h48]; omega

theorem idx2 {n k : ℕ} (y : (⟨2, ![n, k]⟩ : Shape).Idx) : y = ix2 (⟨(y 0).val, (y 0).isLt⟩ : Fin n) (⟨(y 1).val, (y 1).isLt⟩ : Fin k) := by
  funext a
  match a with
  | ⟨0, _⟩ => rfl
  | ⟨1, _⟩ => rfl

theorem emb6 (t : Fin cfg0.N) (r : Fin 1024) (j : Fin 512) :
    ((cfg0.win (6 : Fin 8)).blk t).view.emb (ix2 r j) = (ix2 (⟨1024 * (t.val / 12) + r.val, by have := N_lt t; omega⟩ : Fin 16384) (⟨512 * (t.val % 12) + j.val, by omega⟩ : Fin 6144) : S16384x6144.Idx) := by
  funext a
  refine Fin.ext ?_
  match a with
  | ⟨0, _⟩ =>
    refine (show _ = cc0_transform_6 (cfg0.grid.coords t) 0 * 1024 + 1 * r.val from rfl).trans ?_
    rw [ix_6a]
    show _ = 1024 * (t.val / 12) + r.val
    omega
  | ⟨1, _⟩ =>
    refine (show _ = cc0_transform_6 (cfg0.grid.coords t) 1 * 512 + 1 * j.val from rfl).trans ?_
    rw [ix_6b]
    show _ = 512 * (t.val % 12) + j.val
    omega

theorem emb7 (t : Fin cfg0.N) (r : Fin 1024) (j : Fin 128) :
    ((cfg0.win (7 : Fin 8)).blk t).view.emb (ix2 r j) = (ix2 (⟨1024 * (t.val / 12) + r.val, by have := N_lt t; omega⟩ : Fin 16384) j : S16384x128.Idx) := by
  funext a
  refine Fin.ext ?_
  match a with
  | ⟨0, _⟩ =>
    refine (show _ = cc0_transform_7 (cfg0.grid.coords t) 0 * 1024 + 1 * r.val from rfl).trans ?_
    rw [ix_7]
    show _ = 1024 * (t.val / 12) + r.val
    omega
  | ⟨1, _⟩ =>
    show 0 * 128 + 1 * j.val = j.val
    omega

theorem cov6 : (cfg0.win (6 : Fin 8)).Covers := by decide +kernel
theorem cov7 : (cfg0.win (7 : Fin 8)).Covers := by decide +kernel

/-- The first result at its end. -/
theorem arrO_eq (c : Dev nD) : (dats m 0 c).arrAt (6 : Fin 8) cfg0.N
    = goalO (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers (6 : Fin 8) _ cov6 fun t hf y => ?_
  refine (cast_eq _ _).trans ?_
  rw [after_6]
  obtain ⟨r, j, rfl⟩ : ∃ (r : Fin 1024) (j : Fin 512), y = (ix2 r j : S1024x512.Idx) := ⟨_, _, idx2 (n := 1024) (k := 512) y⟩
  refine Eq.trans ?_ (congrArg (goalO _ _ _ _ _) (emb6 t r j).symm)
  refine (pay1_at _ _ r j).trans ?_
  unfold goalO
  refine Finset.sum_congr rfl fun k _ => ?_
  rw [hN_at, blk4, w_at]
  rfl

/-- The second result at its end. -/
theorem arrZ_eq (c : Dev nD) : (dats m 0 c).arrAt (7 : Fin 8) cfg0.N
    = goalZ (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers (7 : Fin 8) _ cov7 fun t hf y => ?_
  refine (cast_eq _ _).trans ?_
  rw [after_7]
  obtain ⟨r, j, rfl⟩ : ∃ (r : Fin 1024) (j : Fin 128), y = (ix2 r j : S1024x128.Idx) := ⟨_, _, idx2 (n := 1024) (k := 128) y⟩
  refine Eq.trans ?_ (congrArg (goalZ _ _ _ _ _) (emb7 t r j).symm)
  unfold oZ
  refine (pay3_at _ _ r j).trans ?_
  unfold goalZ
  by_cases hj : j.val < 16
  · rw [dif_pos (show ((ix2 (⟨1024 * (t.val / 12) + r.val, _⟩ : Fin 16384) j : S16384x128.Idx) 1).val < 16 from hj)]
    exact Finset.sum_congr rfl fun k _ => by rw [hN_at, blk5, wz_at, dif_pos hj]; rfl
  · rw [dif_neg (show ¬ ((ix2 (⟨1024 * (t.val / 12) + r.val, _⟩ : Fin 16384) j : S16384x128.Idx) 1).val < 16 from hj)]
    exact Finset.sum_eq_zero fun k _ => by rw [hN_at, blk5, wz_at, dif_neg hj]; exact mul_zero _

end Cert.Kernel2Ideal.Prj

end
-- ==== Proof.PrjRef.lean ====
/- The plain projection, read at an index: its two arrays are `goalO` and `goalZ`. -/
module

public import proofs.«01_k».proof.Proof.PrjVal
public import proofs.«01_k».proof.Proof.Gen.Reference2Ideal.Run

@[expose] public section

set_option maxRecDepth 16384

noncomputable section

/-! The plain program's projection, read at an index. -/

namespace Cert.Reference2Ideal.Ref

open Idealize.ShloMosaic Idealize.ShloMosaic.TcCoe Idealize.ShloMosaic.Tactic Cert.Reference2Ideal.Gen
open Cert.Kernel2Ideal.Prj (nn nrow goalO goalZ)

/-- The rows, normalized and modulated, as the plain program computes them. -/
def hid (x : FVec Ideal S4x4096x2048 .f32) (g : FVec Ideal S2048 .f32) (sc sh : FVec Ideal S4x1x2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) sc))) (broadcastInDim S4x4096x2048 ![0, 1, 2] bcast_S4x1x2048_S4x4096x2048_0_1_2 sh)

theorem hid_at (x : FVec Ideal S4x4096x2048 .f32) (g : FVec Ideal S2048 .f32) (sc sh : FVec Ideal S4x1x2048 .f32) (b : Fin 4) (t : Fin 4096) (j : Fin 2048) :
    hid x g sc sh (ix3 b t j) = nrow (fun d => x (ix3 b t d)) (fun d => g (ix1 d)) (fun d => sc (ix3 b 0 d)) (fun d => sh (ix3 b 0 d)) j := by
  pointwise [hid, nrow]

/-- The projection, over all the sequences' rows. -/
def prj (h : FVec Ideal S4x4096x2048 .f32) (w : FVec Ideal S2048x6160 .f32) : FVec Ideal S16384x6160 .f32 :=
  shapeCast S16384x6160 (Host.dotGeneral dot_S4x4096x2048_S2048x6160_S4x4096x6160_2_0_01_1_n_n none h w) shapeCasts_S4x4096x6160_S16384x6160

theorem prj_at (h : FVec Ideal S4x4096x2048 .f32) (w : FVec Ideal S2048x6160 .f32) (R : Fin 16384) (j : Fin 6160) :
    prj h w (ix2 R j) = ∑ k : Fin 2048, (h (ix3 ⟨R.val / 4096, by omega⟩ ⟨R.val % 4096, by omega⟩ k) * w (ix2 k j) : EReal) := by
  pointwise [prj]

theorem prj_eq (x : FVec Ideal S4x4096x2048 .f32) (g : FVec Ideal S2048 .f32) (sc sh : FVec Ideal S4x1x2048 .f32) (w : FVec Ideal S2048x6160 .f32)
    (R : Fin 16384) (j : Fin 6160) : prj (hid x g sc sh) w (ix2 R j) = ∑ k : Fin 2048, (nn x g sc sh R.val k * w (ix2 k j) : EReal) := by
  have hb : R.val / 4096 % 4 = R.val / 4096 := by have := R.isLt; omega
  rw [prj_at]
  refine Finset.sum_congr rfl fun k _ => congrArg (fun z : EReal => z * w (ix2 k j)) ?_
  rw [hid_at]
  unfold nn
  simp only [hb]

theorem outO (x : FVec Ideal S4x4096x2048 .f32) (g : FVec Ideal S2048 .f32) (sc sh : FVec Ideal S4x1x2048 .f32) (w : FVec Ideal S2048x6160 .f32) :
    truncf .bf16 (extractStridedSlice S16384x6144 ![0, 0] (prj (hid x g sc sh) w) slices_S16384x6160_S16384x6144_0_0) bitsLt_bf16_f32 = goalO x g sc sh w := by
  funext i
  have hi : i = ix2 (⟨(i 0).val, (i 0).isLt⟩ : Fin 16384) (⟨(i 1).val, (i 1).isLt⟩ : Fin 6144) := by
    funext a
    fin_cases a <;> rfl
  have i1 : (i 1).val < 6144 := (i 1).isLt
  unfold goalO
  rw [← prj_eq x g sc sh w ⟨(i 0).val, (i 0).isLt⟩ ⟨(i 1).val, by omega⟩]
  conv_lhs => rw [hi]
  generalize prj (hid x g sc sh) w = p
  pointwise

theorem outZ (x : FVec Ideal S4x4096x2048 .f32) (g : FVec Ideal S2048 .f32) (sc sh : FVec Ideal S4x1x2048 .f32) (w : FVec Ideal S2048x6160 .f32) :
    pad S16384x128 ![0, 0] ![0, 112] ![0, 0] (extractStridedSlice S16384x16 ![0, 6144] (prj (hid x g sc sh) w) slices_S16384x6160_S16384x16_0_6144)
      (sitofp .f32 (constantI S_ 32 0#32)) pads_S16384x16_S16384x128_000_01120 h_S_ = goalZ x g sc sh w := by
  funext i
  have hi : i = ix2 (⟨(i 0).val, (i 0).isLt⟩ : Fin 16384) (⟨(i 1).val, (i 1).isLt⟩ : Fin 128) := by
    funext a
    fin_cases a <;> rfl
  have i1 : (i 1).val < 128 := (i 1).isLt
  have e : goalZ x g sc sh w i = if h : (i 1).val < 16 then prj (hid x g sc sh) w (ix2 ⟨(i 0).val, (i 0).isLt⟩ ⟨6144 + (i 1).val, by omega⟩) else (0 : EReal) := by
    unfold goalZ
    by_cases h : (i 1).val < 16
    · rw [dif_pos h, dif_pos h, prj_eq]
    · rw [dif_neg h, dif_neg h]
  rw [e]
  conv_lhs => rw [hi]
  generalize prj (hid x g sc sh) w = p
  pointwise
  all_goals simp [FloatOps.sitofp]

end Cert.Reference2Ideal.Ref
-- ==== Proof.AdaVal.lean ====
/- The adaptive scale and shift of the kernel, over the extended reals, as one formula of the arguments. -/
module

public import proofs.«01_k».proof.Proof.Gen.Kernel3Ideal.Value
public import Idealize.ShloMosaic.Lib.Pipeline.ValueKit
public import Idealize.ShloMosaic.Lib.Pipeline.ValueKit.Point
public import Idealize.ShloMosaic.Lib.Claim
public import Idealize.ShloMosaic.Lib.StableHlo.RunClose
public import Idealize.ShloMosaic.Lib.StableHlo.ReadAt

@[expose] public section

set_option maxRecDepth 16384

noncomputable section

/-! The adaptive scale and shift: the kernel's array after its 12 column blocks, as one formula of the arguments. -/

namespace Cert.Kernel3Ideal.Ada

open Idealize.ShloMosaic Idealize.ShloMosaic.TcCoe Idealize.ShloMosaic.Tactic Cert.Kernel3Ideal.Gen

/-- An entry of the result: the condition's row through `v * logistic v`, times the weight's column, plus the bias; the
    four rows past the batch hold the bias. -/
def goalA (c : FVec Ideal S4x2048 .f32) (w : FVec Ideal S2048x12288 .f32) (b : FVec Ideal S12288 .f32) : FVec Ideal S8x12288 .f32 := fun i =>
  ((if h : (i 0).val < 4 then ∑ k : Fin 2048, (c (ix2 ⟨(i 0).val, h⟩ k) * Ideal.logistic (c (ix2 ⟨(i 0).val, h⟩ k))) * w (ix2 k ⟨(i 1).val, (i 1).isLt⟩) else 0)
    + b (ix1 ⟨(i 1).val, (i 1).isLt⟩) : EReal)

theorem goalA_pos (c : FVec Ideal S4x2048 .f32) (w : FVec Ideal S2048x12288 .f32) (b : FVec Ideal S12288 .f32) (R : Fin 8) (J : Fin 12288) (h : R.val < 4) :
    goalA c w b (ix2 R J) = ((∑ k : Fin 2048, (c (ix2 ⟨R.val, h⟩ k) * Ideal.logistic (c (ix2 ⟨R.val, h⟩ k))) * w (ix2 k J)) + b (ix1 J) : EReal) := by
  unfold goalA
  rw [dif_pos (show (ix2 R J 0).val < 4 from h)]
  rfl

theorem goalA_neg (c : FVec Ideal S4x2048 .f32) (w : FVec Ideal S2048x12288 .f32) (b : FVec Ideal S12288 .f32) (R : Fin 8) (J : Fin 12288) (h : ¬R.val < 4) :
    goalA c w b (ix2 R J) = (0 + b (ix1 J) : EReal) := by
  unfold goalA
  rw [dif_neg (show ¬(ix2 R J 0).val < 4 from h)]
  rfl

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val] := by
  decide +kernel

theorem c_at (c : Dev nD) (r : Fin 8) (d : Fin 2048) :
    V m c main_v0 (ix2 r d) = if h : r.val < 4 then m ((c : Thread nD τ).loc main_arg0) (ix2 ⟨r.val, h⟩ d) else (0 : EReal) := by
  simp only [V, hostOps0, hostOps0_1, hostOps0_2, List.flatten_cons, List.flatten_nil, List.append_nil, List.cons_append, List.nil_append]
  after_reads_at
  all_goals simp [FloatOps.sitofp]

theorem b_at (c : Dev nD) (d : Fin 12288) : V m c main_v1 (ix2 0 d) = m ((c : Thread nD τ).loc main_arg2) (ix1 d) := by
  simp only [V, hostOps0, hostOps0_1, hostOps0_2, List.flatten_cons, List.flatten_nil, List.append_nil, List.cons_append, List.nil_append]
  after_results_simp
  pointwise

theorem w_at (c : Dev nD) (r : Fin 2048) (d : Fin 12288) : V m c main_arg1 (ix2 r d) = m ((c : Thread nD τ).loc main_arg1) (ix2 r d) := by
  rw [V_main_arg1]

theorem blk0 (c : Dev nD) (t : Fin cfg0.N) (r : Fin 8) (d : Fin 2048) : iblk m c 0 t (ix2 r d) = V m c main_v0 (ix2 r d) := by
  blk_ext [iblk, idx t]

theorem blk1 (c : Dev nD) (t : Fin cfg0.N) (r : Fin 2048) (d : Fin 1024) :
    iblk m c 1 t (ix2 r d) = V m c main_arg1 (ix2 r ⟨1024 * t.val + d.val, by have : t.val < 12 := t.isLt; omega⟩) := by
  blk_ext [iblk, idx t]

theorem blk2 (c : Dev nD) (t : Fin cfg0.N) (d : Fin 1024) :
    iblk m c 2 t (ix2 0 d) = V m c main_v1 (ix2 0 ⟨1024 * t.val + d.val, by have : t.val < 12 := t.isLt; omega⟩) := by
  blk_ext [iblk, idx t]

theorem pay_at (x : FVec Ideal S8x2048 .f32) (w : FVec Ideal S2048x1024 .f32) (b : FVec Ideal S1x1024 .f32) (r : Fin 8) (j : Fin 1024) :
    k0_pay1 x w b (ix2 r j) = ((∑ k : Fin 2048, (x (ix2 r k) * Ideal.logistic (x (ix2 r k))) * w (ix2 k j)) + b (ix2 0 j) : EReal) := by
  pointwise [k0_pay1]

theorem point_at (c : Dev nD) (t : Fin cfg0.N) (r : Fin 8) (j : Fin 1024) (R : Fin 8) (J : Fin 12288) (hR : R.val = r.val) (hJ : J.val = 1024 * t.val + j.val) :
    k0_pay1 (iblk m c 0 t) (iblk m c 1 t) (iblk m c 2 t) (ix2 r j)
      = goalA (m ((c : Thread nD τ).loc main_arg0)) (m ((c : Thread nD τ).loc main_arg1)) (m ((c : Thread nD τ).loc main_arg2)) (ix2 R J) := by
  obtain rfl : R = r := Fin.ext hR
  have eJ : (⟨1024 * t.val + j.val, by have : t.val < 12 := t.isLt; omega⟩ : Fin 12288) = J := Fin.ext hJ.symm
  have e0 : ∀ k, iblk m c 0 t (ix2 R k) = if h : R.val < 4 then m ((c : Thread nD τ).loc main_arg0) (ix2 ⟨R.val, h⟩ k) else (0 : EReal) :=
    fun k => (blk0 m c t R k).trans (c_at m c R k)
  have e1 : ∀ k, iblk m c 1 t (ix2 k j) = m ((c : Thread nD τ).loc main_arg1) (ix2 k J) :=
    fun k => (blk1 m c t k j).trans ((w_at m c k _).trans (by rw [eJ]))
  have e2 : iblk m c 2 t (ix2 0 j) = m ((c : Thread nD τ).loc main_arg2) (ix1 J) := (blk2 m c t j).trans ((b_at m c _).trans (by rw [eJ]))
  refine (pay_at _ _ _ R j).trans ?_
  by_cases h : R.val < 4
  · refine Eq.trans ?_ (goalA_pos _ _ _ R J h).symm
    refine congr (congrArg (fun p q : EReal => p + q) (Finset.sum_congr rfl fun k _ => ?_)) e2
    exact congr (congrArg (fun p q : EReal => (p * Ideal.logistic p) * q) ((e0 k).trans (dif_pos h))) (e1 k)
  · refine Eq.trans ?_ (goalA_neg _ _ _ R J h).symm
    refine congr (congrArg (fun p q : EReal => p + q) (Finset.sum_eq_zero fun k _ => ?_)) e2
    refine (congr (congrArg (fun p q : EReal => (p * Ideal.logistic p) * q) ((e0 k).trans (dif_neg h))) (e1 k)).trans ?_
    simp only [zero_mul]

theorem final_o (c : Dev nD) : (dats m 0 c).arrAt 3 cfg0.N
    = goalA (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  have y0 : (y 0).val < 8 := (y 0).isLt
  have y1 : (y 1).val < 1024 := (y 1).isLt
  have ht : t.val < 12 := t.isLt
  have hy : y = ix2 (⟨(y 0).val, y0⟩ : Fin 8) (⟨(y 1).val, y1⟩ : Fin 1024) := by
    funext a
    fin_cases a <;> rfl
  have he : (((View.whole main_v2).slice (win0_3.rect t)).emb y) = ix2 (⟨(y 0).val, y0⟩ : Fin 8) (⟨1024 * t.val + (y 1).val, by omega⟩ : Fin 12288) := by
    blk_ext [idx t]
  refine (congrArg (k0_pay1 (iblk m c 0 t) (iblk m c 1 t) (iblk m c 2 t)) hy).trans ?_
  exact (point_at m c t _ _ _ _ rfl rfl).trans (congrArg (goalA _ _ _) he.symm)

end Cert.Kernel3Ideal.Ada
-- ==== Proof.AdaRef.lean ====
/- The plain adaptive scale and shift, read at an index. -/
module

public import proofs.«01_k».proof.Proof.AdaVal
public import proofs.«01_k».proof.Proof.Gen.Reference3Ideal.Run

@[expose] public section

set_option maxRecDepth 16384

noncomputable section

/-! The plain program's adaptive scale and shift, read at an index. -/

namespace Cert.Reference3Ideal.Ref

open Idealize.ShloMosaic Idealize.ShloMosaic.TcCoe Idealize.ShloMosaic.Tactic Cert.Reference3Ideal.Gen
open Cert.Kernel3Ideal.Ada (goalA)

theorem out (c : FVec Ideal S4x2048 .f32) (w : FVec Ideal S2048x12288 .f32) (b : FVec Ideal S12288 .f32) :
    addf (pad S8x12288 ![0, 0] ![4, 0] ![0, 0] (Host.dotGeneral dot_S4x2048_S2048x12288_S4x12288_1_0_0_1_n_n none (mulf c (Host.divf (broadcastInDim S4x2048 ![] bcast_S_S4x2048 (constant S_ .f32 0x3F800000#32)) (addf (broadcastInDim S4x2048 ![] bcast_S_S4x2048 (constant S_ .f32 0x3F800000#32)) (Host.exp (Host.negf c))))) w) (sitofp .f32 (constantI S_ 32 0#32)) pads_S4x12288_S8x12288_040_000 h_S_) (broadcastInDim S8x12288 ![0, 1] bcast_S1x12288_S8x12288_0_1 (broadcastInDim S1x12288 ![1] bcast_S12288_S1x12288_1 b))
      = goalA c w b := by
  funext i
  have hi : i = ix2 (⟨(i 0).val, (i 0).isLt⟩ : Fin 8) (⟨(i 1).val, (i 1).isLt⟩ : Fin 12288) := by
    funext a
    fin_cases a <;> rfl
  unfold goalA
  conv_lhs => rw [hi]
  pointwise
  all_goals simp [FloatOps.sitofp, Ideal.logistic]

end Cert.Reference3Ideal.Ref
-- ==== Proof.GlaSpec.lean ====
module

public import proofs.«01_k».proof.Proof.Gen.Kernel4Ideal.Value
public import Idealize.ShloMosaic.Lib.Pointwise
public import Idealize.ShloMosaic.Lib.WordCmp

@[expose] public section

set_option maxRecDepth 16384

noncomputable section

/-! The layer's recurrence over the extended reals, as numbers of the arguments' entries. -/

namespace Cert.Kernel4Ideal.Gla

open Idealize.ShloMosaic Idealize.ShloMosaic.TcCoe Cert.Kernel4Ideal.Gen

/-- The log decay of a gate's input. -/
def gate (x : EReal) : EReal :=
  (min x 0 - Ideal.log1p (Ideal.exp (0 - (FloatOps.absf (F := Ideal) (φ := .f32) x : EReal)))) * Ideal.ofBits .f32 0x3D800000#32

/-- A recurrence with one decay and one addend per step. -/
def rec (T W : ℕ → EReal) (s0 : EReal) : ℕ → EReal
  | 0 => s0
  | n + 1 => rec T W s0 n * Ideal.exp (T n) + W n

/-- One output from its query's products, their row, its weight and its gate. -/
def fin (o : EReal) (row : Fin 256 → EReal) (g r : EReal) : EReal :=
  o * Ideal.rsqrt (Ideal.div (∑ e : Fin 256, row e * row e) (Ideal.ofBits .f32 0x43800000#32) + Ideal.ofBits .f32 0x358637BD#32) * g * (r * Ideal.logistic r)

/-- A query's products with the state, scaled. -/
def qs (q : Fin 128 → EReal) (s : Fin 256 → Fin 128 → EReal) (e : Fin 256) : EReal :=
  (∑ d : Fin 128, q d * s e d) * Ideal.ofBits .f32 0x3DB504F3#32

section Model

variable (A : ℕ → ℕ → ℕ → EReal) (W : ℕ → ℕ → EReal) (B G : ℕ → EReal) (b : ℕ)

/-- The gate's input at time `t` and gate column `j`. -/
def zin (t j : ℕ) : EReal := ∑ k : Fin 16, A b t (6144 + k.val) * W k.val j + B j

/-- The log decay at gate column `j` and time `t`. -/
def la (j t : ℕ) : EReal := gate (zin A W B b t j)

/-- The running log decay within chunk `n`. -/
def csum (a : ℕ → EReal) (n s : ℕ) : EReal := ∑ j ∈ Finset.range (s + 1), a (64 * n + j)

/-- The key at position `s` of chunk `n`, decayed to the chunk's end. -/
def kd (j n s : ℕ) : EReal :=
  A b (64 * n + s) (3584 + j) * Ideal.exp (csum (la A W B b j) n 63 - csum (la A W B b j) n s)

/-- Chunk `n`'s addend to the state. -/
def wn (i j n : ℕ) : EReal := ∑ s : Fin 64, A b (64 * n + s.val) (4096 + i) * kd A W B b j n s.val

/-- The state before chunk `n`. -/
def sg (i j n : ℕ) : EReal := rec (fun n => csum (la A W B b j) n 63) (wn A W B b i j) 0 n

/-- The output of head `h` at position `s` of chunk `n`. -/
def outv (h n s : ℕ) (e : Fin 256) : EReal :=
  fin (qs (fun d => A b (64 * n + s) (3072 + (128 * h + d.val))) (fun e d => sg A W B b (256 * h + e.val) (128 * h + d.val) (n + 1)) e)
    (qs (fun d => A b (64 * n + s) (3072 + (128 * h + d.val))) (fun e d => sg A W B b (256 * h + e.val) (128 * h + d.val) (n + 1)))
    (G e.val) (A b (64 * n + s) (5120 + (256 * h + e.val)))

end Model

/-- An array's entry at natural positions, zero outside. -/
def at3 (x : FVec Ideal S4x4096x6160 .f32) (b t j : ℕ) : EReal :=
  if h : (b < 4 ∧ t < 4096) ∧ j < 6160 then x (ix3 ⟨b, h.1.1⟩ ⟨t, h.1.2⟩ ⟨j, h.2⟩) else 0

/-- `at3` of a matrix. -/
def at2 (x : FVec Ideal S16x512 .f32) (k j : ℕ) : EReal := if h : k < 16 ∧ j < 512 then x (ix2 ⟨k, h.1⟩ ⟨j, h.2⟩) else 0

/-- `at3` of the bias. -/
def at1 (x : FVec Ideal S512 .f32) (j : ℕ) : EReal := if h : j < 512 then x (ix1 ⟨j, h⟩) else 0

/-- `at3` of the norm's weight. -/
def at0 (x : FVec Ideal S256 .f32) (j : ℕ) : EReal := if h : j < 256 then x (ix1 ⟨j, h⟩) else 0

/-- The layer's result. -/
def goal (x : FVec Ideal S4x4096x6160 .f32) (w : FVec Ideal S16x512 .f32) (b : FVec Ideal S512 .f32) (g : FVec Ideal S256 .f32) :
    FVec Ideal S16384x1024 .bf16 := fun i =>
  outv (at3 x) (at2 w) (at1 b) (at0 g) ((i 0).val / 4096) ((i 1).val / 256) ((i 0).val % 4096 / 64) ((i 0).val % 64)
    ⟨(i 1).val % 256, Nat.mod_lt _ (by decide)⟩

theorem rec_shift (T W T' W' : ℕ → EReal) (z : EReal) (m n : ℕ) (hT : ∀ c, c < n → T' c = T (m + c)) (hW : ∀ c, c < n → W' c = W (m + c)) :
    rec T' W' (rec T W z m) n = rec T W z (m + n) := by
  induction n with
  | zero => rfl
  | succ n ih =>
    rw [rec, ih (fun c h => hT c (by omega)) (fun c h => hW c (by omega)), hT n (by omega), hW n (by omega)]
    rfl

theorem exp_real (r : ℝ) (h : 0 ≤ r) : ∃ y : ℝ, 0 ≤ y ∧ Ideal.log1p (Ideal.exp (0 - (r : EReal))) = (y : EReal) := by
  have e : (0 : EReal) - (r : EReal) = ((0 - r : ℝ) : EReal) := by rw [EReal.coe_sub, EReal.coe_zero]
  have e1 : (1 : EReal) + ((Real.exp (0 - r) : ℝ) : EReal) = ((1 + Real.exp (0 - r) : ℝ) : EReal) := by rw [EReal.coe_add, EReal.coe_one]
  have hp := Real.exp_pos (0 - r)
  refine ⟨Real.log (1 + Real.exp (0 - r)), Real.log_nonneg (by linarith), ?_⟩
  rw [e, Ideal.exp_coe, Ideal.log1p]
  first
    | (rw [e1, Ideal.log_coe, if_neg (by linarith)])
    | (rw [add_comm, e1, Ideal.log_coe, if_neg (by linarith)])

theorem c16 : Ideal.ofBits .f32 0x3D800000#32 = ((1 / 16 : ℝ) : EReal) := by
  simp only [Ideal.ofBits, Ideal.ieee]
  simp
  rw [← EReal.coe_mul]
  norm_num

theorem softplus_real (x : EReal) : ∃ y : ℝ, 0 ≤ y ∧ Ideal.log1p (Ideal.exp (0 - (FloatOps.absf (F := Ideal) (φ := .f32) x : EReal))) = (y : EReal) := by
  rw [Ideal.absf_def]
  have top : ∃ y : ℝ, 0 ≤ y ∧ Ideal.log1p (Ideal.exp (0 - (⊤ : EReal))) = (y : EReal) := by
    refine ⟨0, le_refl _, ?_⟩
    rw [zero_sub, EReal.neg_top, Ideal.exp_bot, Ideal.log1p, add_zero, ← EReal.coe_one, Ideal.log_coe, if_neg (by norm_num), Real.log_one]
  induction x with
  | bot => rw [show max (⊥ : EReal) (-⊥) = ⊤ from by simp]; exact top
  | top => rw [show max (⊤ : EReal) (-⊤) = ⊤ from by simp]; exact top
  | coe r =>
    rw [show max (r : EReal) (-(r : EReal)) = ((max r (-r) : ℝ) : EReal) from by rw [← EReal.coe_neg]; exact (EReal.coe_strictMono.monotone.map_max).symm]
    exact exp_real _ (by rw [le_max_iff]; rcases le_total 0 r with h | h; exacts [Or.inl h, Or.inr (by linarith)])

end Cert.Kernel4Ideal.Gla

end
-- ==== Proof.GlaRun.lean ====
module

public import proofs.«01_k».proof.Proof.Gen.Kernel4Ideal.Value
public import Idealize.ShloMosaic.Lib.Pipeline.ReadBack
public import Idealize.ShloMosaic.Lib.VecWindow

@[expose] public section

set_option maxRecDepth 16384

noncomputable section

/-! One grid point of the recurrence as functions of its input blocks: the kernel's text for one chunk, with the
    chunk `c` as a number. -/

namespace Cert.Kernel4Ideal.Gla

open Idealize.ShloMosaic Idealize.ShloMosaic.TcCoe Cert.Kernel4Ideal Cert.Kernel4Ideal.Gen

variable {F : FTy → Type} [FloatOps F]

theorem inbK (c : ℕ) : ∀ a : Fin 2, (![64 * (c % 8), 0] : Fin 2 → ℕ) a + S64x128.size a ≤ S512x128.size a := by
  intro a; fin_cases a <;> simp <;> omega
theorem inbV (c : ℕ) : ∀ a : Fin 2, (![64 * (c % 8), 0] : Fin 2 → ℕ) a + S64x256.size a ≤ S512x256.size a := by
  intro a; fin_cases a <;> simp <;> omega
theorem slK (c : ℕ) : S512x128.Slices ![64 * (c % 8), 0] S64x128 :=
  ⟨rfl, by intro a; fin_cases a <;> simp <;> omega⟩

/-- The running log decays within chunk `c`. -/
def cum (p : FVec F S512x128 .f32) (c : ℕ) : FVec F S64x128 .f32 :=
  matmul dot_S64x64_S64x128_S64x128_1_0_0_1_n_n (some .fp32) (k0_pay4 (F := F)) (extractStridedSlice S64x128 ![64 * (c % 8), 0] p (slK c))
    (constant S64x128 .f32 0x00000000#32)

/-- Chunk `c`'s log decay. -/
def tot (p : FVec F S512x128 .f32) (c : ℕ) : FVec F S1x128 .f32 := extractStridedSlice S1x128 ![63, 0] (cum p c) slices_S64x128_o63_0_S1x128

/-- Chunk `c`'s keys, each decayed to the chunk's end. -/
def kdec (p : FVec F S512x128 .f32) (x1 : Vec F S512x128 .bf16) (c : ℕ) : FVec F S64x128 .bf16 :=
  truncf .bf16 (mulf (extf .f32 (shapeCast S64x128 (View.ld x1 (Rect.unit ![64 * (c % 8), 0] S64x128.size (inbK c))) shapeCasts_S64x128_S64x128) bitsLt_bf16_f32)
    (exp (subf (broadcastTo S64x128 (tot p c) broadcasts_S1x128_S64x128) (cum p c)))) bitsLt_bf16_f32

/-- The state past chunk `c`. -/
def step (p : FVec F S512x128 .f32) (x1 : Vec F S512x128 .bf16) (x2 : Vec F S512x256 .bf16) (c : ℕ) (s : FVec F S256x128 .f32) : FVec F S256x128 .f32 :=
  addf (mulf s (broadcastTo S256x128 (exp (tot p c)) broadcasts_S1x128_S256x128))
    (matmul dot_S64x256_S64x128_S256x128_0_0_1_1_n_n none
      (shapeCast S64x256 (View.ld x2 (Rect.unit ![64 * (c % 8), 0] S64x256.size (inbV c))) shapeCasts_S64x256_S64x256) (kdec p x1 c)
      (constant S256x128 .f32 0x00000000#32))

/-- The state before chunk `n`, as it lies in the scratch. -/
def st (p : FVec F S512x128 .f32) (x1 : Vec F S512x128 .bf16) (x2 : Vec F S512x256 .bf16) (s0 : FVec F S256x128 .f32) : ℕ → FVec F S256x128 .f32
  | 0 => s0
  | n + 1 => shapeCast S256x128 (step p x1 x2 n (st p x1 x2 s0 n)) shapeCasts_S256x128_S256x128

/-- Chunk `c`'s queries. -/
def qry (x0 : Vec F S512x128 .bf16) (c : ℕ) : FVec F S64x128 .bf16 :=
  shapeCast S64x128 (View.ld x0 (Rect.unit ![64 * (c % 8), 0] S64x128.size (inbK c))) shapeCasts_S64x128_S64x128

/-- Chunk `c`'s queries against the state past it. -/
def seen (p : FVec F S512x128 .f32) (x0 x1 : Vec F S512x128 .bf16) (x2 : Vec F S512x256 .bf16) (s0 : FVec F S256x128 .f32) (c : ℕ) : FVec F S64x256 .f32 :=
  matmul dot_S64x128_S256x128_S64x256_1_1_0_0_n_n none (qry x0 c)
    (truncf .bf16 (step p x1 x2 c (st p x1 x2 s0 c)) bitsLt_bf16_f32) (constant S64x256 .f32 0x00000000#32)

/-- What a point stores of its outputs. -/
def outB (x0 x1 : Vec F S512x128 .bf16) (x2 x3 : Vec F S512x256 .bf16) (x4 : Vec F S512x128 .f32) (x5 : Vec F S128x128 .f32)
    (x6 : Vec F S1x128 .f32) (x7 : Vec F S1x256 .f32) (s0 : FVec F S256x128 .f32) : FVec F S512x256 .bf16 :=
  k0_pay1 (seen (k0_pay3 x4 x5 x6) x0 x1 x2 s0 0) (seen (k0_pay3 x4 x5 x6) x0 x1 x2 s0 1) (seen (k0_pay3 x4 x5 x6) x0 x1 x2 s0 2)
    (seen (k0_pay3 x4 x5 x6) x0 x1 x2 s0 3) (seen (k0_pay3 x4 x5 x6) x0 x1 x2 s0 4) (seen (k0_pay3 x4 x5 x6) x0 x1 x2 s0 5)
    (seen (k0_pay3 x4 x5 x6) x0 x1 x2 s0 6) (step (k0_pay3 x4 x5 x6) x1 x2 7 (st (k0_pay3 x4 x5 x6) x1 x2 s0 7)) (qry x0 7) x7 x3

/-- The state a point leaves. -/
def stB (x1 : Vec F S512x128 .bf16) (x2 : Vec F S512x256 .bf16) (x4 : Vec F S512x128 .f32) (x5 : Vec F S128x128 .f32)
    (x6 : Vec F S1x128 .f32) (s0 : FVec F S256x128 .f32) : FVec F S256x128 .f32 :=
  st (k0_pay3 x4 x5 x6) x1 x2 s0 8
variable (c : Dev nD) (i : grid0.Coords) (arg3 : Memref sig .tc .vmem S512x128 .bf16) (harg3 : arg3.IsWhole)
  (arg4 : Memref sig .tc .vmem S512x128 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x128 .f32) (harg7 : arg7.IsWhole)
  (arg8 : Memref sig .tc .vmem S128x128 .f32) (harg8 : arg8.IsWhole) (arg9 : Memref sig .tc .vmem S1x128 .f32) (harg9 : arg9.IsWhole)
  (arg10 : Memref sig .tc .vmem S1x256 .f32) (harg10 : arg10.IsWhole) (arg11 : Memref sig .tc .vmem S512x256 .bf16) (harg11 : arg11.IsWhole)
  (arg12 : Memref sig .tc .vmem S256x128 .f32) (harg12 : arg12.IsWhole)
  (x0 x1 : Vec F S512x128 .bf16) (x2 x3 : Vec F S512x256 .bf16) (x4 : Vec F S512x128 .f32) (x5 : Vec F S128x128 .f32)
  (x6 : Vec F S1x128 .f32) (x7 : Vec F S1x256 .f32) (xs0 : Vec F S256x128 .f32)

set_option maxHeartbeats 4000000 in
theorem outB_eq (hc0 : ¬cond0_0 i) : out0_B_8 c i arg3 harg3 arg4 harg4 arg5 harg5 arg6 harg6 arg7 harg7 arg8 harg8 arg9 harg9 arg10 harg10 arg11 harg11 arg12 harg12 hc0 x0 x1 x2 x3 x4 x5 x6 x7 xs0 = outB x0 x1 x2 x3 x4 x5 x6 x7 xs0 := by
  unfold out0_B_8 kernelRun0_B
  dsimp only
  simp (disch := decide) only [kernelRun0_B.sl.HS0_1, kernelRun0_B.sl.HS0_2, kernelRun0_B.sl.HS0_3, kernelRun0_B.sl.HS0_4, kernelRun0_B.sl.HS0_5, kernelRun0_B.sl.HS0_6, kernelRun0_B.sl.HS0_7, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v119, kernelRun0_B.sl.v145, kernelRun0_B.sl.v171, kernelRun0_B.sl.v197, kernelRun0_B.sl.v2, kernelRun0_B.sl.v223, kernelRun0_B.sl.v67, kernelRun0_B.sl.v93, ↓View.readCov_skip, ↓View.readCov_cons_toLoadRect, ↓View.readCov_fill, View.readAt_eq_ld, View.ld_unit_lit, Memref.IsWhole.read_unread]
  refine (View.read_writes_full _ _ _ _ _).trans ?_
  rfl

set_option maxHeartbeats 4000000 in
theorem soutB_eq (hc0 : ¬cond0_0 i) : sout0_B_0 c i arg3 harg3 arg4 harg4 arg5 harg5 arg6 harg6 arg7 harg7 arg8 harg8 arg9 harg9 arg10 harg10 arg11 harg11 arg12 harg12 hc0 x0 x1 x2 x3 x4 x5 x6 x7 xs0 = stB x1 x2 x4 x5 x6 xs0 := by
  unfold sout0_B_0 kernelRun0_B
  dsimp only
  simp (disch := decide) only [kernelRun0_B.sl.HS0_1, kernelRun0_B.sl.HS0_2, kernelRun0_B.sl.HS0_3, kernelRun0_B.sl.HS0_4, kernelRun0_B.sl.HS0_5, kernelRun0_B.sl.HS0_6, kernelRun0_B.sl.HS0_7, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v119, kernelRun0_B.sl.v145, kernelRun0_B.sl.v171, kernelRun0_B.sl.v197, kernelRun0_B.sl.v2, kernelRun0_B.sl.v223, kernelRun0_B.sl.v67, kernelRun0_B.sl.v93, ↓View.readCov_skip, ↓View.readCov_cons_toLoadRect, ↓View.readCov_fill, View.readAt_eq_ld, View.ld_unit_lit, Memref.IsWhole.read_unread]
  refine (View.read_writes_full _ _ _ _ _).trans ?_
  rfl

set_option maxHeartbeats 4000000 in
theorem outA_eq (hc0 : cond0_0 i) : out0_A_8 c i arg3 harg3 arg4 harg4 arg5 harg5 arg6 harg6 arg7 harg7 arg8 harg8 arg9 harg9 arg10 harg10 arg11 harg11 arg12 harg12 hc0 x0 x1 x2 x3 x4 x5 x6 x7 = outB x0 x1 x2 x3 x4 x5 x6 x7 (k0_pay2 (F := F)) := by
  unfold out0_A_8 kernelRun0_A
  dsimp only
  simp (disch := decide) only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v119, kernelRun0_A.sl.v145, kernelRun0_A.sl.v171, kernelRun0_A.sl.v197, kernelRun0_A.sl.v2, kernelRun0_A.sl.v223, kernelRun0_A.sl.v41, kernelRun0_A.sl.v67, kernelRun0_A.sl.v93, ↓View.readCov_skip, ↓View.readCov_cons_toLoadRect, ↓View.readCov_fill, View.readAt_eq_ld, View.ld_unit_lit, Memref.IsWhole.read_unread]
  refine (View.read_writes_full _ _ _ _ _).trans ?_
  rfl

set_option maxHeartbeats 4000000 in
theorem soutA_eq (hc0 : cond0_0 i) : sout0_A_0 c i arg3 harg3 arg4 harg4 arg5 harg5 arg6 harg6 arg7 harg7 arg8 harg8 arg9 harg9 arg10 harg10 arg11 harg11 arg12 harg12 hc0 x0 x1 x2 x3 x4 x5 x6 x7 = stB x1 x2 x4 x5 x6 (k0_pay2 (F := F)) := by
  unfold sout0_A_0 kernelRun0_A
  dsimp only
  simp (disch := decide) only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v119, kernelRun0_A.sl.v145, kernelRun0_A.sl.v171, kernelRun0_A.sl.v197, kernelRun0_A.sl.v2, kernelRun0_A.sl.v223, kernelRun0_A.sl.v41, kernelRun0_A.sl.v67, kernelRun0_A.sl.v93, ↓View.readCov_skip, ↓View.readCov_cons_toLoadRect, ↓View.readCov_fill, View.readAt_eq_ld, View.ld_unit_lit, Memref.IsWhole.read_unread]
  refine (View.read_writes_full _ _ _ _ _).trans ?_
  rfl

end Cert.Kernel4Ideal.Gla

end
-- ==== Proof.GlaPw.lean ====
module

public import proofs.«01_k».proof.Proof.GlaSpec
public import proofs.«01_k».proof.Proof.GlaRun

@[expose] public section

set_option maxRecDepth 16384

noncomputable section

/-! The operations of one grid point of the recurrence, read at an index over the extended reals. -/

namespace Cert.Kernel4Ideal.Gla

open Idealize.ShloMosaic Idealize.ShloMosaic.TcCoe Cert.Kernel4Ideal Cert.Kernel4Ideal.Gen

theorem pay3_at (z : Vec Ideal S512x128 .f32) (w : Vec Ideal S128x128 .f32) (b : Vec Ideal S1x128 .f32) (r : Fin 512) (d : Fin 128) :
    k0_pay3 (F := Ideal) z w b (ix2 r d) = gate (∑ k : Fin 128, (z (ix2 r k) * w (ix2 k d) : EReal) + b (ix2 0 d)) := by
  pointwise [k0_pay3, gate]

theorem mask_word (r x : Fin 64) : BitVec.setWidth 32 (IntOp.cmpi .sge (BitVec.ofNat 32 r.val) (BitVec.ofNat 32 x.val)) = if x.val ≤ r.val then 1#32 else 0#32 := by
  rw [WordCmp.cmpi_sge_ofNat (by omega) (by omega)]
  by_cases h : x.val ≤ r.val <;> simp [h]

theorem pay4_at (r x : Fin 64) : k0_pay4 (F := Ideal) (ix2 r x) = if x.val ≤ r.val then (1 : EReal) else 0 := by
  pointwise [k0_pay4]
  show (FloatOps.sitofp (F := Ideal) FTy.f32 (BitVec.setWidth 32 (IntOp.cmpi .sge (BitVec.ofNat 32 r.val) (BitVec.ofNat 32 x.val))) : EReal) = _
  rw [mask_word]
  split_ifs <;> simp [FloatOps.sitofp]

theorem cum_at (p : FVec Ideal S512x128 .f32) (c : ℕ) (r : Fin 64) (d : Fin 128) :
    cum (F := Ideal) p c (ix2 r d) = ∑ x : Fin 64, (k0_pay4 (F := Ideal) (ix2 r x) * p (ix2 ⟨64 * (c % 8) + x.val, by omega⟩ d) : EReal) := by
  pointwise [cum]

theorem tot_at (p : FVec Ideal S512x128 .f32) (c : ℕ) (d : Fin 128) :
    tot (F := Ideal) p c (ix2 0 d) = cum p c (ix2 63 d) := by
  pointwise [tot]

theorem kdec_at (p : FVec Ideal S512x128 .f32) (x1 : Vec Ideal S512x128 .bf16) (c : ℕ) (s : Fin 64) (d : Fin 128) :
    kdec (F := Ideal) p x1 c (ix2 s d) = (x1 (ix2 ⟨64 * (c % 8) + s.val, by omega⟩ d)
      * Ideal.exp (cum p c (ix2 63 d) - cum p c (ix2 s d)) : EReal) := by
  rw [← tot_at]
  pointwise [kdec]

theorem step_at (p : FVec Ideal S512x128 .f32) (x1 : Vec Ideal S512x128 .bf16) (x2 : Vec Ideal S512x256 .bf16) (c : ℕ) (s : FVec Ideal S256x128 .f32)
    (e : Fin 256) (d : Fin 128) :
    step (F := Ideal) p x1 x2 c s (ix2 e d) = (s (ix2 e d) * Ideal.exp (tot p c (ix2 0 d))
      + ∑ t : Fin 64, x2 (ix2 ⟨64 * (c % 8) + t.val, by omega⟩ e) * kdec p x1 c (ix2 t d) : EReal) := by
  pointwise [step]

theorem cast_at (v : FVec Ideal S256x128 .f32) (e : Fin 256) (d : Fin 128) :
    shapeCast S256x128 v shapeCasts_S256x128_S256x128 (ix2 e d) = v (ix2 e d) := by
  pointwise

theorem seen_at (p : FVec Ideal S512x128 .f32) (x0 x1 : Vec Ideal S512x128 .bf16) (x2 : Vec Ideal S512x256 .bf16) (s0 : FVec Ideal S256x128 .f32) (c : ℕ)
    (r : Fin 64) (e : Fin 256) :
    seen (F := Ideal) p x0 x1 x2 s0 c (ix2 r e) = (∑ d : Fin 128, x0 (ix2 ⟨64 * (c % 8) + r.val, by omega⟩ d) * st p x1 x2 s0 (c + 1) (ix2 e d) : EReal) := by
  have h : ∀ d : Fin 128, st p x1 x2 s0 (c + 1) (ix2 e d) = step p x1 x2 c (st p x1 x2 s0 c) (ix2 e d) := fun d => cast_at _ e d
  simp only [h]
  pointwise [seen, qry]

theorem pay1_at (o : ℕ → FVec Ideal S64x256 .f32) (s : FVec Ideal S256x128 .f32) (q : FVec Ideal S64x128 .bf16) (g : Vec Ideal S1x256 .f32)
    (x3 : Vec Ideal S512x256 .bf16) (ho : o 7 = matmul dot_S64x128_S256x128_S64x256_1_1_0_0_n_n none q (truncf .bf16 s bitsLt_bf16_f32) (constant S64x256 .f32 0x00000000#32))
    (r : Fin 512) (e : Fin 256) :
    k0_pay1 (F := Ideal) (o 0) (o 1) (o 2) (o 3) (o 4) (o 5) (o 6) s q g x3 (ix2 r e)
      = fin (o (r.val / 64) (ix2 ⟨r.val % 64, by omega⟩ e) * Ideal.ofBits .f32 0x3DB504F3#32)
          (fun e => o (r.val / 64) (ix2 ⟨r.val % 64, by omega⟩ e) * Ideal.ofBits .f32 0x3DB504F3#32) (g (ix2 0 e)) (x3 (ix2 r e)) := by
  have h7 : ∀ (r : Fin 64) (e : Fin 256), o 7 (ix2 r e) = (∑ d : Fin 128, q (ix2 r d) * s (ix2 e d) : EReal) := by
    intro r e
    rw [ho]
    pointwise
  have key : ∀ (c v : ℕ) (hv : v < 64), r.val / 64 = c → r.val % 64 = v → ∀ e : Fin 256, o (r.val / 64) (ix2 ⟨r.val % 64, by omega⟩ e) = o c (ix2 ⟨v, hv⟩ e) := by
    intro c v hv h h' e
    subst h h'
    rfl
  have hr := r.isLt
  pointwise [k0_pay1, fin]
  by_cases h0' : r.val < 64
  · simp only [h0', ↓reduceDIte, key 0 (r.val) (by omega) (by omega) (by omega)]
  by_cases h1' : r.val - 64 < 64
  · simp only [h0', h1', ↓reduceDIte, key 1 (r.val - 64) (by omega) (by omega) (by omega)]
  by_cases h2' : r.val - 64 - 64 < 64
  · simp only [h0', h1', h2', ↓reduceDIte, key 2 (r.val - 64 - 64) (by omega) (by omega) (by omega)]
  by_cases h3' : r.val - 64 - 64 - 64 < 64
  · simp only [h0', h1', h2', h3', ↓reduceDIte, key 3 (r.val - 64 - 64 - 64) (by omega) (by omega) (by omega)]
  by_cases h4' : r.val - 64 - 64 - 64 - 64 < 64
  · simp only [h0', h1', h2', h3', h4', ↓reduceDIte, key 4 (r.val - 64 - 64 - 64 - 64) (by omega) (by omega) (by omega)]
  by_cases h5' : r.val - 64 - 64 - 64 - 64 - 64 < 64
  · simp only [h0', h1', h2', h3', h4', h5', ↓reduceDIte, key 5 (r.val - 64 - 64 - 64 - 64 - 64) (by omega) (by omega) (by omega)]
  by_cases h6' : r.val - 64 - 64 - 64 - 64 - 64 - 64 < 64
  · simp only [h0', h1', h2', h3', h4', h5', h6', ↓reduceDIte, key 6 (r.val - 64 - 64 - 64 - 64 - 64 - 64) (by omega) (by omega) (by omega)]
  simp only [h0', h1', h2', h3', h4', h5', h6', ↓reduceDIte, key 7 (r.val - 64 - 64 - 64 - 64 - 64 - 64 - 64) (by omega) (by omega) (by omega), h7]

end Cert.Kernel4Ideal.Gla

end
-- ==== Proof.GlaMid.lean ====
module

public import proofs.«01_k».proof.Proof.GlaPw

@[expose] public section

set_option maxRecDepth 16384

noncomputable section

/-! One grid point against the layer's recurrence: from the state before its first chunk to its outputs and the state it leaves. -/

namespace Cert.Kernel4Ideal.Gla

open Idealize.ShloMosaic Idealize.ShloMosaic.TcCoe Cert.Kernel4Ideal Cert.Kernel4Ideal.Gen

/-- Row block `l` of head `h` of batch `b`, as entries of the arguments. -/
structure Blks (A : ℕ → ℕ → ℕ → EReal) (W : ℕ → ℕ → EReal) (B G : ℕ → EReal) (b h l : ℕ) (x0 x1 : Vec Ideal S512x128 .bf16)
    (x2 x3 : Vec Ideal S512x256 .bf16) (x4 : Vec Ideal S512x128 .f32) (x5 : Vec Ideal S128x128 .f32) (x6 : Vec Ideal S1x128 .f32)
    (x7 : Vec Ideal S1x256 .f32) : Prop where
  q : ∀ (r : Fin 512) (d : Fin 128), x0 (ix2 r d) = A b (512 * l + r.val) (3072 + (128 * h + d.val))
  k : ∀ (r : Fin 512) (d : Fin 128), x1 (ix2 r d) = A b (512 * l + r.val) (3584 + (128 * h + d.val))
  v : ∀ (r : Fin 512) (e : Fin 256), x2 (ix2 r e) = A b (512 * l + r.val) (4096 + (256 * h + e.val))
  g : ∀ (r : Fin 512) (e : Fin 256), x3 (ix2 r e) = A b (512 * l + r.val) (5120 + (256 * h + e.val))
  z : ∀ (r : Fin 512) (j : Fin 128), x4 (ix2 r j) = if j.val < 16 then A b (512 * l + r.val) (6144 + j.val) else 0
  w : ∀ (k d : Fin 128), x5 (ix2 k d) = if k.val < 16 then W k.val (128 * h + d.val) else 0
  b0 : ∀ d : Fin 128, x6 (ix2 0 d) = B (128 * h + d.val)
  n : ∀ e : Fin 256, x7 (ix2 0 e) = G e.val

theorem sum_front (F : ℕ → EReal) (n m : ℕ) (h : m ≤ n) (h0 : ∀ k, m ≤ k → k < n → F k = 0) : ∑ k : Fin n, F k.val = ∑ k : Fin m, F k.val := by
  rw [← Finset.sum_range, ← Finset.sum_range]
  refine (Finset.sum_subset (fun k hk => ?_) (fun k hk hn => ?_)).symm
  · simp only [Finset.mem_range] at hk ⊢; omega
  · simp only [Finset.mem_range] at hk hn; exact h0 k (by omega) hk

theorem st_rec (p : FVec Ideal S512x128 .f32) (x1 : Vec Ideal S512x128 .bf16) (x2 : Vec Ideal S512x256 .bf16) (s0 : FVec Ideal S256x128 .f32) (n : ℕ)
    (e : Fin 256) (d : Fin 128) :
    st (F := Ideal) p x1 x2 s0 n (ix2 e d) = rec (fun c => tot p c (ix2 0 d))
      (fun c => ∑ t : Fin 64, x2 (ix2 ⟨64 * (c % 8) + t.val, by omega⟩ e) * kdec p x1 c (ix2 t d)) (s0 (ix2 e d)) n := by
  induction n with
  | zero => rfl
  | succ n ih =>
    rw [rec, ← ih]
    exact (cast_at _ e d).trans (step_at p x1 x2 n _ e d)

section

variable {A : ℕ → ℕ → ℕ → EReal} {W : ℕ → ℕ → EReal} {B G : ℕ → EReal} {b h l : ℕ} {x0 x1 : Vec Ideal S512x128 .bf16}
    {x2 x3 : Vec Ideal S512x256 .bf16} {x4 : Vec Ideal S512x128 .f32} {x5 : Vec Ideal S128x128 .f32} {x6 : Vec Ideal S1x128 .f32}
    {x7 : Vec Ideal S1x256 .f32} (H : Blks A W B G b h l x0 x1 x2 x3 x4 x5 x6 x7)
include H

theorem Blks.la_eq (r : Fin 512) (d : Fin 128) : k0_pay3 x4 x5 x6 (ix2 r d) = la A W B b (128 * h + d.val) (512 * l + r.val) := by
  rw [pay3_at, la, zin, H.b0]
  refine congrArg gate (congrArg (· + _) ?_)
  refine Eq.trans ?_ (Eq.trans (sum_front (fun k => if k < 16 then A b (512 * l + r.val) (6144 + k) * W k (128 * h + d.val) else 0) 128 16 (by omega) (fun k hk _ => if_neg (by omega))) ?_)
  · refine Finset.sum_congr rfl fun k _ => ?_
    rw [H.z, H.w]
    by_cases h2 : k.val < 16
    · simp only [h2, if_true]
    · simp only [h2, if_false, mul_zero]
  · exact Finset.sum_congr rfl fun k _ => if_pos k.isLt

theorem Blks.cum_eq (c : ℕ) (hc : c < 8) (r : Fin 64) (d : Fin 128) :
    cum (k0_pay3 x4 x5 x6) c (ix2 r d) = csum (la A W B b (128 * h + d.val)) (8 * l + c) r.val := by
  rw [cum_at, csum]
  have e : ∀ x : Fin 64, ((k0_pay4 (F := Ideal)) (ix2 r x) * (k0_pay3 x4 x5 x6) (ix2 ⟨64 * (c % 8) + x.val, by omega⟩ d) : EReal)
      = if x.val ≤ r.val then la A W B b (128 * h + d.val) (64 * (8 * l + c) + x.val) else 0 := by
    intro x
    rw [pay4_at, H.la_eq, show 512 * l + (64 * (c % 8) + x.val) = 64 * (8 * l + c) + x.val by omega]
    split_ifs
    · exact one_mul _
    · exact zero_mul _
  rw [Finset.sum_congr rfl fun x _ => e x,
    ← Finset.sum_range (fun x => if x ≤ r.val then la A W B b (128 * h + d.val) (64 * (8 * l + c) + x) else 0), ← Finset.sum_filter]
  have hr := r.isLt
  refine Finset.sum_congr ?_ fun _ _ => rfl
  ext x
  simp only [Finset.mem_filter, Finset.mem_range]
  omega

theorem Blks.tot_eq (c : ℕ) (hc : c < 8) (d : Fin 128) :
    tot (k0_pay3 x4 x5 x6) c (ix2 0 d) = csum (la A W B b (128 * h + d.val)) (8 * l + c) 63 := by
  rw [tot_at, H.cum_eq c hc]
  rfl

theorem Blks.kdec_eq (c : ℕ) (hc : c < 8) (s : Fin 64) (d : Fin 128) :
    kdec (k0_pay3 x4 x5 x6) x1 c (ix2 s d) = kd A W B b (128 * h + d.val) (8 * l + c) s.val := by
  rw [kdec_at, H.k, H.cum_eq c hc, H.cum_eq c hc, kd, show 512 * l + (64 * (c % 8) + s.val) = 64 * (8 * l + c) + s.val by omega]
  rfl

theorem Blks.kv_eq (c : ℕ) (hc : c < 8) (e : Fin 256) (d : Fin 128) :
    (∑ t : Fin 64, x2 (ix2 ⟨64 * (c % 8) + t.val, by omega⟩ e) * kdec (k0_pay3 x4 x5 x6) x1 c (ix2 t d) : EReal)
      = wn A W B b (256 * h + e.val) (128 * h + d.val) (8 * l + c) := by
  rw [wn]
  refine Finset.sum_congr rfl fun s _ => ?_
  rw [H.kdec_eq c hc, H.v, show 512 * l + (64 * (c % 8) + s.val) = 64 * (8 * l + c) + s.val by omega]

theorem Blks.state_eq (s : FVec Ideal S256x128 .f32) (n : ℕ) (hn : n ≤ 8) (e : Fin 256) (d : Fin 128)
    (hs : s (ix2 e d) = sg A W B b (256 * h + e.val) (128 * h + d.val) (8 * l)) :
    st (k0_pay3 x4 x5 x6) x1 x2 s n (ix2 e d) = sg A W B b (256 * h + e.val) (128 * h + d.val) (8 * l + n) := by
  rw [st_rec, hs, sg, sg]
  exact rec_shift _ _ _ _ _ _ _ (fun c hc => H.tot_eq c (by omega) d) (fun c hc => H.kv_eq c (by omega) e d)

theorem Blks.seen_eq (s : FVec Ideal S256x128 .f32) (c : ℕ) (hc : c < 8) (r : Fin 64) (e : Fin 256)
    (hs : ∀ e d, s (ix2 e d) = sg A W B b (256 * h + e.val) (128 * h + d.val) (8 * l)) :
    (seen (k0_pay3 x4 x5 x6) x0 x1 x2 s c (ix2 r e) * Ideal.ofBits .f32 0x3DB504F3#32 : EReal)
      = qs (fun d => A b (64 * (8 * l + c) + r.val) (3072 + (128 * h + d.val)))
          (fun e d => sg A W B b (256 * h + e.val) (128 * h + d.val) (8 * l + c + 1)) e := by
  rw [seen_at, qs]
  refine congrArg (· * _) (Finset.sum_congr rfl fun d _ => ?_)
  rw [H.q, H.state_eq s (c + 1) (by omega) e d (hs e d), show 512 * l + (64 * (c % 8) + r.val) = 64 * (8 * l + c) + r.val by omega]
  rfl

theorem Blks.outB_eq (s : FVec Ideal S256x128 .f32)
    (hs : ∀ e d, s (ix2 e d) = sg A W B b (256 * h + e.val) (128 * h + d.val) (8 * l)) (r : Fin 512) (e : Fin 256) :
    outB x0 x1 x2 x3 x4 x5 x6 x7 s (ix2 r e) = outv A W B G b h (8 * l + r.val / 64) (r.val % 64) e := by
  have hr := r.isLt
  unfold outB
  rw [pay1_at (seen (k0_pay3 x4 x5 x6) x0 x1 x2 s) _ _ _ _ rfl, outv, H.n, H.g, H.seen_eq s _ (by omega) _ _ hs]
  simp only [H.seen_eq s _ (show r.val / 64 < 8 by omega) _ _ hs]
  rw [show 512 * l + r.val = 64 * (8 * l + r.val / 64) + r.val % 64 by omega]

theorem Blks.stB_eq (s : FVec Ideal S256x128 .f32)
    (hs : ∀ e d, s (ix2 e d) = sg A W B b (256 * h + e.val) (128 * h + d.val) (8 * l)) (e : Fin 256) (d : Fin 128) :
    stB x1 x2 x4 x5 x6 s (ix2 e d) = sg A W B b (256 * h + e.val) (128 * h + d.val) (8 * l + 8) :=
  H.state_eq s 8 (le_refl _) e d (hs e d)

end

end Cert.Kernel4Ideal.Gla

end
-- ==== Proof.GlaVal.lean ====
/- The value of the gated linear attention: the blocks a grid point reads as entries of the arguments, the grid's points in
   order, and the array the kernel leaves as one formula of the arguments. -/
module

public import proofs.«01_k».proof.Proof.GlaMid
public import Idealize.ShloMosaic.Lib.Pipeline.ValueKit.Geometry
public import Idealize.ShloMosaic.Lib.Pipeline.ValueKit
public import Idealize.ShloMosaic.Lib.Pipeline.ValueKit.Point
public import Idealize.ShloMosaic.Lib.Claim
public import Idealize.ShloMosaic.Lib.StableHlo.RunClose
public import Idealize.ShloMosaic.Lib.StableHlo.ReadAt
public import Idealize.ShloMosaic.Lib.Tactic.CleanTypes

@[expose] public section

set_option maxRecDepth 16384

noncomputable section

/-! The grid's points in order, and the kernel's result. -/

namespace Cert.Kernel4Ideal.Gla

open Idealize.ShloMosaic Idealize.ShloMosaic.TcCoe Idealize.ShloMosaic.Tactic Cert.Kernel4Ideal Cert.Kernel4Ideal.Gen Cert.Kernel4Ideal.Value

variable (m : (ℓ : Loc nD τ sig) → Buf (Elt Ideal) ℓ)

theorem idx : ∀ t : Fin cfg0.N, win0_0.index t = ![t.val / 32 * 8 + t.val % 8, 24 + t.val / 8 % 4] ∧ win0_1.index t = ![t.val / 32 * 8 + t.val % 8, 28 + t.val / 8 % 4]
    ∧ win0_2.index t = ![t.val / 32 * 8 + t.val % 8, 16 + t.val / 8 % 4] ∧ win0_3.index t = ![t.val / 32 * 8 + t.val % 8, 20 + t.val / 8 % 4]
    ∧ win0_4.index t = ![t.val / 32 * 8 + t.val % 8, 0] ∧ win0_5.index t = ![0, t.val / 8 % 4] ∧ win0_6.index t = ![0, t.val / 8 % 4] ∧ win0_7.index t = ![0, 0]
    ∧ win0_8.index t = ![t.val / 32 * 8 + t.val % 8, t.val / 8 % 4] := by
  decide +kernel

theorem lt_N (t : Fin cfg0.N) : t.val < 128 := t.isLt

theorem main_at (c : Dev nD) (r : Fin 16384) (d : Fin 6144) :
    V m c main_v2 (ix2 r d) = m ((c : Thread nD τ).loc main_arg0) (ix3 ⟨r.val / 4096, by omega⟩ ⟨r.val % 4096, by omega⟩ ⟨d.val, by omega⟩) := by
  simp only [V, hostOps0, hostOps0_1, hostOps0_2, hostOps0_3, hostOps0_4, List.flatten_cons, List.flatten_nil, List.append_nil, List.cons_append, List.nil_append]
  after_results_simp
  pointwise

theorem zb_at (c : Dev nD) (r : Fin 16384) (d : Fin 128) :
    V m c main_v4 (ix2 r d) = if h : d.val < 16 then m ((c : Thread nD τ).loc main_arg0) (ix3 ⟨r.val / 4096, by omega⟩ ⟨r.val % 4096, by omega⟩ ⟨6144 + d.val, by omega⟩) else (0 : EReal) := by
  simp only [V, hostOps0, hostOps0_1, hostOps0_2, hostOps0_3, hostOps0_4, List.flatten_cons, List.flatten_nil, List.append_nil, List.cons_append, List.nil_append]
  after_reads_at
  all_goals simp [FloatOps.sitofp]

theorem wa_at (c : Dev nD) (r : Fin 128) (d : Fin 512) :
    V m c main_v5 (ix2 r d) = if h : r.val < 16 then m ((c : Thread nD τ).loc main_arg1) (ix2 ⟨r.val, h⟩ d) else (0 : EReal) := by
  simp only [V, hostOps0, hostOps0_1, hostOps0_2, hostOps0_3, hostOps0_4, List.flatten_cons, List.flatten_nil, List.append_nil, List.cons_append, List.nil_append]
  after_reads_at
  all_goals simp [FloatOps.sitofp]

theorem ba_at (c : Dev nD) (d : Fin 512) :
    V m c main_v6 (ix2 0 d) = m ((c : Thread nD τ).loc main_arg2) (ix1 d) := by
  simp only [V, hostOps0, hostOps0_1, hostOps0_2, hostOps0_3, hostOps0_4, List.flatten_cons, List.flatten_nil, List.append_nil, List.cons_append, List.nil_append]
  after_results_simp
  pointwise

theorem gn_at (c : Dev nD) (d : Fin 256) :
    V m c main_v7 (ix2 0 d) = m ((c : Thread nD τ).loc main_arg3) (ix1 d) := by
  simp only [V, hostOps0, hostOps0_1, hostOps0_2, hostOps0_3, hostOps0_4, List.flatten_cons, List.flatten_nil, List.append_nil, List.cons_append, List.nil_append]
  after_results_simp
  pointwise

theorem blk0 (c : Dev nD) (t : Fin cfg0.N) (r : Fin 512) (d : Fin 128) :
    iblk m c 0 t (ix2 r d) = V m c main_v2 (ix2 ⟨512 * (t.val / 32 * 8 + t.val % 8) + r.val, by have := lt_N t; omega⟩ ⟨128 * (24 + t.val / 8 % 4) + d.val, by omega⟩) := by
  blk_ext [iblk, idx t]

theorem blk1 (c : Dev nD) (t : Fin cfg0.N) (r : Fin 512) (d : Fin 128) :
    iblk m c 1 t (ix2 r d) = V m c main_v2 (ix2 ⟨512 * (t.val / 32 * 8 + t.val % 8) + r.val, by have := lt_N t; omega⟩ ⟨128 * (28 + t.val / 8 % 4) + d.val, by omega⟩) := by
  blk_ext [iblk, idx t]

theorem blk2 (c : Dev nD) (t : Fin cfg0.N) (r : Fin 512) (d : Fin 256) :
    iblk m c 2 t (ix2 r d) = V m c main_v2 (ix2 ⟨512 * (t.val / 32 * 8 + t.val % 8) + r.val, by have := lt_N t; omega⟩ ⟨256 * (16 + t.val / 8 % 4) + d.val, by omega⟩) := by
  blk_ext [iblk, idx t]

theorem blk3 (c : Dev nD) (t : Fin cfg0.N) (r : Fin 512) (d : Fin 256) :
    iblk m c 3 t (ix2 r d) = V m c main_v2 (ix2 ⟨512 * (t.val / 32 * 8 + t.val % 8) + r.val, by have := lt_N t; omega⟩ ⟨256 * (20 + t.val / 8 % 4) + d.val, by omega⟩) := by
  blk_ext [iblk, idx t]

theorem blk4 (c : Dev nD) (t : Fin cfg0.N) (r : Fin 512) (d : Fin 128) :
    iblk m c 4 t (ix2 r d) = V m c main_v4 (ix2 ⟨512 * (t.val / 32 * 8 + t.val % 8) + r.val, by have := lt_N t; omega⟩ d) := by
  blk_ext [iblk, idx t]

theorem blk5 (c : Dev nD) (t : Fin cfg0.N) (r : Fin 128) (d : Fin 128) :
    iblk m c 5 t (ix2 r d) = V m c main_v5 (ix2 r ⟨128 * (t.val / 8 % 4) + d.val, by omega⟩) := by
  blk_ext [iblk, idx t]

theorem blk6 (c : Dev nD) (t : Fin cfg0.N) (d : Fin 128) :
    iblk m c 6 t (ix2 0 d) = V m c main_v6 (ix2 0 ⟨128 * (t.val / 8 % 4) + d.val, by omega⟩) := by
  blk_ext [iblk, idx t]

theorem blk7 (c : Dev nD) (t : Fin cfg0.N) (d : Fin 256) : iblk m c 7 t (ix2 0 d) = V m c main_v7 (ix2 0 d) := by
  blk_ext [iblk, idx t]

abbrev AA (c : Dev nD) : ℕ → ℕ → ℕ → EReal := at3 (m ((c : Thread nD τ).loc main_arg0))
abbrev WW (c : Dev nD) : ℕ → ℕ → EReal := at2 (m ((c : Thread nD τ).loc main_arg1))
abbrev BB (c : Dev nD) : ℕ → EReal := at1 (m ((c : Thread nD τ).loc main_arg2))
abbrev GG (c : Dev nD) : ℕ → EReal := at0 (m ((c : Thread nD τ).loc main_arg3))

theorem main_at3 (c : Dev nD) (t : Fin cfg0.N) (r : Fin 512) (j j' : ℕ) (hj : j < 6144) (hr) (e : j = j') :
    V m c main_v2 (ix2 ⟨512 * (t.val / 32 * 8 + t.val % 8) + r.val, hr⟩ ⟨j, hj⟩) = AA m c (t.val / 32) (512 * (t.val % 8) + r.val) j' := by
  subst e
  have ht := lt_N t
  rw [main_at, AA, at3, dif_pos (by omega)]
  have e1 : (512 * (t.val / 32 * 8 + t.val % 8) + r.val) / 4096 = t.val / 32 := by omega
  have e2 : (512 * (t.val / 32 * 8 + t.val % 8) + r.val) % 4096 = 512 * (t.val % 8) + r.val := by omega
  simp only [e1, e2]

theorem blks (c : Dev nD) (t : Fin cfg0.N) :
    Blks (AA m c) (WW m c) (BB m c) (GG m c) (t.val / 32) (t.val / 8 % 4) (t.val % 8) (iblk m c 0 t) (iblk m c 1 t) (iblk m c 2 t) (iblk m c 3 t) (iblk m c 4 t)
      (iblk m c 5 t) (iblk m c 6 t) (iblk m c 7 t) where
  q r j := (blk0 m c t r j).trans (main_at3 m c t r _ _ _ _ (by omega))
  k r j := (blk1 m c t r j).trans (main_at3 m c t r _ _ _ _ (by omega))
  v r j := (blk2 m c t r j).trans (main_at3 m c t r _ _ _ _ (by omega))
  g r j := (blk3 m c t r j).trans (main_at3 m c t r _ _ _ _ (by omega))
  z r j := by
    have ht := lt_N t
    rw [blk4, zb_at]
    by_cases h : j.val < 16
    · rw [dif_pos h, if_pos h, AA, at3, dif_pos (by omega)]
      have e1 : (512 * (t.val / 32 * 8 + t.val % 8) + r.val) / 4096 = t.val / 32 := by omega
      have e2 : (512 * (t.val / 32 * 8 + t.val % 8) + r.val) % 4096 = 512 * (t.val % 8) + r.val := by omega
      simp only [e1, e2]
    · rw [dif_neg h, if_neg h]
  w k d := by
    rw [blk5, wa_at]
    by_cases h : k.val < 16
    · rw [dif_pos h, if_pos h, WW, at2, dif_pos (by omega)]
    · rw [dif_neg h, if_neg h]
  b0 d := by rw [blk6, ba_at, BB, at1, dif_pos (by omega)]
  n e := by rw [blk7, gn_at, GG, at0, dif_pos e.isLt]

theorem pay2_at (e : Fin 256) (d : Fin 128) : k0_pay2 (F := Ideal) (ix2 e d) = (0 : EReal) := by
  pointwise [k0_pay2]

variable (c : Dev nD)

/-- What the point's pair is once the point ran. -/
def Good (n : ℕ) (o : Vec Ideal S512x256 .bf16 × Vec Ideal S256x128 .f32) : Prop :=
  (∀ (r : Fin 512) (e : Fin 256), o.1 (ix2 r e)
      = outv (AA m c) (WW m c) (BB m c) (GG m c) (n / 32) (n / 8 % 4) (8 * (n % 8) + r.val / 64) (r.val % 64) e)
  ∧ (∀ (e : Fin 256) (d : Fin 128), o.2 (ix2 e d)
      = sg (AA m c) (WW m c) (BB m c) (n / 32) (256 * (n / 8 % 4) + e.val) (128 * (n / 8 % 4) + d.val) (8 * (n % 8) + 8))

theorem good_A (t : Fin cfg0.N) (h0 : t.val % 8 = 0) : Good m c t.val (outsAt0 m c t.val t.isLt) := by
  have H := blks m c t
  rw [outsAt0_A m c t h0, outA_eq, soutA_eq]
  have hs : ∀ (e : Fin 256) (d : Fin 128), k0_pay2 (F := Ideal) (ix2 e d)
      = sg (AA m c) (WW m c) (BB m c) (t.val / 32) (256 * (t.val / 8 % 4) + e.val) (128 * (t.val / 8 % 4) + d.val) (8 * (t.val % 8)) := by
    intro e d
    rw [pay2_at, h0]
    rfl
  exact ⟨fun r e => H.outB_eq _ hs r e, fun e d => H.stB_eq _ hs e d⟩

theorem good_B (t : Fin cfg0.N) (h0 : ¬ t.val % 8 = 0) (hp : Good m c (t.val - 1) (outsAt0 m c (t.val - 1) (by have := t.isLt; omega))) :
    Good m c t.val (outsAt0 m c t.val t.isLt) := by
  have H := blks m c t
  obtain ⟨-, p2⟩ := hp
  rw [outsAt0_B m c t h0, outB_eq, soutB_eq]
  have hs : ∀ (e : Fin 256) (d : Fin 128), (outsAt0 m c (t.val - 1) (by have := t.isLt; omega)).2 (ix2 e d)
      = sg (AA m c) (WW m c) (BB m c) (t.val / 32) (256 * (t.val / 8 % 4) + e.val) (128 * (t.val / 8 % 4) + d.val) (8 * (t.val % 8)) := by
    intro e d
    rw [p2, show (t.val - 1) / 32 = t.val / 32 by omega, show (t.val - 1) / 8 = t.val / 8 by omega, show 8 * ((t.val - 1) % 8) + 8 = 8 * (t.val % 8) by omega]
  exact ⟨fun r e => H.outB_eq _ hs r e, fun e d => H.stB_eq _ hs e d⟩

theorem good (n : ℕ) (hn : n < cfg0.N) : Good m c n (outsAt0 m c n hn) := by
  induction n with
  | zero => exact good_A m c ⟨0, hn⟩ (Nat.zero_mod _)
  | succ n ih =>
    by_cases h0 : (n + 1) % 8 = 0
    · exact good_A m c ⟨n + 1, hn⟩ h0
    · exact good_B m c ⟨n + 1, hn⟩ h0 (ih (Nat.lt_of_succ_lt hn))

theorem final_o : (dats m 0 c).arrAt 8 cfg0.N
    = goal (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  have y0 : (y 0).val < 512 := (y 0).isLt
  have y1 : (y 1).val < 256 := (y 1).isLt
  have ht := lt_N t
  have hy : y = ix2 (⟨(y 0).val, y0⟩ : Fin 512) (⟨(y 1).val, y1⟩ : Fin 256) := by
    funext a
    fin_cases a <;> rfl
  have he : (((View.whole main_v8).slice (win0_8.rect t)).emb y) = ix2 (⟨512 * (t.val / 32 * 8 + t.val % 8) + (y 0).val, by omega⟩ : Fin 16384)
      (⟨256 * (t.val / 8 % 4) + (y 1).val, by omega⟩ : Fin 1024) := by
    blk_ext [idx t]
  refine (congrArg (outsAt0 m c t.val t.isLt).1 hy).trans (((good m c t.val t.isLt).1 _ _).trans ?_)
  refine Eq.trans ?_ (congrArg (goal _ _ _ _) he.symm)
  unfold goal
  show outv _ _ _ _ _ _ _ _ _ = outv _ _ _ _ ((512 * (t.val / 32 * 8 + t.val % 8) + (y 0).val) / 4096) ((256 * (t.val / 8 % 4) + (y 1).val) / 256)
    ((512 * (t.val / 32 * 8 + t.val % 8) + (y 0).val) % 4096 / 64) ((512 * (t.val / 32 * 8 + t.val % 8) + (y 0).val) % 64)
    ⟨(256 * (t.val / 8 % 4) + (y 1).val) % 256, Nat.mod_lt _ (by decide)⟩
  have e1 : (512 * (t.val / 32 * 8 + t.val % 8) + (y 0).val) / 4096 = t.val / 32 := by omega
  have e2 : (256 * (t.val / 8 % 4) + (y 1).val) / 256 = t.val / 8 % 4 := by omega
  have e3 : (512 * (t.val / 32 * 8 + t.val % 8) + (y 0).val) % 4096 / 64 = 8 * (t.val % 8) + (y 0).val / 64 := by omega
  have e4 : (512 * (t.val / 32 * 8 + t.val % 8) + (y 0).val) % 64 = (y 0).val % 64 := by omega
  have e5 : (256 * (t.val / 8 % 4) + (y 1).val) % 256 = (y 1).val := by omega
  simp only [e1, e2, e3, e4, e5]

end Cert.Kernel4Ideal.Gla

end
-- ==== Proof.OutRun.lean ====
/- The output projection's body run once, over any float values: what it leaves in its three output blocks, from the blocks
   it is handed. -/
module

public import proofs.«01_k».proof.Proof.Gen.Kernel5Ideal
public import proofs.«01_k».proof.Proof.Gen.Kernel5Ideal.Skeleton
public import proofs.«01_k».proof.Proof.Gen.Kernel5Ideal.Launch
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Pipeline.Value
public import Idealize.ShloMosaic.Lib.Ring
public import Idealize.ShloMosaic.Lib.Exec
public import Idealize.ShloMosaic.Lib.Tactic

@[expose] public section

set_option maxRecDepth 16384

noncomputable section

namespace Cert.Kernel5Ideal.Out

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The propositions the run is stated in. -/
abbrev MM (F : FTy → Type) [FloatOps F] : Type := MT nD τ sig Unit (Elt F) ℕ (UR sig nD τ) ℕ

/-- What the body is handed and what it hands back, beside its outputs. -/
abbrev held (c : Dev nD) (arg1 : Memref sig .tc .vmem S512x1024 .bf16) (arg2 : Memref sig .tc .vmem S512x1024 .bf16) (arg3 : Memref sig .tc .vmem S2048x2048 .bf16) (arg4 : Memref sig .tc .vmem S512x2048 .f32) (arg5 : Memref sig .tc .vmem S1x1x2048 .f32) (arg6 : Memref sig .tc .vmem S1x2048 .f32) (arg7 : Memref sig .tc .vmem S1x2048 .f32) (arg8 : Memref sig .tc .vmem S1x1x2048 .f32) (arg9 : Memref sig .tc .vmem S1x1x2048 .f32) (arg10 : Memref sig .tc .vmem S2048x128 .f32) (arg11 : Memref sig .tc .vmem S1x128 .f32)
    (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (x9 : S2048x128.Idx → Elt F .f32) (x10 : S1x128.Idx → Elt F .f32) (R : sProp (MM F)) : sProp (MM F) :=
  iprop((arg1.view.loc (c : Thread nD τ) ↦[arg1.view.set]{fullShare} arg1.view.rep x0)
    ∗ (arg2.view.loc (c : Thread nD τ) ↦[arg2.view.set]{fullShare} arg2.view.rep x1)
    ∗ (arg3.view.loc (c : Thread nD τ) ↦[arg3.view.set]{fullShare} arg3.view.rep x2)
    ∗ (arg4.view.loc (c : Thread nD τ) ↦[arg4.view.set]{fullShare} arg4.view.rep x3)
    ∗ (arg5.view.loc (c : Thread nD τ) ↦[arg5.view.set]{fullShare} arg5.view.rep x4)
    ∗ (arg6.view.loc (c : Thread nD τ) ↦[arg6.view.set]{fullShare} arg6.view.rep x5)
    ∗ (arg7.view.loc (c : Thread nD τ) ↦[arg7.view.set]{fullShare} arg7.view.rep x6)
    ∗ (arg8.view.loc (c : Thread nD τ) ↦[arg8.view.set]{fullShare} arg8.view.rep x7)
    ∗ (arg9.view.loc (c : Thread nD τ) ↦[arg9.view.set]{fullShare} arg9.view.rep x8)
    ∗ (arg10.view.loc (c : Thread nD τ) ↦[arg10.view.set]{fullShare} arg10.view.rep x9)
    ∗ (arg11.view.loc (c : Thread nD τ) ↦[arg11.view.set]{fullShare} arg11.view.rep x10)
    ∗ R)

set_option backward.proofsInPublic true in
set_option maxHeartbeats 2000000 in
/-- The body's run: the three outputs' stores. -/
def run (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S512x2048 .f32) (harg12 : arg12.IsWhole) (arg13 : Memref sig .tc .vmem S8192x128 .f32) (harg13 : arg13.IsWhole) (arg14 : Memref sig .tc .vmem S512x128 .f32) (harg14 : arg14.IsWhole)
    (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (x9 : S2048x128.Idx → Elt F .f32) (x10 : S1x128.Idx → Elt F .f32) :
    (oX : List (View.Piece (Elt F) S512x2048 .f32)) ×' (oH : List (View.Piece (Elt F) S8192x128 .f32)) ×' { oL : List (View.Piece (Elt F) S512x128 .f32) //
      ∀ (K : PUnit → sProp (MM F)),
        held c arg1 arg2 arg3 arg4 arg5 arg6 arg7 arg8 arg9 arg10 arg11 x0 x1 x2 x3 x4 x5 x6 x7 x8 x9 x10
          iprop((∃ d, owns (c : Thread nD τ) arg12 fullShare d)
          ∗ (∃ d, owns (c : Thread nD τ) arg13 fullShare d)
          ∗ (∃ d, owns (c : Thread nD τ) arg14 fullShare d)
          ∗ (held c arg1 arg2 arg3 arg4 arg5 arg6 arg7 arg8 arg9 arg10 arg11 x0 x1 x2 x3 x4 x5 x6 x7 x8 x9 x10 iprop((∃ f, arg12.view.loc (c : Thread nD τ) ↦[arg12.view.set]{fullShare} arg12.view.writes (Elt F) f oX)
              ∗ (∃ f, arg13.view.loc (c : Thread nD τ) ↦[arg13.view.set]{fullShare} arg13.view.writes (Elt F) f oH)
              ∗ (∃ f, arg14.view.loc (c : Thread nD τ) ↦[arg14.view.set]{fullShare} arg14.view.writes (Elt F) f oL)) -∗ K ⟨⟩))
          ⊢ wp frame (wpE (defs₀ (F := F)) Variants.none c none) Set.univ (cc0_out_proj i arg1 harg1 arg2 harg2 arg3 harg3 arg4 harg4 arg5 harg5 arg6 harg6 arg7 harg7 arg8 harg8 arg9 harg9 arg10 harg10 arg11 harg11 arg12 harg12 arg13 harg13 arg14 harg14) K } :=
  ⟨_, _, _, fun K => by
    unfold owns
    rw [cc0_out_proj_eq_skeleton]; unfold cc0_out_proj_skel
    rw [k0_part1_eq_skeleton, k0_part2_eq_skeleton, k0_part3_eq_skeleton]; unfold k0_part1_skel k0_part2_skel k0_part3_skel
    iintro ⟨H0, H1, H2, H3, H4, H5, H6, H7, H8, H9, H10, ⟨%d12, %f12, -, HO12⟩, ⟨%d13, %f13, -, HO13⟩, ⟨%d14, %f14, -, HO14⟩, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HO12]; · iexists _; iexact HO12
    isplitl [HO13]; · iexists _; iexact HO13
    iexists _; iexact HO14⟩

end Cert.Kernel5Ideal.Out

end
-- ==== Proof.OutPc.lean ====
/- What one point of the output projection leaves in its three output blocks, told as functions of the blocks it is handed. Over
   any float values. -/
module

public import proofs.«01_k».proof.Proof.OutRun

@[expose] public section

set_option maxRecDepth 16384

noncomputable section

namespace Cert.Kernel5Ideal.Out

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The upper half of the weights' rows. -/
def wT (w : S2048x2048.Idx → Elt F .bf16) : S1024x2048.Idx → Elt F .bf16 := fun j =>
  w ((Rect.unit (s := S2048x2048) ![0, 0] S1024x2048.size inb_S2048x2048_S1024x2048_0_0).toLoadRect.idx j)
/-- The lower half of the weights' rows. -/
def wB (w : S2048x2048.Idx → Elt F .bf16) : S1024x2048.Idx → Elt F .bf16 := fun j =>
  w ((Rect.unit (s := S2048x2048) ![1024, 0] S1024x2048.size inb_S2048x2048_S1024x2048_1024_0).toLoadRect.idx j)

/-- The first output: the rows with the projection added. -/
def oX (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) : S512x2048.Idx → Elt F .f32 :=
  k0_pay2 x0 (wT x2) x1 (wB x2) x3 x4 x5
/-- The rows' sums of squares. -/
def oQ (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) : FVec F S512 .f32 :=
  k0_pay3 x0 (wT x2) x1 (wB x2) x3 x4 x5
/-- The rows normalized and modulated. -/
def oN (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) : S512x2048.Idx → Elt F .f32 :=
  k0_pay4 (oX x0 x1 x2 x3 x4 x5) (oQ x0 x1 x2 x3 x4 x5) x6 x7 x8
/-- The second output: the normalized rows, each laid out as sixteen rows of 128. -/
def oH (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) : S8192x128.Idx → Elt F .f32 := fun y =>
  oN x0 x1 x2 x3 x4 x5 x6 x7 x8 (fun | ⟨0, _⟩ => ⟨(y 0).val / 16, by have h0 : (y 0).val < 8192 := (y 0).isLt; show _ < 512; omega⟩ | ⟨1, _⟩ => ⟨128 * ((y 0).val % 16) + (y 1).val, by have h1 : (y 1).val < 128 := (y 1).isLt; show _ < 2048; omega⟩)
/-- The third output: the router's scores. -/
def oL (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (x9 : S2048x128.Idx → Elt F .f32) (x10 : S1x128.Idx → Elt F .f32) : S512x128.Idx → Elt F .f32 :=
  k0_pay5 (oX x0 x1 x2 x3 x4 x5) (oQ x0 x1 x2 x3 x4 x5) x6 x7 x8 x9 x10

theorem mem_str (s : ℕ) (inb) (hp) (y : S8192x128.Idx) (hs : s < 16) (h : (y 0).val % 16 = s) :
    y ∈ (⟨⟨![s, 0], S512x128.size, ![16, 1], inb⟩, hp⟩ : Rect S8192x128).set :=
  LoadRect.mem_set _ |>.mpr fun a => by
    have h0 : (y 0).val < 8192 := (y 0).isLt
    have h1 : (y 1).val < 128 := (y 1).isLt
    match a with
    | ⟨0, _⟩ => exact ⟨(y 0).val / 16, by show _ < 512; omega, by show (y 0).val = s + 16 * ((y 0).val / 16); omega⟩
    | ⟨1, _⟩ => exact ⟨(y 1).val, h1, by show (y 1).val = 0 + 1 * (y 1).val; omega⟩

/-- One strided store holds a slice of the normalized rows. -/
theorem str_ok (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (s o : ℕ) (hs : s < 16) (ho : o = 128 * s) (inb) (hp) (hsl) (w : FVec F S512x128 .f32)
    (hw : w = extractStridedSlice S512x128 ![0, o] (oN x0 x1 x2 x3 x4 x5 x6 x7 x8) hsl) (z : S512x128.Idx) :
    w z = oH x0 x1 x2 x3 x4 x5 x6 x7 x8 ((⟨⟨![s, 0], S512x128.size, ![16, 1], inb⟩, hp⟩ : Rect S8192x128).emb z) := by
  have h1 : (z 1).val < 128 := (z 1).isLt
  subst hw
  unfold oH extractStridedSlice
  refine congrArg (oN x0 x1 x2 x3 x4 x5 x6 x7 x8) (funext fun a => Fin.ext ?_)
  match a with
  | ⟨0, _⟩ => show 0 + (z 0).val = (s + 16 * (z 0).val) / 16; omega
  | ⟨1, _⟩ => show o + (z 1).val = 128 * ((s + 16 * (z 0).val) % 16) + (0 + 1 * (z 1).val); omega

set_option maxHeartbeats 2000000 in
/-- The first output's block after the run. -/
theorem run_x (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S512x2048 .f32) (harg12 : arg12.IsWhole) (arg13 : Memref sig .tc .vmem S8192x128 .f32) (harg13 : arg13.IsWhole) (arg14 : Memref sig .tc .vmem S512x128 .f32) (harg14 : arg14.IsWhole)
    (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (x9 : S2048x128.Idx → Elt F .f32) (x10 : S1x128.Idx → Elt F .f32) (f : arg12.view.ty.Contents (Elt F)) :
    arg12.view.read (Elt F) (arg12.view.writes (Elt F) f (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1) = oX x0 x1 x2 x3 x4 x5 := by
  have e0 : View.readAt (Elt F) arg1.view (Rect.unit (s := S512x1024) ![0, 0] S512x1024.size inb_S512x1024_S512x1024_0_0).toLoadRect (arg1.view.rep x0) = x0 := View.readAt_rep_full _ _ _
  have e1 : View.readAt (Elt F) arg2.view (Rect.unit (s := S512x1024) ![0, 0] S512x1024.size inb_S512x1024_S512x1024_0_0).toLoadRect (arg2.view.rep x1) = x1 := View.readAt_rep_full _ _ _
  have e3 : View.readAt (Elt F) arg4.view (Rect.unit (s := S512x2048) ![0, 0] S512x2048.size inb_S512x2048_S512x2048_0_0).toLoadRect (arg4.view.rep x3) = x3 := View.readAt_rep_full _ _ _
  have e4 : View.readAt (Elt F) arg5.view (Rect.unit (s := S1x1x2048) ![0, 0, 0] S1x1x2048.size inb_S1x1x2048_S1x1x2048_0_0_0).toLoadRect (arg5.view.rep x4) = x4 := View.readAt_rep_full _ _ _
  have e5 : View.readAt (Elt F) arg6.view (Rect.unit (s := S1x2048) ![0, 0] S1x2048.size inb_S1x2048_S1x2048_0_0).toLoadRect (arg6.view.rep x5) = x5 := View.readAt_rep_full _ _ _
  have e6 : View.readAt (Elt F) arg7.view (Rect.unit (s := S1x2048) ![0, 0] S1x2048.size inb_S1x2048_S1x2048_0_0).toLoadRect (arg7.view.rep x6) = x6 := View.readAt_rep_full _ _ _
  have e7 : View.readAt (Elt F) arg8.view (Rect.unit (s := S1x1x2048) ![0, 0, 0] S1x1x2048.size inb_S1x1x2048_S1x1x2048_0_0_0).toLoadRect (arg8.view.rep x7) = x7 := View.readAt_rep_full _ _ _
  have e8 : View.readAt (Elt F) arg9.view (Rect.unit (s := S1x1x2048) ![0, 0, 0] S1x1x2048.size inb_S1x1x2048_S1x1x2048_0_0_0).toLoadRect (arg9.view.rep x8) = x8 := View.readAt_rep_full _ _ _
  have e9 : View.readAt (Elt F) arg10.view (Rect.unit (s := S2048x128) ![0, 0] S2048x128.size inb_S2048x128_S2048x128_0_0).toLoadRect (arg10.view.rep x9) = x9 := View.readAt_rep_full _ _ _
  have e10 : View.readAt (Elt F) arg11.view (Rect.unit (s := S1x128) ![0, 0] S1x128.size inb_S1x128_S1x128_0_0).toLoadRect (arg11.view.rep x10) = x10 := View.readAt_rep_full _ _ _
  have eT : View.readAt (Elt F) arg3.view (Rect.unit (s := S2048x2048) ![0, 0] S1024x2048.size inb_S2048x2048_S1024x2048_0_0).toLoadRect (arg3.view.rep x2) = wT x2 := View.readAt_rep _ _ _
  have eB : View.readAt (Elt F) arg3.view (Rect.unit (s := S2048x2048) ![1024, 0] S1024x2048.size inb_S2048x2048_S1024x2048_1024_0).toLoadRect (arg3.view.rep x2) = wB x2 := View.readAt_rep _ _ _
  unfold run
  dsimp only
  refine (View.read_writes_full _ _ _ _ _).trans ?_
  rw [e0, e1, e3, e4, e5, eT, eB]; rfl

set_option maxHeartbeats 2000000 in
/-- The third output's block after the run. -/
theorem run_l (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S512x2048 .f32) (harg12 : arg12.IsWhole) (arg13 : Memref sig .tc .vmem S8192x128 .f32) (harg13 : arg13.IsWhole) (arg14 : Memref sig .tc .vmem S512x128 .f32) (harg14 : arg14.IsWhole)
    (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (x9 : S2048x128.Idx → Elt F .f32) (x10 : S1x128.Idx → Elt F .f32) (f : arg14.view.ty.Contents (Elt F)) :
    arg14.view.read (Elt F) (arg14.view.writes (Elt F) f (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.2.1) = oL x0 x1 x2 x3 x4 x5 x6 x7 x8 x9 x10 := by
  have e0 : View.readAt (Elt F) arg1.view (Rect.unit (s := S512x1024) ![0, 0] S512x1024.size inb_S512x1024_S512x1024_0_0).toLoadRect (arg1.view.rep x0) = x0 := View.readAt_rep_full _ _ _
  have e1 : View.readAt (Elt F) arg2.view (Rect.unit (s := S512x1024) ![0, 0] S512x1024.size inb_S512x1024_S512x1024_0_0).toLoadRect (arg2.view.rep x1) = x1 := View.readAt_rep_full _ _ _
  have e3 : View.readAt (Elt F) arg4.view (Rect.unit (s := S512x2048) ![0, 0] S512x2048.size inb_S512x2048_S512x2048_0_0).toLoadRect (arg4.view.rep x3) = x3 := View.readAt_rep_full _ _ _
  have e4 : View.readAt (Elt F) arg5.view (Rect.unit (s := S1x1x2048) ![0, 0, 0] S1x1x2048.size inb_S1x1x2048_S1x1x2048_0_0_0).toLoadRect (arg5.view.rep x4) = x4 := View.readAt_rep_full _ _ _
  have e5 : View.readAt (Elt F) arg6.view (Rect.unit (s := S1x2048) ![0, 0] S1x2048.size inb_S1x2048_S1x2048_0_0).toLoadRect (arg6.view.rep x5) = x5 := View.readAt_rep_full _ _ _
  have e6 : View.readAt (Elt F) arg7.view (Rect.unit (s := S1x2048) ![0, 0] S1x2048.size inb_S1x2048_S1x2048_0_0).toLoadRect (arg7.view.rep x6) = x6 := View.readAt_rep_full _ _ _
  have e7 : View.readAt (Elt F) arg8.view (Rect.unit (s := S1x1x2048) ![0, 0, 0] S1x1x2048.size inb_S1x1x2048_S1x1x2048_0_0_0).toLoadRect (arg8.view.rep x7) = x7 := View.readAt_rep_full _ _ _
  have e8 : View.readAt (Elt F) arg9.view (Rect.unit (s := S1x1x2048) ![0, 0, 0] S1x1x2048.size inb_S1x1x2048_S1x1x2048_0_0_0).toLoadRect (arg9.view.rep x8) = x8 := View.readAt_rep_full _ _ _
  have e9 : View.readAt (Elt F) arg10.view (Rect.unit (s := S2048x128) ![0, 0] S2048x128.size inb_S2048x128_S2048x128_0_0).toLoadRect (arg10.view.rep x9) = x9 := View.readAt_rep_full _ _ _
  have e10 : View.readAt (Elt F) arg11.view (Rect.unit (s := S1x128) ![0, 0] S1x128.size inb_S1x128_S1x128_0_0).toLoadRect (arg11.view.rep x10) = x10 := View.readAt_rep_full _ _ _
  have eT : View.readAt (Elt F) arg3.view (Rect.unit (s := S2048x2048) ![0, 0] S1024x2048.size inb_S2048x2048_S1024x2048_0_0).toLoadRect (arg3.view.rep x2) = wT x2 := View.readAt_rep _ _ _
  have eB : View.readAt (Elt F) arg3.view (Rect.unit (s := S2048x2048) ![1024, 0] S1024x2048.size inb_S2048x2048_S1024x2048_1024_0).toLoadRect (arg3.view.rep x2) = wB x2 := View.readAt_rep _ _ _
  unfold run
  dsimp only
  refine (View.read_writes_full _ _ _ _ _).trans ?_
  rw [e0, e1, e3, e4, e5, e6, e7, e8, e9, e10, eT, eB]; rfl

set_option maxHeartbeats 4000000 in
/-- The second output's block after the run. -/
theorem run_h (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S512x2048 .f32) (harg12 : arg12.IsWhole) (arg13 : Memref sig .tc .vmem S8192x128 .f32) (harg13 : arg13.IsWhole) (arg14 : Memref sig .tc .vmem S512x128 .f32) (harg14 : arg14.IsWhole)
    (x0 : S512x1024.Idx → Elt F .bf16) (x1 : S512x1024.Idx → Elt F .bf16) (x2 : S2048x2048.Idx → Elt F .bf16) (x3 : S512x2048.Idx → Elt F .f32) (x4 : S1x1x2048.Idx → Elt F .f32) (x5 : S1x2048.Idx → Elt F .f32) (x6 : S1x2048.Idx → Elt F .f32) (x7 : S1x1x2048.Idx → Elt F .f32) (x8 : S1x1x2048.Idx → Elt F .f32) (x9 : S2048x128.Idx → Elt F .f32) (x10 : S1x128.Idx → Elt F .f32) (f : arg13.view.ty.Contents (Elt F)) :
    arg13.view.read (Elt F) (arg13.view.writes (Elt F) f (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).2.1) = oH x0 x1 x2 x3 x4 x5 x6 x7 x8 := by
  funext y
  have e0 : View.readAt (Elt F) arg1.view (Rect.unit (s := S512x1024) ![0, 0] S512x1024.size inb_S512x1024_S512x1024_0_0).toLoadRect (arg1.view.rep x0) = x0 := View.readAt_rep_full _ _ _
  have e1 : View.readAt (Elt F) arg2.view (Rect.unit (s := S512x1024) ![0, 0] S512x1024.size inb_S512x1024_S512x1024_0_0).toLoadRect (arg2.view.rep x1) = x1 := View.readAt_rep_full _ _ _
  have e3 : View.readAt (Elt F) arg4.view (Rect.unit (s := S512x2048) ![0, 0] S512x2048.size inb_S512x2048_S512x2048_0_0).toLoadRect (arg4.view.rep x3) = x3 := View.readAt_rep_full _ _ _
  have e4 : View.readAt (Elt F) arg5.view (Rect.unit (s := S1x1x2048) ![0, 0, 0] S1x1x2048.size inb_S1x1x2048_S1x1x2048_0_0_0).toLoadRect (arg5.view.rep x4) = x4 := View.readAt_rep_full _ _ _
  have e5 : View.readAt (Elt F) arg6.view (Rect.unit (s := S1x2048) ![0, 0] S1x2048.size inb_S1x2048_S1x2048_0_0).toLoadRect (arg6.view.rep x5) = x5 := View.readAt_rep_full _ _ _
  have e6 : View.readAt (Elt F) arg7.view (Rect.unit (s := S1x2048) ![0, 0] S1x2048.size inb_S1x2048_S1x2048_0_0).toLoadRect (arg7.view.rep x6) = x6 := View.readAt_rep_full _ _ _
  have e7 : View.readAt (Elt F) arg8.view (Rect.unit (s := S1x1x2048) ![0, 0, 0] S1x1x2048.size inb_S1x1x2048_S1x1x2048_0_0_0).toLoadRect (arg8.view.rep x7) = x7 := View.readAt_rep_full _ _ _
  have e8 : View.readAt (Elt F) arg9.view (Rect.unit (s := S1x1x2048) ![0, 0, 0] S1x1x2048.size inb_S1x1x2048_S1x1x2048_0_0_0).toLoadRect (arg9.view.rep x8) = x8 := View.readAt_rep_full _ _ _
  have e9 : View.readAt (Elt F) arg10.view (Rect.unit (s := S2048x128) ![0, 0] S2048x128.size inb_S2048x128_S2048x128_0_0).toLoadRect (arg10.view.rep x9) = x9 := View.readAt_rep_full _ _ _
  have e10 : View.readAt (Elt F) arg11.view (Rect.unit (s := S1x128) ![0, 0] S1x128.size inb_S1x128_S1x128_0_0).toLoadRect (arg11.view.rep x10) = x10 := View.readAt_rep_full _ _ _
  have eT : View.readAt (Elt F) arg3.view (Rect.unit (s := S2048x2048) ![0, 0] S1024x2048.size inb_S2048x2048_S1024x2048_0_0).toLoadRect (arg3.view.rep x2) = wT x2 := View.readAt_rep _ _ _
  have eB : View.readAt (Elt F) arg3.view (Rect.unit (s := S2048x2048) ![1024, 0] S1024x2048.size inb_S2048x2048_S1024x2048_1024_0).toLoadRect (arg3.view.rep x2) = wB x2 := View.readAt_rep _ _ _
  unfold run
  dsimp only
  simp only [e0, e1, e3, e4, e5, e6, e7, e8, eT, eB]
  refine View.read_writes_apply_of_pieces arg13.view _ (oH x0 x1 x2 x3 x4 x5 x6 x7 x8) _ ?_ y ?_
  · intro p hp
    simp only [List.mem_cons, List.not_mem_nil, _root_.or_false] at hp
    rcases hp with rfl|rfl|rfl|rfl|rfl|rfl|rfl|rfl|rfl|rfl|rfl|rfl|rfl|rfl|rfl|rfl
    · exact fun z => str_ok x0 x1 x2 x3 x4 x5 x6 x7 x8 15 1920 (by decide) rfl inb_S8192x128_S512x128_15_0_s_16_1 _ slices_S512x2048_o0_1920_S512x128 _ rfl z
    · exact fun z => str_ok x0 x1 x2 x3 x4 x5 x6 x7 x8 14 1792 (by decide) rfl inb_S8192x128_S512x128_14_0_s_16_1 _ slices_S512x2048_o0_1792_S512x128 _ rfl z
    · exact fun z => str_ok x0 x1 x2 x3 x4 x5 x6 x7 x8 13 1664 (by decide) rfl inb_S8192x128_S512x128_13_0_s_16_1 _ slices_S512x2048_o0_1664_S512x128 _ rfl z
    · exact fun z => str_ok x0 x1 x2 x3 x4 x5 x6 x7 x8 12 1536 (by decide) rfl inb_S8192x128_S512x128_12_0_s_16_1 _ slices_S512x2048_o0_1536_S512x128 _ rfl z
    · exact fun z => str_ok x0 x1 x2 x3 x4 x5 x6 x7 x8 11 1408 (by decide) rfl inb_S8192x128_S512x128_11_0_s_16_1 _ slices_S512x2048_o0_1408_S512x128 _ rfl z
    · exact fun z => str_ok x0 x1 x2 x3 x4 x5 x6 x7 x8 10 1280 (by decide) rfl inb_S8192x128_S512x128_10_0_s_16_1 _ slices_S512x2048_o0_1280_S512x128 _ rfl z
    · exact fun z => str_ok x0 x1 x2 x3 x4 x5 x6 x7 x8 9 1152 (by decide) rfl inb_S8192x128_S512x128_9_0_s_16_1 _ slices_S512x2048_o0_1152_S512x128 _ rfl z
    · exact fun z => str_ok x0 x1 x2 x3 x4 x5 x6 x7 x8 8 1024 (by decide) rfl inb_S8192x128_S512x128_8_0_s_16_1 _ slices_S512x2048_o0_1024_S512x128 _ rfl z
    · exact fun z => str_ok x0 x1 x2 x3 x4 x5 x6 x7 x8 7 896 (by decide) rfl inb_S8192x128_S512x128_7_0_s_16_1 _ slices_S512x2048_o0_896_S512x128 _ rfl z
    · exact fun z => str_ok x0 x1 x2 x3 x4 x5 x6 x7 x8 6 768 (by decide) rfl inb_S8192x128_S512x128_6_0_s_16_1 _ slices_S512x2048_o0_768_S512x128 _ rfl z
    · exact fun z => str_ok x0 x1 x2 x3 x4 x5 x6 x7 x8 5 640 (by decide) rfl inb_S8192x128_S512x128_5_0_s_16_1 _ slices_S512x2048_o0_640_S512x128 _ rfl z
    · exact fun z => str_ok x0 x1 x2 x3 x4 x5 x6 x7 x8 4 512 (by decide) rfl inb_S8192x128_S512x128_4_0_s_16_1 _ slices_S512x2048_o0_512_S512x128 _ rfl z
    · exact fun z => str_ok x0 x1 x2 x3 x4 x5 x6 x7 x8 3 384 (by decide) rfl inb_S8192x128_S512x128_3_0_s_16_1 _ slices_S512x2048_o0_384_S512x128 _ rfl z
    · exact fun z => str_ok x0 x1 x2 x3 x4 x5 x6 x7 x8 2 256 (by decide) rfl inb_S8192x128_S512x128_2_0_s_16_1 _ slices_S512x2048_o0_256_S512x128 _ rfl z
    · exact fun z => str_ok x0 x1 x2 x3 x4 x5 x6 x7 x8 1 128 (by decide) rfl inb_S8192x128_S512x128_1_0_s_16_1 _ slices_S512x2048_o0_128_S512x128 _ rfl z
    · exact fun z => str_ok x0 x1 x2 x3 x4 x5 x6 x7 x8 0 0 (by decide) rfl inb_S8192x128_S512x128_0_0_s_16_1 _ slices_S512x2048_o0_0_S512x128 _ rfl z
  · obtain ⟨s, e⟩ : ∃ s, (y 0).val % 16 = s := ⟨_, rfl⟩
    have hs : s < 16 := by omega
    match s, hs, e with
    | 0, _, e => exact ⟨_, List.mem_iff_getElem?.mpr ⟨15, rfl⟩, mem_str 0 inb_S8192x128_S512x128_0_0_s_16_1 _ y (by decide) e⟩
    | 1, _, e => exact ⟨_, List.mem_iff_getElem?.mpr ⟨14, rfl⟩, mem_str 1 inb_S8192x128_S512x128_1_0_s_16_1 _ y (by decide) e⟩
    | 2, _, e => exact ⟨_, List.mem_iff_getElem?.mpr ⟨13, rfl⟩, mem_str 2 inb_S8192x128_S512x128_2_0_s_16_1 _ y (by decide) e⟩
    | 3, _, e => exact ⟨_, List.mem_iff_getElem?.mpr ⟨12, rfl⟩, mem_str 3 inb_S8192x128_S512x128_3_0_s_16_1 _ y (by decide) e⟩
    | 4, _, e => exact ⟨_, List.mem_iff_getElem?.mpr ⟨11, rfl⟩, mem_str 4 inb_S8192x128_S512x128_4_0_s_16_1 _ y (by decide) e⟩
    | 5, _, e => exact ⟨_, List.mem_iff_getElem?.mpr ⟨10, rfl⟩, mem_str 5 inb_S8192x128_S512x128_5_0_s_16_1 _ y (by decide) e⟩
    | 6, _, e => exact ⟨_, List.mem_iff_getElem?.mpr ⟨9, rfl⟩, mem_str 6 inb_S8192x128_S512x128_6_0_s_16_1 _ y (by decide) e⟩
    | 7, _, e => exact ⟨_, List.mem_iff_getElem?.mpr ⟨8, rfl⟩, mem_str 7 inb_S8192x128_S512x128_7_0_s_16_1 _ y (by decide) e⟩
    | 8, _, e => exact ⟨_, List.mem_iff_getElem?.mpr ⟨7, rfl⟩, mem_str 8 inb_S8192x128_S512x128_8_0_s_16_1 _ y (by decide) e⟩
    | 9, _, e => exact ⟨_, List.mem_iff_getElem?.mpr ⟨6, rfl⟩, mem_str 9 inb_S8192x128_S512x128_9_0_s_16_1 _ y (by decide) e⟩
    | 10, _, e => exact ⟨_, List.mem_iff_getElem?.mpr ⟨5, rfl⟩, mem_str 10 inb_S8192x128_S512x128_10_0_s_16_1 _ y (by decide) e⟩
    | 11, _, e => exact ⟨_, List.mem_iff_getElem?.mpr ⟨4, rfl⟩, mem_str 11 inb_S8192x128_S512x128_11_0_s_16_1 _ y (by decide) e⟩
    | 12, _, e => exact ⟨_, List.mem_iff_getElem?.mpr ⟨3, rfl⟩, mem_str 12 inb_S8192x128_S512x128_12_0_s_16_1 _ y (by decide) e⟩
    | 13, _, e => exact ⟨_, List.mem_iff_getElem?.mpr ⟨2, rfl⟩, mem_str 13 inb_S8192x128_S512x128_13_0_s_16_1 _ y (by decide) e⟩
    | 14, _, e => exact ⟨_, List.mem_iff_getElem?.mpr ⟨1, rfl⟩, mem_str 14 inb_S8192x128_S512x128_14_0_s_16_1 _ y (by decide) e⟩
    | 15, _, e => exact ⟨_, List.mem_iff_getElem?.mpr ⟨0, rfl⟩, mem_str 15 inb_S8192x128_S512x128_15_0_s_16_1 _ y (by decide) e⟩
    | n + 16, h, _ => omega

end Cert.Kernel5Ideal.Out

end
-- ==== Proof.OutFrm.lean ====
/- The output projection launched, over any float values: what the pipeline is handed, what its body leaves at each point, the
   run, and the arguments unchanged. -/
module

public import proofs.«01_k».proof.Proof.OutPc
public import Idealize.ShloMosaic.Lib.Claim
public import Idealize.ShloMosaic.Lib.Pipeline.Frame
public import Idealize.ShloMosaic.Lib.Pipeline.TableIdle
public import Idealize.ShloMosaic.Lib.Quiescent
public import Idealize.ShloMosaic.Adequacy
public import Idealize.ShloMosaic.Init

@[expose] public section

set_option maxRecDepth 16384

noncomputable section

namespace Cert.Kernel5Ideal.Out

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffers' contents where the region is entered: the host's operations done. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ Variants.none m (main (F := F)) (V m) :=
  Pipeline.hmain_prefixes cfgs 0 defs₀ Variants.none m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨fresh_0, fresh_1, fresh_2, fresh_3, fresh_4⟩) main_chain

/-- No host operation writes a buffer that is none of their results. -/
theorem V_arg (b : Ref sig .tc) (hb : b ∉ [main_v0, main_c, main_call0_v0, main_v1, main_v2, main_c_0, main_call1_v0, main_v3, main_v4, main_v5, main_v6, main_v7, main_v8, main_v9, main_v10, main_v11, main_v12]) (c : Dev nD) :
    V m c b = m ((c : Thread nD τ).loc b) :=
  StableHlo.after_of_forall_not_mem (b := Proc.devRef .tc b) _ _ (List.forall_iff_forall_mem.mp (by
    simp only [List.mem_cons, List.not_mem_nil, _root_.or_false, _root_.not_or] at hb
    obtain ⟨h0, h1, h2, h3, h4, h5, h6, h7, h8, h9, h10, h11, h12, h13, h14, h15, h16⟩ := hb
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16⟩))

/-- Each window's buffer at a point. -/
abbrev m0 (t : Fin cfg0.N) : Memref sig .tc .vmem S512x1024 .bf16 := win0_0.stage (cfg0.slots t 0)
abbrev h0 (t : Fin cfg0.N) : (m0 t).IsWhole := hstage0_0 ((cfg0.slots t 0).cast nbuf0_0)
abbrev m1 (t : Fin cfg0.N) : Memref sig .tc .vmem S512x1024 .bf16 := win0_1.stage (cfg0.slots t 1)
abbrev h1 (t : Fin cfg0.N) : (m1 t).IsWhole := hstage0_1 ((cfg0.slots t 1).cast nbuf0_1)
abbrev m2 (t : Fin cfg0.N) : Memref sig .tc .vmem S2048x2048 .bf16 := win0_2.stage (cfg0.slots t 2)
abbrev h2 (t : Fin cfg0.N) : (m2 t).IsWhole := hstage0_2 ((cfg0.slots t 2).cast nbuf0_2)
abbrev m3 (t : Fin cfg0.N) : Memref sig .tc .vmem S512x2048 .f32 := win0_3.stage (cfg0.slots t 3)
abbrev h3 (t : Fin cfg0.N) : (m3 t).IsWhole := hstage0_3 ((cfg0.slots t 3).cast nbuf0_3)
abbrev m4 (t : Fin cfg0.N) : Memref sig .tc .vmem S1x1x2048 .f32 := win0_4.stage (cfg0.slots t 4)
abbrev h4 (t : Fin cfg0.N) : (m4 t).IsWhole := hstage0_4 ((cfg0.slots t 4).cast nbuf0_4)
abbrev m5 (t : Fin cfg0.N) : Memref sig .tc .vmem S1x2048 .f32 := win0_5.stage (cfg0.slots t 5)
abbrev h5 (t : Fin cfg0.N) : (m5 t).IsWhole := hstage0_5 ((cfg0.slots t 5).cast nbuf0_5)
abbrev m6 (t : Fin cfg0.N) : Memref sig .tc .vmem S1x2048 .f32 := win0_6.stage (cfg0.slots t 6)
abbrev h6 (t : Fin cfg0.N) : (m6 t).IsWhole := hstage0_6 ((cfg0.slots t 6).cast nbuf0_6)
abbrev m7 (t : Fin cfg0.N) : Memref sig .tc .vmem S1x1x2048 .f32 := win0_7.stage (cfg0.slots t 7)
abbrev h7 (t : Fin cfg0.N) : (m7 t).IsWhole := hstage0_7 ((cfg0.slots t 7).cast nbuf0_7)
abbrev m8 (t : Fin cfg0.N) : Memref sig .tc .vmem S1x1x2048 .f32 := win0_8.stage (cfg0.slots t 8)
abbrev h8 (t : Fin cfg0.N) : (m8 t).IsWhole := hstage0_8 ((cfg0.slots t 8).cast nbuf0_8)
abbrev m9 (t : Fin cfg0.N) : Memref sig .tc .vmem S2048x128 .f32 := win0_9.stage (cfg0.slots t 9)
abbrev h9 (t : Fin cfg0.N) : (m9 t).IsWhole := hstage0_9 ((cfg0.slots t 9).cast nbuf0_9)
abbrev m10 (t : Fin cfg0.N) : Memref sig .tc .vmem S1x128 .f32 := win0_10.stage (cfg0.slots t 10)
abbrev h10 (t : Fin cfg0.N) : (m10 t).IsWhole := hstage0_10 ((cfg0.slots t 10).cast nbuf0_10)
abbrev m11 (t : Fin cfg0.N) : Memref sig .tc .vmem S512x2048 .f32 := win0_11.stage (cfg0.slots t 11)
abbrev h11 (t : Fin cfg0.N) : (m11 t).IsWhole := hstage0_11 ((cfg0.slots t 11).cast nbuf0_11)
abbrev m12 (t : Fin cfg0.N) : Memref sig .tc .vmem S8192x128 .f32 := win0_12.stage (cfg0.slots t 12)
abbrev h12 (t : Fin cfg0.N) : (m12 t).IsWhole := hstage0_12 ((cfg0.slots t 12).cast nbuf0_12)
abbrev m13 (t : Fin cfg0.N) : Memref sig .tc .vmem S512x128 .f32 := win0_13.stage (cfg0.slots t 13)
abbrev h13 (t : Fin cfg0.N) : (m13 t).IsWhole := hstage0_13 ((cfg0.slots t 13).cast nbuf0_13)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the pipeline is handed on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oX (iblk m c 0 t) (iblk m c 1 t) (iblk m c 2 t) (iblk m c 3 t) (iblk m c 4 t) (iblk m c 5 t)
    | ⟨12, _⟩ => oH (iblk m c 0 t) (iblk m c 1 t) (iblk m c 2 t) (iblk m c 3 t) (iblk m c 4 t) (iblk m c 5 t) (iblk m c 6 t) (iblk m c 7 t) (iblk m c 8 t)
    | ⟨13, _⟩ => oL (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem after_0 (c : Dev nD) (t : Fin cfg0.N) : (dats m 0 c).after (0 : Fin 14) t = iblk m c 0 t := rfl
/-- Input 0 holds its block, fetched at this point or at one before it. -/
theorem before_0 (c : Dev nD) (t : Fin cfg0.N) (d) : (dats m 0 c).before (0 : Fin 14) t d = iblk m c 0 t :=
  ((dats m 0 c).before_in_eq_fetched (0 : Fin 14) rfl (fun _ => rfl) (fun _ _ _ => rfl) (fun t => by rw [after_0]; unfold Dat.blockOf iblk; rfl) t d).trans
    (by unfold Dat.fetched Dat.blockOf iblk; rfl)

theorem after_1 (c : Dev nD) (t : Fin cfg0.N) : (dats m 0 c).after (1 : Fin 14) t = iblk m c 1 t := rfl
/-- Input 1 holds its block, fetched at this point or at one before it. -/
theorem before_1 (c : Dev nD) (t : Fin cfg0.N) (d) : (dats m 0 c).before (1 : Fin 14) t d = iblk m c 1 t :=
  ((dats m 0 c).before_in_eq_fetched (1 : Fin 14) rfl (fun _ => rfl) (fun _ _ _ => rfl) (fun t => by rw [after_1]; unfold Dat.blockOf iblk; rfl) t d).trans
    (by unfold Dat.fetched Dat.blockOf iblk; rfl)

theorem after_2 (c : Dev nD) (t : Fin cfg0.N) : (dats m 0 c).after (2 : Fin 14) t = iblk m c 2 t := rfl
/-- Input 2 holds its block, fetched at this point or at one before it. -/
theorem before_2 (c : Dev nD) (t : Fin cfg0.N) (d) : (dats m 0 c).before (2 : Fin 14) t d = iblk m c 2 t :=
  ((dats m 0 c).before_in_eq_fetched (2 : Fin 14) rfl (fun _ => rfl) (fun _ _ _ => rfl) (fun t => by rw [after_2]; unfold Dat.blockOf iblk; rfl) t d).trans
    (by unfold Dat.fetched Dat.blockOf iblk; rfl)

theorem after_3 (c : Dev nD) (t : Fin cfg0.N) : (dats m 0 c).after (3 : Fin 14) t = iblk m c 3 t := rfl
/-- Input 3 holds its block, fetched at this point or at one before it. -/
theorem before_3 (c : Dev nD) (t : Fin cfg0.N) (d) : (dats m 0 c).before (3 : Fin 14) t d = iblk m c 3 t :=
  ((dats m 0 c).before_in_eq_fetched (3 : Fin 14) rfl (fun _ => rfl) (fun _ _ _ => rfl) (fun t => by rw [after_3]; unfold Dat.blockOf iblk; rfl) t d).trans
    (by unfold Dat.fetched Dat.blockOf iblk; rfl)

theorem after_4 (c : Dev nD) (t : Fin cfg0.N) : (dats m 0 c).after (4 : Fin 14) t = iblk m c 4 t := rfl
/-- Input 4 holds its block, fetched at this point or at one before it. -/
theorem before_4 (c : Dev nD) (t : Fin cfg0.N) (d) : (dats m 0 c).before (4 : Fin 14) t d = iblk m c 4 t :=
  ((dats m 0 c).before_in_eq_fetched (4 : Fin 14) rfl (fun _ => rfl) (fun _ _ _ => rfl) (fun t => by rw [after_4]; unfold Dat.blockOf iblk; rfl) t d).trans
    (by unfold Dat.fetched Dat.blockOf iblk; rfl)

theorem after_5 (c : Dev nD) (t : Fin cfg0.N) : (dats m 0 c).after (5 : Fin 14) t = iblk m c 5 t := rfl
/-- Input 5 holds its block, fetched at this point or at one before it. -/
theorem before_5 (c : Dev nD) (t : Fin cfg0.N) (d) : (dats m 0 c).before (5 : Fin 14) t d = iblk m c 5 t :=
  ((dats m 0 c).before_in_eq_fetched (5 : Fin 14) rfl (fun _ => rfl) (fun _ _ _ => rfl) (fun t => by rw [after_5]; unfold Dat.blockOf iblk; rfl) t d).trans
    (by unfold Dat.fetched Dat.blockOf iblk; rfl)

theorem after_6 (c : Dev nD) (t : Fin cfg0.N) : (dats m 0 c).after (6 : Fin 14) t = iblk m c 6 t := rfl
/-- Input 6 holds its block, fetched at this point or at one before it. -/
theorem before_6 (c : Dev nD) (t : Fin cfg0.N) (d) : (dats m 0 c).before (6 : Fin 14) t d = iblk m c 6 t :=
  ((dats m 0 c).before_in_eq_fetched (6 : Fin 14) rfl (fun _ => rfl) (fun _ _ _ => rfl) (fun t => by rw [after_6]; unfold Dat.blockOf iblk; rfl) t d).trans
    (by unfold Dat.fetched Dat.blockOf iblk; rfl)

theorem after_7 (c : Dev nD) (t : Fin cfg0.N) : (dats m 0 c).after (7 : Fin 14) t = iblk m c 7 t := rfl
/-- Input 7 holds its block, fetched at this point or at one before it. -/
theorem before_7 (c : Dev nD) (t : Fin cfg0.N) (d) : (dats m 0 c).before (7 : Fin 14) t d = iblk m c 7 t :=
  ((dats m 0 c).before_in_eq_fetched (7 : Fin 14) rfl (fun _ => rfl) (fun _ _ _ => rfl) (fun t => by rw [after_7]; unfold Dat.blockOf iblk; rfl) t d).trans
    (by unfold Dat.fetched Dat.blockOf iblk; rfl)

theorem after_8 (c : Dev nD) (t : Fin cfg0.N) : (dats m 0 c).after (8 : Fin 14) t = iblk m c 8 t := rfl
/-- Input 8 holds its block, fetched at this point or at one before it. -/
theorem before_8 (c : Dev nD) (t : Fin cfg0.N) (d) : (dats m 0 c).before (8 : Fin 14) t d = iblk m c 8 t :=
  ((dats m 0 c).before_in_eq_fetched (8 : Fin 14) rfl (fun _ => rfl) (fun _ _ _ => rfl) (fun t => by rw [after_8]; unfold Dat.blockOf iblk; rfl) t d).trans
    (by unfold Dat.fetched Dat.blockOf iblk; rfl)

theorem after_9 (c : Dev nD) (t : Fin cfg0.N) : (dats m 0 c).after (9 : Fin 14) t = iblk m c 9 t := rfl
/-- Input 9 holds its block, fetched at this point or at one before it. -/
theorem before_9 (c : Dev nD) (t : Fin cfg0.N) (d) : (dats m 0 c).before (9 : Fin 14) t d = iblk m c 9 t :=
  ((dats m 0 c).before_in_eq_fetched (9 : Fin 14) rfl (fun _ => rfl) (fun _ _ _ => rfl) (fun t => by rw [after_9]; unfold Dat.blockOf iblk; rfl) t d).trans
    (by unfold Dat.fetched Dat.blockOf iblk; rfl)

theorem after_10 (c : Dev nD) (t : Fin cfg0.N) : (dats m 0 c).after (10 : Fin 14) t = iblk m c 10 t := rfl
/-- Input 10 holds its block, fetched at this point or at one before it. -/
theorem before_10 (c : Dev nD) (t : Fin cfg0.N) (d) : (dats m 0 c).before (10 : Fin 14) t d = iblk m c 10 t :=
  ((dats m 0 c).before_in_eq_fetched (10 : Fin 14) rfl (fun _ => rfl) (fun _ _ _ => rfl) (fun t => by rw [after_10]; unfold Dat.blockOf iblk; rfl) t d).trans
    (by unfold Dat.fetched Dat.blockOf iblk; rfl)

theorem after_11 (c : Dev nD) (t : Fin cfg0.N) : (dats m 0 c).after (11 : Fin 14) t = oX (iblk m c 0 t) (iblk m c 1 t) (iblk m c 2 t) (iblk m c 3 t) (iblk m c 4 t) (iblk m c 5 t) := by
  delta dats; rfl
theorem after_12 (c : Dev nD) (t : Fin cfg0.N) : (dats m 0 c).after (12 : Fin 14) t = oH (iblk m c 0 t) (iblk m c 1 t) (iblk m c 2 t) (iblk m c 3 t) (iblk m c 4 t) (iblk m c 5 t) (iblk m c 6 t) (iblk m c 7 t) (iblk m c 8 t) := by
  delta dats; rfl
theorem after_13 (c : Dev nD) (t : Fin cfg0.N) : (dats m 0 c).after (13 : Fin 14) t = oL (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  delta dats; rfl

/-- The body at a point, as the pipeline calls it. -/
abbrev bodyAt (t : Fin cfg0.N) : Prog (TpuEff nD τ sig (Elt F) Λ₀ .tc) PUnit :=
  cc0_out_proj (cfg0.grid.coords t) (m0 t) (h0 t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t)

set_option maxHeartbeats 8000000 in
/-- The body at a point. -/
theorem sound_body (c : Dev nD) (t : Fin cfg0.N) :
    iprop((dats m 0 c).Φ t.castSucc ∗ (dats m 0 c).owesAt () t.castSucc
        ∗ (∃ d, owns (c : Thread nD τ) (m0 t) fullShare ((dats m 0 c).before (0 : Fin 14) t d))
        ∗ (∃ d, owns (c : Thread nD τ) (m1 t) fullShare ((dats m 0 c).before (1 : Fin 14) t d))
        ∗ (∃ d, owns (c : Thread nD τ) (m2 t) fullShare ((dats m 0 c).before (2 : Fin 14) t d))
        ∗ (∃ d, owns (c : Thread nD τ) (m3 t) fullShare ((dats m 0 c).before (3 : Fin 14) t d))
        ∗ (∃ d, owns (c : Thread nD τ) (m4 t) fullShare ((dats m 0 c).before (4 : Fin 14) t d))
        ∗ (∃ d, owns (c : Thread nD τ) (m5 t) fullShare ((dats m 0 c).before (5 : Fin 14) t d))
        ∗ (∃ d, owns (c : Thread nD τ) (m6 t) fullShare ((dats m 0 c).before (6 : Fin 14) t d))
        ∗ (∃ d, owns (c : Thread nD τ) (m7 t) fullShare ((dats m 0 c).before (7 : Fin 14) t d))
        ∗ (∃ d, owns (c : Thread nD τ) (m8 t) fullShare ((dats m 0 c).before (8 : Fin 14) t d))
        ∗ (∃ d, owns (c : Thread nD τ) (m9 t) fullShare ((dats m 0 c).before (9 : Fin 14) t d))
        ∗ (∃ d, owns (c : Thread nD τ) (m10 t) fullShare ((dats m 0 c).before (10 : Fin 14) t d))
        ∗ (∃ d, owns (c : Thread nD τ) (m11 t) fullShare ((dats m 0 c).before (11 : Fin 14) t d))
        ∗ (∃ d, owns (c : Thread nD τ) (m12 t) fullShare ((dats m 0 c).before (12 : Fin 14) t d))
        ∗ (∃ d, owns (c : Thread nD τ) (m13 t) fullShare ((dats m 0 c).before (13 : Fin 14) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rewrite [show (dats m 0 c).owesAt () t.succ = (dats m 0 c).owesAt () t.castSucc from rfl, show (dats m 0 c).Φ t.succ = (dats m 0 c).Φ t.castSucc from rfl]
  simp only [before_0, before_1, before_2, before_3, before_4, before_5, before_6, before_7, before_8, before_9, before_10, after_0, after_1, after_2, after_3, after_4, after_5, after_6, after_7, after_8, after_9, after_10, after_11, after_12, after_13]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((run c (cfg0.grid.coords t) (m0 t) (h0 t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iexists _; iexact H11
  isplitl [H12]; · iexists _; iexact H12
  isplitl [H13]; · iexists _; iexact H13
  iintro ⟨H0, H1, H2, H3, H4, H5, H6, H7, H8, H9, H10, ⟨%f11, H11⟩, ⟨%f12, H12⟩, ⟨%f13, H13⟩⟩
  isplitl [HP]; · iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]
  · unfold owns; iexists _; isplitr; swap
    · iexact H11
    · ipureintro; exact run_x c _ _ _ _ _ _ _ _ _ _ _ _ _ _ _ _ _ _ _ _ _ _ _ _ _ _ _ _ _ _ _ _ _ _ _ _ _ _ _ _ _
  isplitl [H12]
  · unfold owns; iexists _; isplitr; swap
    · iexact H12
    · ipureintro; exact run_h c _ _ _ _ _ _ _ _ _ _ _ _ _ _ _ _ _ _ _ _ _ _ _ _ _ _ _ _ _ _ _ _ _ _ _ _ _ _ _ _ _
  unfold owns; iexists _; isplitr; swap
  · iexact H13
  · ipureintro; exact run_l c _ _ _ _ _ _ _ _ _ _ _ _ _ _ _ _ _ _ _ _ _ _ _ _ _ _ _ _ _ _ _ _ _ _ _ _ _ _ _ _ _

/-- The body at every point. -/
theorem body_obligation (c : Dev nD) : BodyObligation (dats m 0 c) (defs₀ (F := F)) Variants.none () Set.univ := fun t => by
  rw [bigSep_W0]
  exact sound_body m c t

theorem share_eq (c : Dev nD) (w : Fin cfg0.W) : (dats m 0 c).share w = fullShare := by unfold Dat.share; split <;> rfl

set_option backward.isDefEq.respectTransparency.types false in
set_option maxHeartbeats 4000000 in
/-- The run: every window's array ends at what the points wrote, every other buffer as it was at the launch, the counters at zero. -/
theorem run_frame : θ_run (defs (F := F)) (onTc (τ := τ) (main (F := F))) ⟨m, fun _ => 0, ρ⟩
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := share_eq m) (howed := fun _ _ => rfl)
    (V := V m) (hmain := hmain m) (hA := fun _ _ => rfl) (hin := fun _ => .rfl) (hout := fun _ => .rfl)
    (Q' := fun r => Pipeline.FramePost cfgs (dats m) 0 (V m) r ∧ r.2.sem = fun _ => 0) (hQ' := fun _ h => h)

/-- The run, its results the written arrays and its arguments as launched. -/
theorem run_args : θ_run (defs (F := F)) (onTc (τ := τ) (main (F := F))) ⟨m, fun _ => 0, ρ⟩
    (fun r => (∀ c : Dev nD,
      r.2.mem ((c.tc : Thread nD τ).loc main_v13_0) = (dats m 0 c).arrAt (11 : Fin 14) cfg0.N
      ∧ r.2.mem ((c.tc : Thread nD τ).loc main_v13_1) = (dats m 0 c).arrAt (12 : Fin 14) cfg0.N
      ∧ r.2.mem ((c.tc : Thread nD τ).loc main_v13_2) = (dats m 0 c).arrAt (13 : Fin 14) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run (defs (F := F)) _ _).mono (fun r h => ⟨fun c => ?_, h.2⟩) (run_frame m ρ)
  obtain ⟨hw, hr⟩ := h.1 c
  refine ⟨hw (11 : Fin 14), hw (12 : Fin 14), hw (13 : Fin 14), ?_, ?_, ?_, ?_, ?_, ?_, ?_, ?_, ?_, ?_, ?_, ?_, ?_⟩
  · exact (hr main_arg0 (show main_arg0 ∈ Pipeline.restRefs sig spec0 from by decide)).trans (V_arg m main_arg0 (by decide) c)
  · exact (hr main_arg1 (show main_arg1 ∈ Pipeline.restRefs sig spec0 from by decide)).trans (V_arg m main_arg1 (by decide) c)
  · exact (hr main_arg2 (show main_arg2 ∈ Pipeline.restRefs sig spec0 from by decide)).trans (V_arg m main_arg2 (by decide) c)
  · exact (hr main_arg3 (show main_arg3 ∈ Pipeline.restRefs sig spec0 from by decide)).trans (V_arg m main_arg3 (by decide) c)
  · exact (hw (4 : Fin 14)).trans (((dats m 0 c).arrAt_in (4 : Fin 14) rfl _).trans (V_arg m main_arg4 (by decide) c))
  · exact (hr main_arg5 (show main_arg5 ∈ Pipeline.restRefs sig spec0 from by decide)).trans (V_arg m main_arg5 (by decide) c)
  · exact (hr main_arg6 (show main_arg6 ∈ Pipeline.restRefs sig spec0 from by decide)).trans (V_arg m main_arg6 (by decide) c)
  · exact (hw (7 : Fin 14)).trans (((dats m 0 c).arrAt_in (7 : Fin 14) rfl _).trans (V_arg m main_arg7 (by decide) c))
  · exact (hw (8 : Fin 14)).trans (((dats m 0 c).arrAt_in (8 : Fin 14) rfl _).trans (V_arg m main_arg8 (by decide) c))
  · exact (hr main_arg9 (show main_arg9 ∈ Pipeline.restRefs sig spec0 from by decide)).trans (V_arg m main_arg9 (by decide) c)
  · exact (hr main_arg10 (show main_arg10 ∈ Pipeline.restRefs sig spec0 from by decide)).trans (V_arg m main_arg10 (by decide) c)
  · exact (hr main_arg11 (show main_arg11 ∈ Pipeline.restRefs sig spec0 from by decide)).trans (V_arg m main_arg11 (by decide) c)
  · exact (hr main_arg12 (show main_arg12 ∈ Pipeline.restRefs sig spec0 from by decide)).trans (V_arg m main_arg12 (by decide) c)

end Cert.Kernel5Ideal.Out

end
-- ==== Proof.OutVal.lean ====
/- The output projection's three arrays at their end, over the extended reals, as formulas of the arguments. -/
module

public import proofs.«01_k».proof.Proof.OutFrm
public import proofs.«01_k».proof.Proof.PrjVal
public import Idealize.ShloMosaic.Lib.Pointwise
public import Idealize.ShloMosaic.Lib.Pipeline.ReadBack
public import Idealize.ShloMosaic.Lib.StableHlo.ReadAt
public import Idealize.ShloMosaic.Lib.Pipeline.ValueKit.Geometry

@[expose] public section

set_option maxRecDepth 16384

noncomputable section

namespace Cert.Kernel5Ideal.Out

open Cert.Kernel5Ideal Cert.Kernel5Ideal.Gen
open Idealize.ShloMosaic
open Idealize.ShloMosaic.TcCoe Idealize.ShloMosaic.Tactic
open Idealize.SL Idealize.SL.Sem
open Cert.Kernel2Ideal.Prj (nrow nrow_congr idx2)

/-- A row of the product of the two halves' outputs with the two halves of the weights. -/
def yrow (a b : Fin 1024 → EReal) (p q : Fin 1024 → Fin 2048 → EReal) (j : Fin 2048) : EReal :=
  ∑ d : Fin 1024, a d * p d j + ∑ d : Fin 1024, b d * q d j

/-- A row added to a product's row, this normalized by its mean square, weighted and gated. -/
def prow (y x t g : Fin 2048 → EReal) (j : Fin 2048) : EReal :=
  x j + t j * (y j * Ideal.rsqrt (Ideal.div (∑ k : Fin 2048, y k * y k) (Ideal.ofBits .f32 0x45000000#32) + Ideal.ofBits .f32 0x358637BD#32) * g j)

/-- Row `R` of all the sequences' rows, with the projection added. -/
def xx (x : FVec Ideal S4x4096x2048 .f32) (a b : FVec Ideal S4x4096x1024 .f32) (w : FVec Ideal S2048x2048 .f32) (gt : FVec Ideal S4x1x2048 .f32) (gp : FVec Ideal S2048 .f32) (R : ℕ) (j : Fin 2048) : EReal :=
  prow (yrow (fun d => a (ix3 ⟨R / 4096 % 4, Nat.mod_lt _ (by decide)⟩ ⟨R % 4096, Nat.mod_lt _ (by decide)⟩ d))
      (fun d => b (ix3 ⟨R / 4096 % 4, Nat.mod_lt _ (by decide)⟩ ⟨R % 4096, Nat.mod_lt _ (by decide)⟩ d))
      (fun d j => w (ix2 ⟨d.val, by omega⟩ j)) (fun d j => w (ix2 ⟨1024 + d.val, by omega⟩ j)))
    (fun d => x (ix3 ⟨R / 4096 % 4, Nat.mod_lt _ (by decide)⟩ ⟨R % 4096, Nat.mod_lt _ (by decide)⟩ d))
    (fun d => gt (ix3 ⟨R / 4096 % 4, Nat.mod_lt _ (by decide)⟩ 0 d)) (fun d => gp (ix1 d)) j

/-- Row `R` of all the sequences' rows, normalized and modulated. -/
def hh (x : FVec Ideal S4x4096x2048 .f32) (a b : FVec Ideal S4x4096x1024 .f32) (w : FVec Ideal S2048x2048 .f32) (gt : FVec Ideal S4x1x2048 .f32) (gp : FVec Ideal S2048 .f32) (gf : FVec Ideal S2048 .f32) (sc sh : FVec Ideal S4x1x2048 .f32) (R : ℕ) (j : Fin 2048) : EReal :=
  nrow (xx x a b w gt gp R) (fun d => gf (ix1 d)) (fun d => sc (ix3 ⟨R / 4096 % 4, Nat.mod_lt _ (by decide)⟩ 0 d)) (fun d => sh (ix3 ⟨R / 4096 % 4, Nat.mod_lt _ (by decide)⟩ 0 d)) j

/-- The router's weights side by side, with zero columns after them. -/
def wr (wg : FVec Ideal S2048x4 .f32) (we : FVec Ideal S2048x32 .f32) (k : Fin 2048) (j : Fin 128) : EReal :=
  if h' : j.val < 36 then if h : j.val < 4 then wg (ix2 k ⟨j.val, h⟩) else we (ix2 k ⟨j.val - 4, by omega⟩) else (0 : EReal)
/-- The router's biases side by side, with zeros after them. -/
def br (bg : FVec Ideal S4 .f32) (be : FVec Ideal S32 .f32) (j : Fin 128) : EReal :=
  if h' : j.val < 36 then if h : j.val < 4 then bg (ix1 ⟨j.val, h⟩) else be (ix1 ⟨j.val - 4, by omega⟩) else (0 : EReal)

/-- The rows with the projection added. -/
def goalX (x : FVec Ideal S4x4096x2048 .f32) (a b : FVec Ideal S4x4096x1024 .f32) (w : FVec Ideal S2048x2048 .f32) (gt : FVec Ideal S4x1x2048 .f32) (gp : FVec Ideal S2048 .f32) : FVec Ideal S16384x2048 .f32 := fun i => xx x a b w gt gp (i 0).val ⟨(i 1).val, (i 1).isLt⟩

/-- The normalized rows, each as sixteen rows of 128. -/
def goalH (x : FVec Ideal S4x4096x2048 .f32) (a b : FVec Ideal S4x4096x1024 .f32) (w : FVec Ideal S2048x2048 .f32) (gt : FVec Ideal S4x1x2048 .f32) (gp : FVec Ideal S2048 .f32) (gf : FVec Ideal S2048 .f32) (sc sh : FVec Ideal S4x1x2048 .f32) : FVec Ideal S262144x128 .f32 := fun i =>
  hh x a b w gt gp gf sc sh ((i 0).val / 16) ⟨128 * ((i 0).val % 16) + (i 1).val, by have : (i 1).val < 128 := (i 1).isLt; omega⟩

/-- The router's scores. -/
def goalL (x : FVec Ideal S4x4096x2048 .f32) (a b : FVec Ideal S4x4096x1024 .f32) (w : FVec Ideal S2048x2048 .f32) (gt : FVec Ideal S4x1x2048 .f32) (gp : FVec Ideal S2048 .f32) (gf : FVec Ideal S2048 .f32) (sc sh : FVec Ideal S4x1x2048 .f32) (wg : FVec Ideal S2048x4 .f32) (bg : FVec Ideal S4 .f32) (we : FVec Ideal S2048x32 .f32) (be : FVec Ideal S32 .f32) : FVec Ideal S16384x128 .f32 := fun i =>
  (∑ k : Fin 2048, hh x a b w gt gp gf sc sh (i 0).val k * wr wg we k ⟨(i 1).val, (i 1).isLt⟩ + br bg be ⟨(i 1).val, (i 1).isLt⟩ : EReal)

/-! The body's operations at an index. -/

theorem pay2_at (v0 : Vec Ideal S512x1024 .bf16) (v2 : Vec Ideal S1024x2048 .bf16) (v5 : Vec Ideal S512x1024 .bf16) (v7 : Vec Ideal S1024x2048 .bf16)
    (v11 : Vec Ideal S512x2048 .f32) (v13 : Vec Ideal S1x1x2048 .f32) (v25 : Vec Ideal S1x2048 .f32) (r : Fin 512) (j : Fin 2048) :
    k0_pay2 (F := Ideal) v0 v2 v5 v7 v11 v13 v25 (ix2 r j)
      = prow (yrow (fun d => v0 (ix2 r d)) (fun d => v5 (ix2 r d)) (fun d j => v2 (ix2 d j)) (fun d j => v7 (ix2 d j)))
          (fun d => v11 (ix2 r d)) (fun d => v13 (ix3 0 0 d)) (fun d => v25 (ix2 0 d)) j := by
  pointwise [k0_pay2, prow, yrow]

theorem pay3_at (v0 : Vec Ideal S512x1024 .bf16) (v2 : Vec Ideal S1024x2048 .bf16) (v5 : Vec Ideal S512x1024 .bf16) (v7 : Vec Ideal S1024x2048 .bf16)
    (v11 : Vec Ideal S512x2048 .f32) (v13 : Vec Ideal S1x1x2048 .f32) (v25 : Vec Ideal S1x2048 .f32) (r : Fin 512) :
    k0_pay3 (F := Ideal) v0 v2 v5 v7 v11 v13 v25 (ix1 r)
      = ∑ k : Fin 2048, (k0_pay2 (F := Ideal) v0 v2 v5 v7 v11 v13 v25 (ix2 r k) * k0_pay2 (F := Ideal) v0 v2 v5 v7 v11 v13 v25 (ix2 r k) : EReal) := by
  unfold k0_pay3
  generalize k0_pay2 (F := Ideal) v0 v2 v5 v7 v11 v13 v25 = p
  pointwise

theorem pay4_at (v31 : FVec Ideal S512x2048 .f32) (v34 : FVec Ideal S512 .f32) (v43 : Vec Ideal S1x2048 .f32) (v47 v53 : Vec Ideal S1x1x2048 .f32)
    (r : Fin 512) (j : Fin 2048) (hq : v34 (ix1 r) = ∑ k : Fin 2048, (v31 (ix2 r k) * v31 (ix2 r k) : EReal)) :
    k0_pay4 (F := Ideal) v31 v34 v43 v47 v53 (ix2 r j)
      = nrow (fun d => v31 (ix2 r d)) (fun d => v43 (ix2 0 d)) (fun d => v47 (ix3 0 0 d)) (fun d => v53 (ix3 0 0 d)) j := by
  unfold nrow
  rw [← hq]
  pointwise [k0_pay4]

theorem pay5_at (v31 : FVec Ideal S512x2048 .f32) (v34 : FVec Ideal S512 .f32) (v43 : Vec Ideal S1x2048 .f32) (v47 v53 : Vec Ideal S1x1x2048 .f32)
    (v57 : Vec Ideal S2048x128 .f32) (v60 : Vec Ideal S1x128 .f32) (r : Fin 512) (j : Fin 128) :
    k0_pay5 (F := Ideal) v31 v34 v43 v47 v53 v57 v60 (ix2 r j)
      = (∑ k : Fin 2048, k0_pay4 (F := Ideal) v31 v34 v43 v47 v53 (ix2 r k) * v57 (ix2 k j) + v60 (ix2 0 j) : EReal) := by
  unfold k0_pay5
  generalize k0_pay4 (F := Ideal) v31 v34 v43 v47 v53 = p
  pointwise

variable (m : (ℓ : Loc nD τ sig) → Buf (Elt Ideal) ℓ)

/-! What the host hands the pipeline. -/

theorem oa_at (c : Dev nD) (r : Fin 16384) (d : Fin 1024) :
    V m c main_v6 (ix2 r d) = m ((c : Thread nD τ).loc main_arg1) (ix3 ⟨r.val / 4096, by omega⟩ ⟨r.val % 4096, by omega⟩ d) := by
  simp only [V, hostOps0, hostOps0_1, hostOps0_2, hostOps0_3, hostOps0_4, List.flatten_cons, List.flatten_nil, List.append_nil, List.cons_append, List.nil_append]
  after_results_simp
  pointwise

theorem ob_at (c : Dev nD) (r : Fin 16384) (d : Fin 1024) :
    V m c main_v8 (ix2 r d) = m ((c : Thread nD τ).loc main_arg2) (ix3 ⟨r.val / 4096, by omega⟩ ⟨r.val % 4096, by omega⟩ d) := by
  simp only [V, hostOps0, hostOps0_1, hostOps0_2, hostOps0_3, hostOps0_4, List.flatten_cons, List.flatten_nil, List.append_nil, List.cons_append, List.nil_append]
  after_results_simp
  pointwise

theorem x_at (c : Dev nD) (r : Fin 16384) (d : Fin 2048) :
    V m c main_v10 (ix2 r d) = m ((c : Thread nD τ).loc main_arg0) (ix3 ⟨r.val / 4096, by omega⟩ ⟨r.val % 4096, by omega⟩ d) := by
  simp only [V, hostOps0, hostOps0_1, hostOps0_2, hostOps0_3, hostOps0_4, List.flatten_cons, List.flatten_nil, List.append_nil, List.cons_append, List.nil_append]
  after_results_simp
  pointwise

theorem gp_at (c : Dev nD) (d : Fin 2048) : V m c main_v11 (ix2 0 d) = m ((c : Thread nD τ).loc main_arg5) (ix1 d) := by
  simp only [V, hostOps0, hostOps0_1, hostOps0_2, hostOps0_3, hostOps0_4, List.flatten_cons, List.flatten_nil, List.append_nil, List.cons_append, List.nil_append]
  after_results_simp
  pointwise

theorem gf_at (c : Dev nD) (d : Fin 2048) : V m c main_v12 (ix2 0 d) = m ((c : Thread nD τ).loc main_arg6) (ix1 d) := by
  simp only [V, hostOps0, hostOps0_1, hostOps0_2, hostOps0_3, hostOps0_4, List.flatten_cons, List.flatten_nil, List.append_nil, List.cons_append, List.nil_append]
  after_results_simp
  pointwise

theorem w_at (c : Dev nD) (r d : Fin 2048) : V m c main_v9 (ix2 r d) = m ((c : Thread nD τ).loc main_arg3) (ix2 r d) := by
  simp only [V, hostOps0, hostOps0_1, hostOps0_2, hostOps0_3, hostOps0_4, List.flatten_cons, List.flatten_nil, List.append_nil, List.cons_append, List.nil_append]
  after_results_simp
  pointwise

theorem wr_at (c : Dev nD) (k : Fin 2048) (j : Fin 128) :
    V m c main_v1 (ix2 k j) = wr (m ((c : Thread nD τ).loc main_arg9)) (m ((c : Thread nD τ).loc main_arg11)) k j := by
  unfold wr
  simp only [V, hostOps0, hostOps0_1, hostOps0_2, hostOps0_3, hostOps0_4, List.flatten_cons, List.flatten_nil, List.append_nil, List.cons_append, List.nil_append]
  after_reads_at
  all_goals try after_reads_simp
  all_goals simp [FloatOps.sitofp]

theorem br_at (c : Dev nD) (j : Fin 128) :
    V m c main_v4 (ix2 0 j) = br (m ((c : Thread nD τ).loc main_arg10)) (m ((c : Thread nD τ).loc main_arg12)) j := by
  unfold br
  simp only [V, hostOps0, hostOps0_1, hostOps0_2, hostOps0_3, hostOps0_4, List.flatten_cons, List.flatten_nil, List.append_nil, List.cons_append, List.nil_append]
  after_reads_at
  all_goals try after_reads_simp
  all_goals simp [FloatOps.sitofp]

/-! The blocks the points read and write. -/

theorem N_lt (t : Fin cfg0.N) : t.val < 32 := lt_of_lt_of_eq t.isLt N_0

theorem ix_0 (t : Fin cfg0.N) : cc0_transform_0 (cfg0.grid.coords t) 0 = t.val := (by decide +kernel : ∀ t : Fin grid0.N, cc0_transform_0 (grid0.coords t) 0 = t.val) t
theorem ix_1 (t : Fin cfg0.N) : cc0_transform_1 (cfg0.grid.coords t) 0 = t.val := (by decide +kernel : ∀ t : Fin grid0.N, cc0_transform_1 (grid0.coords t) 0 = t.val) t
theorem ix_3 (t : Fin cfg0.N) : cc0_transform_3 (cfg0.grid.coords t) 0 = t.val := (by decide +kernel : ∀ t : Fin grid0.N, cc0_transform_3 (grid0.coords t) 0 = t.val) t
theorem ix_11 (t : Fin cfg0.N) : cc0_transform_11 (cfg0.grid.coords t) 0 = t.val := (by decide +kernel : ∀ t : Fin grid0.N, cc0_transform_11 (grid0.coords t) 0 = t.val) t
theorem ix_12 (t : Fin cfg0.N) : cc0_transform_12 (cfg0.grid.coords t) 0 = t.val := (by decide +kernel : ∀ t : Fin grid0.N, cc0_transform_12 (grid0.coords t) 0 = t.val) t
theorem ix_13 (t : Fin cfg0.N) : cc0_transform_13 (cfg0.grid.coords t) 0 = t.val := (by decide +kernel : ∀ t : Fin grid0.N, cc0_transform_13 (grid0.coords t) 0 = t.val) t
theorem ix_4 (t : Fin cfg0.N) : cc0_transform_4 (cfg0.grid.coords t) 0 = t.val / 8 := (by decide +kernel : ∀ t : Fin grid0.N, cc0_transform_4 (grid0.coords t) 0 = t.val / 8) t
theorem ix_7 (t : Fin cfg0.N) : cc0_transform_7 (cfg0.grid.coords t) 0 = t.val / 8 := (by decide +kernel : ∀ t : Fin grid0.N, cc0_transform_7 (grid0.coords t) 0 = t.val / 8) t
theorem ix_8 (t : Fin cfg0.N) : cc0_transform_8 (cfg0.grid.coords t) 0 = t.val / 8 := (by decide +kernel : ∀ t : Fin grid0.N, cc0_transform_8 (grid0.coords t) 0 = t.val / 8) t

theorem blk0 (c : Dev nD) (t : Fin cfg0.N) (r : Fin 512) (d : Fin 1024) :
    iblk m c 0 t (ix2 r d) = V m c main_v6 (ix2 ⟨512 * t.val + r.val, by have := N_lt t; omega⟩ d) := by
  unfold iblk
  show V m c main_v6 _ = _
  refine congrArg (V m c main_v6) (funext fun a => Fin.ext ?_)
  match a with
  | ⟨0, _⟩ =>
    refine (show _ = cc0_transform_0 (cfg0.grid.coords t) 0 * 512 + 1 * r.val from rfl).trans ?_
    rw [ix_0]
    show _ = 512 * t.val + r.val
    omega
  | ⟨1, _⟩ =>
    show 0 * 1024 + 1 * d.val = d.val
    omega

theorem blk1 (c : Dev nD) (t : Fin cfg0.N) (r : Fin 512) (d : Fin 1024) :
    iblk m c 1 t (ix2 r d) = V m c main_v8 (ix2 ⟨512 * t.val + r.val, by have := N_lt t; omega⟩ d) := by
  unfold iblk
  show V m c main_v8 _ = _
  refine congrArg (V m c main_v8) (funext fun a => Fin.ext ?_)
  match a with
  | ⟨0, _⟩ =>
    refine (show _ = cc0_transform_1 (cfg0.grid.coords t) 0 * 512 + 1 * r.val from rfl).trans ?_
    rw [ix_1]
    show _ = 512 * t.val + r.val
    omega
  | ⟨1, _⟩ =>
    show 0 * 1024 + 1 * d.val = d.val
    omega

theorem blk3 (c : Dev nD) (t : Fin cfg0.N) (r : Fin 512) (d : Fin 2048) :
    iblk m c 3 t (ix2 r d) = V m c main_v10 (ix2 ⟨512 * t.val + r.val, by have := N_lt t; omega⟩ d) := by
  unfold iblk
  show V m c main_v10 _ = _
  refine congrArg (V m c main_v10) (funext fun a => Fin.ext ?_)
  match a with
  | ⟨0, _⟩ =>
    refine (show _ = cc0_transform_3 (cfg0.grid.coords t) 0 * 512 + 1 * r.val from rfl).trans ?_
    rw [ix_3]
    show _ = 512 * t.val + r.val
    omega
  | ⟨1, _⟩ =>
    show 0 * 2048 + 1 * d.val = d.val
    omega

theorem blk2 (c : Dev nD) (t : Fin cfg0.N) (r : Fin 2048) (d : Fin 2048) : iblk m c 2 t (ix2 r d) = V m c main_v9 (ix2 r d) := by
  unfold iblk
  show V m c main_v9 _ = _
  refine congrArg (V m c main_v9) (funext fun a => Fin.ext ?_)
  match a with
  | ⟨0, _⟩ =>
    show 0 * 2048 + 1 * r.val = r.val
    omega
  | ⟨1, _⟩ =>
    show 0 * 2048 + 1 * d.val = d.val
    omega

theorem blk9 (c : Dev nD) (t : Fin cfg0.N) (r : Fin 2048) (d : Fin 128) : iblk m c 9 t (ix2 r d) = V m c main_v1 (ix2 r d) := by
  unfold iblk
  show V m c main_v1 _ = _
  refine congrArg (V m c main_v1) (funext fun a => Fin.ext ?_)
  match a with
  | ⟨0, _⟩ =>
    show 0 * 2048 + 1 * r.val = r.val
    omega
  | ⟨1, _⟩ =>
    show 0 * 128 + 1 * d.val = d.val
    omega

theorem blk5 (c : Dev nD) (t : Fin cfg0.N) (d : Fin 2048) : iblk m c 5 t (ix2 0 d) = V m c main_v11 (ix2 0 d) := by
  unfold iblk
  show V m c main_v11 _ = _
  refine congrArg (V m c main_v11) (funext fun a => Fin.ext ?_)
  match a with
  | ⟨0, _⟩ => rfl
  | ⟨1, _⟩ =>
    show 0 * 2048 + 1 * d.val = d.val
    omega

theorem blk6 (c : Dev nD) (t : Fin cfg0.N) (d : Fin 2048) : iblk m c 6 t (ix2 0 d) = V m c main_v12 (ix2 0 d) := by
  unfold iblk
  show V m c main_v12 _ = _
  refine congrArg (V m c main_v12) (funext fun a => Fin.ext ?_)
  match a with
  | ⟨0, _⟩ => rfl
  | ⟨1, _⟩ =>
    show 0 * 2048 + 1 * d.val = d.val
    omega

theorem blk10 (c : Dev nD) (t : Fin cfg0.N) (d : Fin 128) : iblk m c 10 t (ix2 0 d) = V m c main_v4 (ix2 0 d) := by
  unfold iblk
  show V m c main_v4 _ = _
  refine congrArg (V m c main_v4) (funext fun a => Fin.ext ?_)
  match a with
  | ⟨0, _⟩ => rfl
  | ⟨1, _⟩ =>
    show 0 * 128 + 1 * d.val = d.val
    omega

theorem blk4 (c : Dev nD) (t : Fin cfg0.N) (d : Fin 2048) :
    iblk m c 4 t (ix3 0 0 d) = m ((c : Thread nD τ).loc main_arg4) (ix3 ⟨t.val / 8, by have := N_lt t; omega⟩ 0 d) := by
  unfold iblk
  refine (congrFun (congrArg (View.read (Elt Ideal) ((cfg0.win (4 : Fin 14)).blk t).view) (V_arg m main_arg4 (by decide) c)) _).trans ?_
  show m _ _ = _
  refine congrArg (m ((c : Thread nD τ).loc main_arg4)) (funext fun a => Fin.ext ?_)
  match a with
  | ⟨0, _⟩ =>
    refine (show _ = cc0_transform_4 (cfg0.grid.coords t) 0 * 1 + 1 * 0 from rfl).trans ?_
    rw [ix_4]
    show _ = t.val / 8
    omega
  | ⟨1, _⟩ => rfl
  | ⟨2, _⟩ =>
    show 0 * 2048 + 1 * d.val = d.val
    omega

theorem blk7 (c : Dev nD) (t : Fin cfg0.N) (d : Fin 2048) :
    iblk m c 7 t (ix3 0 0 d) = m ((c : Thread nD τ).loc main_arg7) (ix3 ⟨t.val / 8, by have := N_lt t; omega⟩ 0 d) := by
  unfold iblk
  refine (congrFun (congrArg (View.read (Elt Ideal) ((cfg0.win (7 : Fin 14)).blk t).view) (V_arg m main_arg7 (by decide) c)) _).trans ?_
  show m _ _ = _
  refine congrArg (m ((c : Thread nD τ).loc main_arg7)) (funext fun a => Fin.ext ?_)
  match a with
  | ⟨0, _⟩ =>
    refine (show _ = cc0_transform_7 (cfg0.grid.coords t) 0 * 1 + 1 * 0 from rfl).trans ?_
    rw [ix_7]
    show _ = t.val / 8
    omega
  | ⟨1, _⟩ => rfl
  | ⟨2, _⟩ =>
    show 0 * 2048 + 1 * d.val = d.val
    omega

theorem blk8 (c : Dev nD) (t : Fin cfg0.N) (d : Fin 2048) :
    iblk m c 8 t (ix3 0 0 d) = m ((c : Thread nD τ).loc main_arg8) (ix3 ⟨t.val / 8, by have := N_lt t; omega⟩ 0 d) := by
  unfold iblk
  refine (congrFun (congrArg (View.read (Elt Ideal) ((cfg0.win (8 : Fin 14)).blk t).view) (V_arg m main_arg8 (by decide) c)) _).trans ?_
  show m _ _ = _
  refine congrArg (m ((c : Thread nD τ).loc main_arg8)) (funext fun a => Fin.ext ?_)
  match a with
  | ⟨0, _⟩ =>
    refine (show _ = cc0_transform_8 (cfg0.grid.coords t) 0 * 1 + 1 * 0 from rfl).trans ?_
    rw [ix_8]
    show _ = t.val / 8
    omega
  | ⟨1, _⟩ => rfl
  | ⟨2, _⟩ =>
    show 0 * 2048 + 1 * d.val = d.val
    omega

abbrev XX (c : Dev nD) (R : ℕ) (j : Fin 2048) : EReal := xx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R j
abbrev HH (c : Dev nD) (R : ℕ) (j : Fin 2048) : EReal := hh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R j

theorem ix3_eq {α : Type} {n : ℕ} (x : (⟨3, ![4, 4096, n]⟩ : Shape).Idx → α) (a a' : Fin 4) (b b' : Fin 4096) (d : Fin n) (ha : a.val = a'.val) (hb : b.val = b'.val) :
    x (ix3 a b d) = x (ix3 a' b' d) := by
  rw [Fin.ext ha, Fin.ext hb]

theorem ix3_eq' {α : Type} (x : S4x1x2048.Idx → α) (a a' : Fin 4) (d : Fin 2048) (ha : a.val = a'.val) : x (ix3 a 0 d) = x (ix3 a' 0 d) := by
  rw [Fin.ext ha]

theorem prow_congr {y y' x x' t t' g g' : Fin 2048 → EReal} (ey : ∀ d, y d = y' d) (ex : ∀ d, x d = x' d) (et : ∀ d, t d = t' d)
    (eg : ∀ d, g d = g' d) (j : Fin 2048) : prow y x t g j = prow y' x' t' g' j := by
  rw [funext ey, funext ex, funext et, funext eg]

theorem yrow_congr {a a' b b' : Fin 1024 → EReal} {p p' q q' : Fin 1024 → Fin 2048 → EReal} (ea : ∀ d, a d = a' d) (eb : ∀ d, b d = b' d)
    (ep : ∀ d j, p d j = p' d j) (eq : ∀ d j, q d j = q' d j) (j : Fin 2048) : yrow a b p q j = yrow a' b' p' q' j := by
  rw [funext ea, funext eb, funext fun d => funext (ep d), funext fun d => funext (eq d)]

theorem wT_at (v : S2048x2048.Idx → Elt Ideal .bf16) (d : Fin 1024) (j : Fin 2048) : wT (F := Ideal) v (ix2 d j) = v (ix2 ⟨d.val, by omega⟩ j) := by
  unfold wT
  refine congrArg v (funext fun a => Fin.ext ?_)
  match a with
  | ⟨0, _⟩ => show 0 + 1 * d.val = d.val; omega
  | ⟨1, _⟩ => show 0 + 1 * j.val = j.val; omega
theorem wB_at (v : S2048x2048.Idx → Elt Ideal .bf16) (d : Fin 1024) (j : Fin 2048) : wB (F := Ideal) v (ix2 d j) = v (ix2 ⟨1024 + d.val, by omega⟩ j) := by
  unfold wB
  refine congrArg v (funext fun a => Fin.ext ?_)
  match a with
  | ⟨0, _⟩ => show 1024 + 1 * d.val = 1024 + d.val; omega
  | ⟨1, _⟩ => show 0 + 1 * j.val = j.val; omega

/-- The first output's block at a point is its rows. -/
theorem oX_at (c : Dev nD) (t : Fin cfg0.N) (r : Fin 512) (j : Fin 2048) :
    oX (F := Ideal) (iblk m c 0 t) (iblk m c 1 t) (iblk m c 2 t) (iblk m c 3 t) (iblk m c 4 t) (iblk m c 5 t) (ix2 r j) = XX m c (512 * t.val + r.val) j := by
  have ht := N_lt t
  have hr := r.isLt
  have e1 : (512 * t.val + r.val) / 4096 = (512 * t.val + r.val) / 4096 % 4 := by omega
  have e8 : t.val / 8 = (512 * t.val + r.val) / 4096 % 4 := by omega
  unfold oX
  refine (pay2_at _ _ _ _ _ _ _ r j).trans (prow_congr (fun j => yrow_congr ?_ ?_ ?_ ?_ j) ?_ ?_ ?_ j)
  · intro d
    exact (blk0 m c t r d).trans ((oa_at m c _ d).trans (ix3_eq _ _ _ _ _ d e1 rfl))
  · intro d
    exact (blk1 m c t r d).trans ((ob_at m c _ d).trans (ix3_eq _ _ _ _ _ d e1 rfl))
  · intro d j
    exact (wT_at _ d j).trans ((blk2 m c t _ j).trans (w_at m c _ j))
  · intro d j
    exact (wB_at _ d j).trans ((blk2 m c t _ j).trans (w_at m c _ j))
  · intro d
    exact (blk3 m c t r d).trans ((x_at m c _ d).trans (ix3_eq _ _ _ _ _ d e1 rfl))
  · intro d
    exact (blk4 m c t d).trans (ix3_eq' _ _ _ d e8)
  · intro d
    exact (blk5 m c t d).trans (gp_at m c d)

/-- The normalized rows at a point. -/
theorem oN_at (c : Dev nD) (t : Fin cfg0.N) (r : Fin 512) (j : Fin 2048) :
    oN (F := Ideal) (iblk m c 0 t) (iblk m c 1 t) (iblk m c 2 t) (iblk m c 3 t) (iblk m c 4 t) (iblk m c 5 t) (iblk m c 6 t) (iblk m c 7 t) (iblk m c 8 t) (ix2 r j) = HH m c (512 * t.val + r.val) j := by
  have ht := N_lt t
  have hr := r.isLt
  have e8 : t.val / 8 = (512 * t.val + r.val) / 4096 % 4 := by omega
  unfold oN
  refine (pay4_at _ _ _ _ _ r j (pay3_at _ _ _ _ _ _ _ r)).trans (nrow_congr ?_ ?_ ?_ ?_ j)
  · intro d
    exact oX_at m c t r d
  · intro d
    exact (blk6 m c t d).trans (gf_at m c d)
  · intro d
    exact (blk7 m c t d).trans (ix3_eq' _ _ _ d e8)
  · intro d
    exact (blk8 m c t d).trans (ix3_eq' _ _ _ d e8)

theorem emb11 (t : Fin cfg0.N) (r : Fin 512) (j : Fin 2048) :
    ((cfg0.win (11 : Fin 14)).blk t).view.emb (ix2 r j) = (ix2 (⟨512 * t.val + r.val, by have := N_lt t; omega⟩ : Fin 16384) j : S16384x2048.Idx) := by
  funext a
  refine Fin.ext ?_
  match a with
  | ⟨0, _⟩ =>
    refine (show _ = cc0_transform_11 (cfg0.grid.coords t) 0 * 512 + 1 * r.val from rfl).trans ?_
    rw [ix_11]
    show _ = 512 * t.val + r.val
    omega
  | ⟨1, _⟩ =>
    show 0 * 2048 + 1 * j.val = j.val
    omega

theorem cov11 : (cfg0.win (11 : Fin 14)).Covers := by decide +kernel

theorem emb12 (t : Fin cfg0.N) (r : Fin 8192) (j : Fin 128) :
    ((cfg0.win (12 : Fin 14)).blk t).view.emb (ix2 r j) = (ix2 (⟨8192 * t.val + r.val, by have := N_lt t; omega⟩ : Fin 262144) j : S262144x128.Idx) := by
  funext a
  refine Fin.ext ?_
  match a with
  | ⟨0, _⟩ =>
    refine (show _ = cc0_transform_12 (cfg0.grid.coords t) 0 * 8192 + 1 * r.val from rfl).trans ?_
    rw [ix_12]
    show _ = 8192 * t.val + r.val
    omega
  | ⟨1, _⟩ =>
    show 0 * 128 + 1 * j.val = j.val
    omega

theorem cov12 : (cfg0.win (12 : Fin 14)).Covers := by decide +kernel

theorem emb13 (t : Fin cfg0.N) (r : Fin 512) (j : Fin 128) :
    ((cfg0.win (13 : Fin 14)).blk t).view.emb (ix2 r j) = (ix2 (⟨512 * t.val + r.val, by have := N_lt t; omega⟩ : Fin 16384) j : S16384x128.Idx) := by
  funext a
  refine Fin.ext ?_
  match a with
  | ⟨0, _⟩ =>
    refine (show _ = cc0_transform_13 (cfg0.grid.coords t) 0 * 512 + 1 * r.val from rfl).trans ?_
    rw [ix_13]
    show _ = 512 * t.val + r.val
    omega
  | ⟨1, _⟩ =>
    show 0 * 128 + 1 * j.val = j.val
    omega

theorem cov13 : (cfg0.win (13 : Fin 14)).Covers := by decide +kernel

/-- The first result at its end. -/
theorem arrX_eq (c : Dev nD) : (dats m 0 c).arrAt (11 : Fin 14) cfg0.N
    = goalX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers (11 : Fin 14) _ cov11 fun t hf y => ?_
  refine (cast_eq _ _).trans ?_
  rw [after_11]
  obtain ⟨r, j, rfl⟩ : ∃ (r : Fin 512) (j : Fin 2048), y = (ix2 r j : S512x2048.Idx) := ⟨_, _, idx2 (n := 512) (k := 2048) y⟩
  refine Eq.trans ?_ (congrArg (goalX _ _ _ _ _ _) (emb11 t r j).symm)
  exact oX_at m c t r j

/-- The second result at its end. -/
theorem arrH_eq (c : Dev nD) : (dats m 0 c).arrAt (12 : Fin 14) cfg0.N
    = goalH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers (12 : Fin 14) _ cov12 fun t hf y => ?_
  refine (cast_eq _ _).trans ?_
  rw [after_12]
  obtain ⟨r, j, rfl⟩ : ∃ (r : Fin 8192) (j : Fin 128), y = (ix2 r j : S8192x128.Idx) := ⟨_, _, idx2 (n := 8192) (k := 128) y⟩
  refine Eq.trans ?_ (congrArg (goalH _ _ _ _ _ _ _ _ _) (emb12 t r j).symm)
  have ht := N_lt t
  have hr := r.isLt
  have hj := j.isLt
  have e : ∀ (R R' : ℕ) (k k' : Fin 2048), R = R' → k = k' → HH m c R k = HH m c R' k' := fun R R' k k' h h' => by rw [h, h']
  refine Eq.trans ?_ ((oN_at m c t ⟨r.val / 16, by omega⟩ ⟨128 * (r.val % 16) + j.val, by omega⟩).trans (e _ ((8192 * t.val + r.val) / 16) _ ⟨128 * ((8192 * t.val + r.val) % 16) + j.val, by omega⟩ ?_ (Fin.ext ?_)))
  · unfold oH
    refine congrArg (oN _ _ _ _ _ _ _ _ _) (funext fun a => ?_)
    match a with
    | ⟨0, _⟩ => rfl
    | ⟨1, _⟩ => rfl
  · show 512 * t.val + r.val / 16 = (8192 * t.val + r.val) / 16
    omega
  · show 128 * (r.val % 16) + j.val = 128 * ((8192 * t.val + r.val) % 16) + j.val
    omega

/-- The third result at its end. -/
theorem arrL_eq (c : Dev nD) : (dats m 0 c).arrAt (13 : Fin 14) cfg0.N
    = goalL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers (13 : Fin 14) _ cov13 fun t hf y => ?_
  refine (cast_eq _ _).trans ?_
  rw [after_13]
  obtain ⟨r, j, rfl⟩ : ∃ (r : Fin 512) (j : Fin 128), y = (ix2 r j : S512x128.Idx) := ⟨_, _, idx2 (n := 512) (k := 128) y⟩
  refine Eq.trans ?_ (congrArg (goalL _ _ _ _ _ _ _ _ _ _ _ _ _) (emb13 t r j).symm)
  refine (pay5_at _ _ _ _ _ _ _ r j).trans ?_
  unfold goalL
  refine congr (congrArg HAdd.hAdd (Finset.sum_congr rfl fun k _ => ?_)) ((blk10 m c t j).trans (br_at m c j))
  exact congr (congrArg HMul.hMul (oN_at m c t r k)) ((blk9 m c t k j).trans (wr_at m c k j))

end Cert.Kernel5Ideal.Out

end
-- ==== Proof.OutRef.lean ====
/- The plain output projection, read at an index: its three arrays are `goalX`, `goalH` and `goalL`. -/
module

public import proofs.«01_k».proof.Proof.OutVal
public import proofs.«01_k».proof.Proof.Gen.Reference5Ideal.Run

@[expose] public section

set_option maxRecDepth 16384

noncomputable section

/-! The plain program's output projection, read at an index. -/

namespace Cert.Reference5Ideal.Ref

open Idealize.ShloMosaic Idealize.ShloMosaic.TcCoe Idealize.ShloMosaic.Tactic Cert.Reference5Ideal Cert.Reference5Ideal.Gen
open Cert.Kernel2Ideal.Prj (nrow)
open Cert.Kernel5Ideal.Out (yrow prow xx hh wr br goalX goalH goalL)

/-- The product of the two mixers' outputs, side by side, with the weights. -/
def yR (a b : FVec Ideal S4x4096x1024 .f32) (w : FVec Ideal S2048x2048 .f32) : FVec Ideal S4x4096x2048 .f32 :=
  Host.dotGeneral dot_S4x4096x2048_S2048x2048_S4x4096x2048_2_0_01_1_n_n none (concatenate S4x4096x2048 2 [⟨S4x4096x1024, a⟩, ⟨S4x4096x1024, b⟩] concatenates_S4x4096x1024_S4x4096x1024_S4x4096x2048_d2) w

theorem yR_sum (a b : FVec Ideal S4x4096x1024 .f32) (w : FVec Ideal S2048x2048 .f32) (s : Fin 4) (t : Fin 4096) (j : Fin 2048) :
    yR a b w (ix3 s t j) = ∑ k : Fin 2048, ((if h : k.val < 1024 then a (ix3 s t ⟨k.val, h⟩) else b (ix3 s t ⟨k.val - 1024, by omega⟩)) * w (ix2 k j) : EReal) := by
  pointwise [yR]

theorem yR_at (a b : FVec Ideal S4x4096x1024 .f32) (w : FVec Ideal S2048x2048 .f32) (s : Fin 4) (t : Fin 4096) (j : Fin 2048) :
    yR a b w (ix3 s t j) = yrow (fun d => a (ix3 s t d)) (fun d => b (ix3 s t d)) (fun d j => w (ix2 ⟨d.val, by omega⟩ j)) (fun d j => w (ix2 ⟨1024 + d.val, by omega⟩ j)) j := by
  rw [yR_sum]
  refine (Fin.sum_univ_add (a := 1024) (b := 1024) _).trans ?_
  unfold yrow
  refine congrArg₂ (fun p q : EReal => p + q) (Finset.sum_congr rfl fun d _ => ?_) (Finset.sum_congr rfl fun d _ => ?_)
  · have hd : (Fin.castAdd 1024 d).val < 1024 := d.isLt
    rw [dif_pos hd]
    rfl
  · have hd : ¬ (Fin.natAdd 1024 d).val < 1024 := by simp
    rw [dif_neg hd]
    have e : (⟨(Fin.natAdd 1024 d).val - 1024, by have := d.isLt; simp⟩ : Fin 1024) = d := Fin.ext (by simp)
    rw [e]
    rfl

/-- The rows with the normalized and gated product added. -/
def xR (y x : FVec Ideal S4x4096x2048 .f32) (gt : FVec Ideal S4x1x2048 .f32) (gp : FVec Ideal S2048 .f32) : FVec Ideal S4x4096x2048 .f32 :=
  addf x (mulf (broadcastInDim S4x4096x2048 ![0, 1, 2] bcast_S4x1x2048_S4x4096x2048_0_1_2 gt) (mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 gp))))

theorem xR_at (y x : FVec Ideal S4x4096x2048 .f32) (gt : FVec Ideal S4x1x2048 .f32) (gp : FVec Ideal S2048 .f32) (s : Fin 4) (t : Fin 4096) (j : Fin 2048) :
    xR y x gt gp (ix3 s t j) = prow (fun d => y (ix3 s t d)) (fun d => x (ix3 s t d)) (fun d => gt (ix3 s 0 d)) (fun d => gp (ix1 d)) j := by
  pointwise [xR, prow]

/-- The rows, normalized and modulated, as the plain program computes them. -/
def hid (x : FVec Ideal S4x4096x2048 .f32) (g : FVec Ideal S2048 .f32) (sc sh : FVec Ideal S4x1x2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) sc))) (broadcastInDim S4x4096x2048 ![0, 1, 2] bcast_S4x1x2048_S4x4096x2048_0_1_2 sh)

theorem hid_at (x : FVec Ideal S4x4096x2048 .f32) (g : FVec Ideal S2048 .f32) (sc sh : FVec Ideal S4x1x2048 .f32) (b : Fin 4) (t : Fin 4096) (j : Fin 2048) :
    hid x g sc sh (ix3 b t j) = nrow (fun d => x (ix3 b t d)) (fun d => g (ix1 d)) (fun d => sc (ix3 b 0 d)) (fun d => sh (ix3 b 0 d)) j := by
  pointwise [hid, nrow]

theorem xx_eq (x : FVec Ideal S4x4096x2048 .f32) (a b : FVec Ideal S4x4096x1024 .f32) (w : FVec Ideal S2048x2048 .f32) (gt : FVec Ideal S4x1x2048 .f32) (gp : FVec Ideal S2048 .f32) (R : ℕ) (hR : R < 16384) (j : Fin 2048) :
    xR (yR a b w) x gt gp (ix3 ⟨R / 4096, by omega⟩ ⟨R % 4096, by omega⟩ j) = xx x a b w gt gp R j := by
  have hb : R / 4096 % 4 = R / 4096 := by omega
  rw [xR_at]
  unfold xx
  simp only [hb]
  refine congrArg (fun y => prow y _ _ _ j) ?_
  funext d
  exact yR_at a b w _ _ d

theorem hh_eq (x : FVec Ideal S4x4096x2048 .f32) (a b : FVec Ideal S4x4096x1024 .f32) (w : FVec Ideal S2048x2048 .f32) (gt : FVec Ideal S4x1x2048 .f32) (gp : FVec Ideal S2048 .f32) (gf : FVec Ideal S2048 .f32) (sc sh : FVec Ideal S4x1x2048 .f32) (R : ℕ) (hR : R < 16384) (j : Fin 2048) :
    hid (xR (yR a b w) x gt gp) gf sc sh (ix3 ⟨R / 4096, by omega⟩ ⟨R % 4096, by omega⟩ j) = hh x a b w gt gp gf sc sh R j := by
  have hb : R / 4096 % 4 = R / 4096 := by omega
  rw [hid_at]
  unfold hh
  simp only [hb]
  refine congrArg (fun y => nrow y _ _ _ j) ?_
  funext d
  exact xx_eq x a b w gt gp R hR d

theorem flat_at (z : FVec Ideal S4x4096x2048 .f32) (R : Fin 16384) (j : Fin 2048) :
    shapeCast S16384x2048 z shapeCasts_S4x4096x2048_S16384x2048 (ix2 R j) = z (ix3 ⟨R.val / 4096, by omega⟩ ⟨R.val % 4096, by omega⟩ j) := by
  pointwise

theorem wide_at (z : FVec Ideal S4x4096x2048 .f32) (R : Fin 262144) (j : Fin 128) :
    shapeCast S262144x128 z shapeCasts_S4x4096x2048_S262144x128 (ix2 R j) = z (ix3 ⟨R.val / 16 / 4096, by omega⟩ ⟨R.val / 16 % 4096, by omega⟩ ⟨128 * (R.val % 16) + j.val, by omega⟩) := by
  have e1 : R.val / 65536 = R.val / 16 / 4096 := by omega
  have e2 : R.val % 16 * 128 + j.val = 128 * (R.val % 16) + j.val := by omega
  pointwise
  all_goals simp only [e1, e2]

theorem outX (x : FVec Ideal S4x4096x2048 .f32) (a b : FVec Ideal S4x4096x1024 .f32) (w : FVec Ideal S2048x2048 .f32) (gt : FVec Ideal S4x1x2048 .f32) (gp : FVec Ideal S2048 .f32) :
    shapeCast S16384x2048 (xR (yR a b w) x gt gp) shapeCasts_S4x4096x2048_S16384x2048 = goalX x a b w gt gp := by
  funext i
  have hi : i = ix2 (⟨(i 0).val, (i 0).isLt⟩ : Fin 16384) (⟨(i 1).val, (i 1).isLt⟩ : Fin 2048) := by
    funext a
    fin_cases a <;> rfl
  unfold goalX
  conv_lhs => rw [hi]
  rw [flat_at]
  exact xx_eq x a b w gt gp (i 0).val (i 0).isLt _

theorem outH (x : FVec Ideal S4x4096x2048 .f32) (a b : FVec Ideal S4x4096x1024 .f32) (w : FVec Ideal S2048x2048 .f32) (gt : FVec Ideal S4x1x2048 .f32) (gp : FVec Ideal S2048 .f32) (gf : FVec Ideal S2048 .f32) (sc sh : FVec Ideal S4x1x2048 .f32) :
    shapeCast S262144x128 (hid (xR (yR a b w) x gt gp) gf sc sh) shapeCasts_S4x4096x2048_S262144x128 = goalH x a b w gt gp gf sc sh := by
  funext i
  have hi : i = ix2 (⟨(i 0).val, (i 0).isLt⟩ : Fin 262144) (⟨(i 1).val, (i 1).isLt⟩ : Fin 128) := by
    funext a
    fin_cases a <;> rfl
  have i0 : (i 0).val < 262144 := (i 0).isLt
  unfold goalH
  conv_lhs => rw [hi]
  rw [wide_at]
  exact hh_eq x a b w gt gp gf sc sh ((i 0).val / 16) (by omega) _

/-- The router's scores, of the normalized rows. -/
def lgt (h : FVec Ideal S4x4096x2048 .f32) (wg : FVec Ideal S2048x4 .f32) (bg : FVec Ideal S4 .f32) (we : FVec Ideal S2048x32 .f32) (be : FVec Ideal S32 .f32) : FVec Ideal S16384x128 .f32 :=
  pad S16384x128 ![0, 0] ![0, 92] ![0, 0] (shapeCast S16384x36 (concatenate S4x4096x36 2 [⟨S4x4096x4, (addf (Host.dotGeneral dot_S4x4096x2048_S2048x4_S4x4096x4_2_0_01_1_n_n none h wg) (broadcastInDim S4x4096x4 ![0, 1, 2] bcast_S1x1x4_S4x4096x4_0_1_2 (broadcastInDim S1x1x4 ![2] bcast_S4_S1x1x4_2 bg)))⟩, ⟨S4x4096x32, (addf (Host.dotGeneral dot_S4x4096x2048_S2048x32_S4x4096x32_2_0_01_1_n_n none h we) (broadcastInDim S4x4096x32 ![0, 1, 2] bcast_S1x1x32_S4x4096x32_0_1_2 (broadcastInDim S1x1x32 ![2] bcast_S32_S1x1x32_2 be)))⟩] concatenates_S4x4096x4_S4x4096x32_S4x4096x36_d2) shapeCasts_S4x4096x36_S16384x36) (sitofp .f32 (constantI S_ 32 0#32)) pads_S16384x36_S16384x128_000_0920 h_S_

theorem lgt_at (h : FVec Ideal S4x4096x2048 .f32) (wg : FVec Ideal S2048x4 .f32) (bg : FVec Ideal S4 .f32) (we : FVec Ideal S2048x32 .f32) (be : FVec Ideal S32 .f32) (R : Fin 16384) (j : Fin 128) :
    lgt h wg bg we be (ix2 R j) = if h' : j.val < 36 then if h'' : j.val < 4 then (∑ k : Fin 2048, h (ix3 ⟨R.val / 4096, by omega⟩ ⟨R.val % 4096, by omega⟩ k) * wg (ix2 k ⟨j.val, h''⟩) + bg (ix1 ⟨j.val, h''⟩) : EReal)
      else (∑ k : Fin 2048, h (ix3 ⟨R.val / 4096, by omega⟩ ⟨R.val % 4096, by omega⟩ k) * we (ix2 k ⟨j.val - 4, by omega⟩) + be (ix1 ⟨j.val - 4, by omega⟩) : EReal) else (0 : EReal) := by
  pointwise [lgt]
  all_goals simp [FloatOps.sitofp]

theorem outL (x : FVec Ideal S4x4096x2048 .f32) (a b : FVec Ideal S4x4096x1024 .f32) (w : FVec Ideal S2048x2048 .f32) (gt : FVec Ideal S4x1x2048 .f32) (gp : FVec Ideal S2048 .f32) (gf : FVec Ideal S2048 .f32) (sc sh : FVec Ideal S4x1x2048 .f32) (wg : FVec Ideal S2048x4 .f32) (bg : FVec Ideal S4 .f32) (we : FVec Ideal S2048x32 .f32) (be : FVec Ideal S32 .f32) :
    lgt (hid (xR (yR a b w) x gt gp) gf sc sh) wg bg we be = goalL x a b w gt gp gf sc sh wg bg we be := by
  funext i
  have hi : i = ix2 (⟨(i 0).val, (i 0).isLt⟩ : Fin 16384) (⟨(i 1).val, (i 1).isLt⟩ : Fin 128) := by
    funext a
    fin_cases a <;> rfl
  unfold goalL
  conv_lhs => rw [hi]
  rw [lgt_at]
  have hk := fun k => hh_eq x a b w gt gp gf sc sh (i 0).val (i 0).isLt k
  simp only [hk]
  unfold wr br
  by_cases h' : (i 1).val < 36
  · by_cases h : (i 1).val < 4
    · simp only [h', h, dif_pos]
    · simp only [h', h, dif_pos, dif_neg, not_false_eq_true]
  · simp only [h', dif_neg, not_false_eq_true, mul_zero, Finset.sum_const_zero, add_zero]

/-- The normalized rows are the run's second array, -/
theorem resH (m : (ℓ : Loc nD τ sig) → Buf (Elt Ideal) ℓ) (c : Dev nD) :
    Cert.Reference5Ideal.Value.res_main_v49 m c = goalH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [← outH]
  unfold Cert.Reference5Ideal.Value.res_main_v49 hid xR yR
  rfl

/-- and the router's scores its third. -/
theorem resL (m : (ℓ : Loc nD τ sig) → Buf (Elt Ideal) ℓ) (c : Dev nD) :
    Cert.Reference5Ideal.Value.res_main_v47 m c = goalL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [← outL]
  unfold Cert.Reference5Ideal.Value.res_main_v47 lgt hid xR yR
  rfl

end Cert.Reference5Ideal.Ref
-- ==== Proof.GlaRefEntry.lean ====
module

public import proofs.«01_k».proof.Proof.GlaSpec
public import proofs.«01_k».proof.Proof.Gen.Reference4Ideal.Run
public import Idealize.ShloMosaic.Lib.Pointwise
public import Idealize.ShloMosaic.Lib.StableHlo.ReadAt
public import Idealize.ShloMosaic.Lib.Tactic.CleanTypes

@[expose] public section

set_option maxRecDepth 16384

noncomputable section

/-! What the plain program's loop starts from. -/

namespace Cert.Reference4Ideal.Ref

open Idealize.ShloMosaic Idealize.ShloMosaic.TcCoe Idealize.ShloMosaic.Tactic Cert.Reference4Ideal.Gen
open Idealize.ShloMosaic.StableHlo Cert.Reference4Ideal.Value
open Cert.Kernel4Ideal.Gla (at0 at1 at2 at3 zin la csum gate c16)

variable (m : (ℓ : Loc nD τ sig) → Buf (Elt Ideal) ℓ)

abbrev A (c : Dev nD) : ℕ → ℕ → ℕ → EReal := at3 (m ((c : Thread nD τ).loc main_arg0))
abbrev W (c : Dev nD) : ℕ → ℕ → EReal := at2 (m ((c : Thread nD τ).loc main_arg1))
abbrev B (c : Dev nD) : ℕ → EReal := at1 (m ((c : Thread nD τ).loc main_arg2))
abbrev G (c : Dev nD) : ℕ → EReal := at0 (m ((c : Thread nD τ).loc main_arg3))

/-- The query scale. -/
abbrev qc : EReal := Ideal.ofBits .f32 0x3DB504F3#32

theorem at3_eq (x : FVec Ideal S4x4096x6160 .f32) (i : S4x4096x6160.Idx) (b t j : ℕ) (h0 : (i 0).val = b) (h1 : (i 1).val = t) (h2 : (i 2).val = j) :
    x i = at3 x b t j := by
  subst h0 h1 h2
  unfold at3
  rw [dif_pos ⟨⟨(i 0).isLt, (i 1).isLt⟩, (i 2).isLt⟩]
  exact congrArg x (by funext a; fin_cases a <;> rfl)

theorem at2_eq (x : FVec Ideal S16x512 .f32) (i : S16x512.Idx) (b t : ℕ) (h0 : (i 0).val = b) (h1 : (i 1).val = t) :
    x i = at2 x b t := by
  subst h0 h1
  unfold at2
  rw [dif_pos ⟨(i 0).isLt, (i 1).isLt⟩]
  exact congrArg x (by funext a; fin_cases a <;> rfl)

theorem at1_eq (x : FVec Ideal S512 .f32) (i : S512.Idx) (b : ℕ) (h0 : (i 0).val = b) : x i = at1 x b := by
  subst h0
  unfold at1
  rw [dif_pos (show (i 0).val < 512 from (i 0).isLt)]
  exact congrArg x (by funext a; fin_cases a <;> rfl)

theorem at0_eq (x : FVec Ideal S256 .f32) (i : S256.Idx) (b : ℕ) (h0 : (i 0).val = b) : x i = at0 x b := by
  subst h0
  unfold at0
  rw [dif_pos (show (i 0).val < 256 from (i 0).isLt)]
  exact congrArg x (by funext a; fin_cases a <;> rfl)

theorem q_at (c : Dev nD) (n : Fin 64) (b h : Fin 4) (s : Fin 64) (d : Fin 128) :
    entryContents preI m c (Proc.devRef .tc main_v27_0) (ix5 n b h s d) = A m c b.val (64 * n.val + s.val) (3072 + (128 * h.val + d.val)) * qc := by
  simp only [entryContents, afterL_cons, afterL_nil]
  after_reads_at
  refine congrArg (· * qc) (at3_eq _ _ _ _ _ ?_ ?_ ?_)
  · rfl
  · show n.val * 64 + s.val = _
    omega
  · show 3072 + (h.val * 128 + d.val) = _
    omega

theorem k_at (c : Dev nD) (n : Fin 64) (b h : Fin 4) (s : Fin 64) (d : Fin 128) :
    entryContents preI m c (Proc.devRef .tc main_v27_1) (ix5 n b h s d) = A m c b.val (64 * n.val + s.val) (3584 + (128 * h.val + d.val)) := by
  simp only [entryContents, afterL_cons, afterL_nil]
  after_reads_at
  refine at3_eq _ _ _ _ _ ?_ ?_ ?_
  · rfl
  · show n.val * 64 + s.val = _
    omega
  · show 3584 + (h.val * 128 + d.val) = _
    omega

theorem v_at (c : Dev nD) (n : Fin 64) (b h : Fin 4) (s : Fin 64) (d : Fin 256) :
    entryContents preI m c (Proc.devRef .tc main_v27_2) (ix5 n b h s d) = A m c b.val (64 * n.val + s.val) (4096 + (256 * h.val + d.val)) := by
  simp only [entryContents, afterL_cons, afterL_nil]
  after_reads_at
  refine at3_eq _ _ _ _ _ ?_ ?_ ?_
  · rfl
  · show n.val * 64 + s.val = _
    omega
  · show 4096 + (h.val * 256 + d.val) = _
    omega

theorem s0_at (c : Dev nD) (i : S4x4x128x256.Idx) : entryContents preI m c (Proc.devRef .tc main_v27_5) i = (0 : EReal) := by
  simp only [entryContents, afterL_cons, afterL_nil]
  after_reads_simp
  show Ideal.ofBits .f32 0x00000000#32 = 0
  exact Ideal.ofBits_zero _

theorem z_at (c : Dev nD) (b : Fin 4) (t : Fin 4096) (j : Fin 512) :
    after (hostOps0 (F := Ideal)) (launchContents m c) (Proc.devRef .tc main_v7) (ix3 b t j) = zin (A m c) (W m c) (B m c) b.val t.val j.val := by
  after_reads_at
  refine congrArg₂ (· + ·) (Finset.sum_congr rfl fun x _ => congrArg₂ (· * ·) (at3_eq _ _ _ _ _ rfl rfl rfl) (at2_eq _ _ _ _ rfl rfl)) (at1_eq _ _ _ rfl)

theorem gate_eq (x : EReal) : Ideal.div (-if -x ≠ -x then -x else max (-x) 0 + Ideal.log1p (Ideal.exp (-(FloatOps.absf (F := Ideal) (φ := .f32) (-x) : EReal))))
    (Ideal.ofBits .f32 0x41800000#32) = gate x := by
  have c : Ideal.ofBits .f32 0x41800000#32 = ((16 : ℝ) : EReal) := by
    simp only [Ideal.ofBits, Ideal.ieee]; simp; rw [← EReal.coe_mul]; norm_num
  have e : (FloatOps.absf (F := Ideal) (φ := .f32) (-x) : EReal) = FloatOps.absf (F := Ideal) (φ := .f32) x := by
    simp only [Ideal.absf_def, neg_neg]
    exact max_comm _ _
  obtain ⟨y, hy, h⟩ := Cert.Kernel4Ideal.Gla.softplus_real x
  rw [zero_sub] at h
  rw [if_neg (by simp), e, h, c, gate, zero_sub, h, c16, EReal.neg_add (Or.inr (EReal.coe_ne_top _)) (Or.inr (EReal.coe_ne_bot _))]
  have em : -(max (-x) 0) = min x 0 := by
    rcases le_total x 0 with hx | hx
    · rw [max_eq_left (by simpa using hx), min_eq_left hx, neg_neg]
    · rw [max_eq_right (by simpa using hx), min_eq_right hx, neg_zero]
  rw [em, Ideal.div_coe (by norm_num)]

theorem a_step (V : Valuation τ sig (Elt Ideal)) (n : Fin 64) (b h : Fin 4) (s : Fin 64) (d : Fin 128) :
    after (hostOps0_2 (F := Ideal)) (after (hostOps0_1 (F := Ideal)) V) (Proc.devRef .tc main_v27_3) (ix5 n b h s d) = gate (V (Proc.devRef .tc main_v7) (ix3 b ⟨64 * n.val + s.val, by omega⟩ ⟨128 * h.val + d.val, by omega⟩)) := by
  after_reads_at
  refine (gate_eq _).trans (congrArg (fun i => gate (V (Proc.devRef .tc main_v7) i)) ?_)
  funext a
  fin_cases a
  · rfl
  · refine Fin.ext ?_
    show n.val * 64 + s.val = 64 * n.val + s.val
    omega
  · refine Fin.ext ?_
    show h.val * 128 + d.val = 128 * h.val + d.val
    omega

theorem a_at (c : Dev nD) (n : Fin 64) (b h : Fin 4) (s : Fin 64) (d : Fin 128) :
    entryContents preI m c (Proc.devRef .tc main_v27_3) (ix5 n b h s d) = la (A m c) (W m c) (B m c) b.val (128 * h.val + d.val) (64 * n.val + s.val) := by
  simp only [entryContents, afterL_cons, afterL_nil]
  rw [a_step, z_at]
  rfl

end Cert.Reference4Ideal.Ref

end
-- ==== Proof.GlaRefStep.lean ====
module

public import proofs.«01_k».proof.Proof.GlaRefEntry
public import Idealize.ShloMosaic.Lib.DynamicIndex
public import Idealize.ShloMosaic.Lib.WordCmp

@[expose] public section

set_option maxRecDepth 16384

noncomputable section

/-! One trip of the plain program's loop. -/

namespace Cert.Reference4Ideal.Ref

open Idealize.ShloMosaic Idealize.ShloMosaic.TcCoe Idealize.ShloMosaic.Tactic Cert.Reference4Ideal.Gen
open Idealize.ShloMosaic.StableHlo Cert.Reference4Ideal.Value

/-- The start indices of trip `k`. -/
abbrev start (k : ℕ) : Fin 5 → ℤ := fun a => (((![fun _ => BitVec.ofNat 32 k, constantI S_ 32 0#32, constantI S_ 32 0#32, constantI S_ 32 0#32, constantI S_ 32 0#32] : Fin 5 → (⟨S_, .i32⟩ : BufTy).Contents (Elt Ideal))) a (Shape.Idx.first h_S_)).toInt

theorem start_eq (k : ℕ) (hk : k < 64) (a : Fin 5) : start k a = ((![k, 0, 0, 0, 0] : Fin 5 → ℕ) a : ℤ) := by
  fin_cases a
  · exact toInt_ofNat_of_lt (by omega)
  all_goals rfl

theorem slice128 (x : Vec Ideal S64x4x4x64x128 .f32) (k : ℕ) (hk : k < 64) (b h : Fin 4) (s : Fin 64) (d : Fin 128) :
    shapeCast S4x4x64x128 (Host.dynamicSlice S1x4x4x64x128 x (start k) sliceFits_S64x4x4x64x128_S1x4x4x64x128) shapeCasts_S1x4x4x64x128_S4x4x64x128 (ix4 b h s d)
      = x (ix5 ⟨k, hk⟩ b h s d) := by
  have hs : S64x4x4x64x128.Slices ![k, 0, 0, 0, 0] S1x4x4x64x128 := ⟨rfl, fun a => by fin_cases a <;> simp <;> omega⟩
  rw [Host.dynamicSlice_eq_extractStridedSlice _ x (start k) ![k, 0, 0, 0, 0] _ hs (start_eq k hk)]
  pointwise

theorem slice256 (x : Vec Ideal S64x4x4x64x256 .f32) (k : ℕ) (hk : k < 64) (b h : Fin 4) (s : Fin 64) (d : Fin 256) :
    shapeCast S4x4x64x256 (Host.dynamicSlice S1x4x4x64x256 x (start k) sliceFits_S64x4x4x64x256_S1x4x4x64x256) shapeCasts_S1x4x4x64x256_S4x4x64x256 (ix4 b h s d)
      = x (ix5 ⟨k, hk⟩ b h s d) := by
  have hs : S64x4x4x64x256.Slices ![k, 0, 0, 0, 0] S1x4x4x64x256 := ⟨rfl, fun a => by fin_cases a <;> simp <;> omega⟩
  rw [Host.dynamicSlice_eq_extractStridedSlice _ x (start k) ![k, 0, 0, 0, 0] _ hs (start_eq k hk)]
  pointwise

theorem upd256 (x : Vec Ideal S64x4x4x64x256 .f32) (u : Vec Ideal S4x4x64x256 .f32) (k : ℕ) (hk : k < 64) (n : Fin 64) (b h : Fin 4) (s : Fin 64) (d : Fin 256) :
    Host.dynamicUpdateSlice x (broadcastInDim S1x4x4x64x256 ![1, 2, 3, 4] bcast_S4x4x64x256_S1x4x4x64x256_1_2_3_4 u) (start k) sliceFits_S64x4x4x64x256_S1x4x4x64x256 (ix5 n b h s d)
      = if n.val = k then u (ix4 b h s d) else x (ix5 n b h s d) := by
  have hs : S64x4x4x64x256.Slices ![k, 0, 0, 0, 0] S1x4x4x64x256 := ⟨rfl, fun a => by fin_cases a <;> simp <;> omega⟩
  rw [WordCmp.dynamicUpdateSlice_eq_update x _ (start k) _ ![k, 0, 0, 0, 0] hs (start_eq k hk)]
  pointwise
  exact if_congr (by omega) rfl rfl

theorem foldl_add (N : ℕ) (f : Fin N → EReal) : (List.finRange N).foldl (fun r n => r + f n) 0 = ∑ n : Fin N, f n := by
  rw [← List.foldl_map (f := f) (g := fun (r x : EReal) => r + x), ← List.sum_eq_foldl, ← List.ofFn_eq_map, List.sum_ofFn]

/-- The window's positions, one for each row. -/
abbrev WS : Shape := ⟨4, ![1, 1, 64, 1]⟩

theorem sum_window (f : WS.Idx → EReal) : ∑ i : WS.Idx, f i = ∑ n : Fin 64, f (ix4 0 0 n 0) := by
  refine (Fintype.sum_bijective (fun n : Fin 64 => (ix4 0 0 n 0 : WS.Idx)) ⟨fun n n' h => congrFun h 2, fun i => ⟨i 2, ?_⟩⟩ _ _ fun n => rfl).symm
  funext a
  fin_cases a
  · exact (Fin.eq_zero (i 0)).symm
  · exact (Fin.eq_zero (i 1)).symm
  · rfl
  · exact (Fin.eq_zero (i 3)).symm

theorem window_at (x : FVec Ideal S4x4x64x128 .f32) (b h : Fin 4) (s : Fin 64) (d : Fin 128) :
    Host.reduceWindowAdd (F := Ideal) ![1, 1, 64, 1] ![1, 1, 1, 1] ![0, 0, 63, 0] ![0, 0, 0, 0] x (broadcastInDim S_ ![] bcast_S_S_ (constant S_ .f32 0x00000000#32))
      reduceWindows_S4x4x64x128_S4x4x64x128_w1s1p0_0_w1s1p0_0_w64s1p63_0_w1s1p0_0 h_S_ (ix4 b h s d)
      = ∑ j ∈ Finset.range (s.val + 1), (if hj : j < 64 then x (ix4 b h ⟨j, hj⟩ d) else 0) := by
  have z : broadcastInDim S_ ![] bcast_S_S_ (constant (F := Ideal) S_ .f32 0x00000000#32) (Shape.Idx.first h_S_) = (0 : EReal) := by
    show Ideal.ofBits .f32 0x00000000#32 = 0
    exact Ideal.ofBits_zero _
  rw [Host.reduceWindowAdd, z, Ideal.hostReduceWindowAdd_def, Ideal.hostReduceWindowAdd, Host.reduceWindow]
  refine (foldl_add _ _).trans ?_
  let F : WS.Idx → EReal := fun w => if hj : 63 ≤ s.val + (w 2).val ∧ s.val + (w 2).val - 63 < 64 then x (ix4 b h ⟨s.val + (w 2).val - 63, hj.2⟩ d) else 0
  have Fp : ∀ (w : WS.Idx) (hj : 63 ≤ s.val + (w 2).val ∧ s.val + (w 2).val - 63 < 64), F w = x (ix4 b h ⟨s.val + (w 2).val - 63, hj.2⟩ d) := fun w hj => by
    simp only [F]
    rw [dif_pos hj]
  have Fn : ∀ (w : WS.Idx), ¬(63 ≤ s.val + (w 2).val ∧ s.val + (w 2).val - 63 < 64) → F w = 0 := fun w hj => by
    simp only [F]
    rw [dif_neg hj]
  refine (Finset.sum_congr rfl fun n _ => ?_ : _ = ∑ n, F ((Shape.rowMajor WS).symm n)).trans ?_
  · show _ = F ((Shape.rowMajor WS).symm n)
    have w0 : ((Shape.rowMajor WS).symm n 0).val = 0 := congrArg Fin.val (Fin.eq_zero ((Shape.rowMajor WS).symm n 0))
    have w1 : ((Shape.rowMajor WS).symm n 1).val = 0 := congrArg Fin.val (Fin.eq_zero ((Shape.rowMajor WS).symm n 1))
    have w3 : ((Shape.rowMajor WS).symm n 3).val = 0 := congrArg Fin.val (Fin.eq_zero ((Shape.rowMajor WS).symm n 3))
    by_cases hc : 63 ≤ s.val + ((Shape.rowMajor WS).symm n 2).val ∧ s.val + ((Shape.rowMajor WS).symm n 2).val - 63 < 64
    · refine (dif_pos ?_).trans (Eq.trans (congrArg x ?_) (Fp _ hc).symm)
      · intro a
        fin_cases a
        · show 0 ≤ b.val * 1 + ((Shape.rowMajor WS).symm n 0).val ∧ b.val * 1 + ((Shape.rowMajor WS).symm n 0).val - 0 < 4
          omega
        · show 0 ≤ h.val * 1 + ((Shape.rowMajor WS).symm n 1).val ∧ h.val * 1 + ((Shape.rowMajor WS).symm n 1).val - 0 < 4
          omega
        · show 63 ≤ s.val * 1 + ((Shape.rowMajor WS).symm n 2).val ∧ s.val * 1 + ((Shape.rowMajor WS).symm n 2).val - 63 < 64
          omega
        · show 0 ≤ d.val * 1 + ((Shape.rowMajor WS).symm n 3).val ∧ d.val * 1 + ((Shape.rowMajor WS).symm n 3).val - 0 < 128
          omega
      · funext a
        fin_cases a <;> refine Fin.ext ?_
        · show b.val * 1 + ((Shape.rowMajor WS).symm n 0).val - 0 = b.val
          omega
        · show h.val * 1 + ((Shape.rowMajor WS).symm n 1).val - 0 = h.val
          omega
        · show s.val * 1 + ((Shape.rowMajor WS).symm n 2).val - 63 = s.val + ((Shape.rowMajor WS).symm n 2).val - 63
          omega
        · show d.val * 1 + ((Shape.rowMajor WS).symm n 3).val - 0 = d.val
          omega
    · refine (dif_neg fun hin => hc ?_).trans (Fn _ hc).symm
      have h2 : 63 ≤ s.val * 1 + ((Shape.rowMajor WS).symm n 2).val ∧ s.val * 1 + ((Shape.rowMajor WS).symm n 2).val - 63 < 64 := hin 2
      omega
  rw [Equiv.sum_comp (Shape.rowMajor WS).symm F, sum_window, Finset.sum_range]
  have e : ∀ n : Fin 64, F (ix4 0 0 n 0) = if hj : 63 ≤ s.val + n.val then x (ix4 b h ⟨s.val + n.val - 63, by omega⟩ d) else 0 := by
    intro n
    by_cases hc : 63 ≤ s.val + n.val
    · rw [dif_pos hc]
      exact Fp _ ⟨hc, by show s.val + n.val - 63 < 64; omega⟩
    · rw [dif_neg hc]
      exact Fn _ fun h => hc h.1
  rw [Finset.sum_congr rfl fun n _ => e n]
  have hl : ∀ n : Fin 64, n ∉ (Finset.univ.filter fun n : Fin 64 => 63 ≤ s.val + n.val) → (if hj : 63 ≤ s.val + n.val then x (ix4 b h ⟨s.val + n.val - 63, by omega⟩ d) else (0 : EReal)) = 0 := by
    intro n hn
    exact dif_neg fun h => hn (by simpa using h)
  rw [← Finset.sum_subset (Finset.filter_subset _ _) fun n _ hn => hl n hn]
  refine Finset.sum_bij (fun n hn => ⟨s.val + n.val - 63, by simp at hn; omega⟩) (fun _ _ => Finset.mem_univ _) ?_ ?_ ?_
  · intro a ha b hb hab
    simp at ha hb
    have := congrArg Fin.val hab
    simp at this
    refine Fin.ext ?_
    omega
  · intro j _
    have := j.isLt
    exact ⟨⟨63 + j.val - s.val, by omega⟩, by simp; omega, Fin.ext (by simp; omega)⟩
  · intro n hn
    have hn' : 63 ≤ s.val + n.val := by simpa using hn
    rw [dif_pos hn', dif_pos (by show s.val + n.val - 63 < 64; omega)]

theorem v65_at (V : Valuation τ sig (Elt Ideal)) (k : ℕ) (hk : k < 64) (hV : V (Proc.devRef .tc main_v27_4) = fun _ => BitVec.ofNat 32 k)
    (kk : FVec Ideal S64x4x4x64x128 .f32) (hkk : V (Proc.devRef .tc main_v27_1) = kk) (vv : FVec Ideal S64x4x4x64x256 .f32) (hvv : V (Proc.devRef .tc main_v27_2) = vv)
    (st : FVec Ideal S4x4x128x256 .f32) (hst : V (Proc.devRef .tc main_v27_5) = st) (cs : FVec Ideal S4x4x64x128 .f32) (hcs : res_main_while0b_v53 V = cs)
    (b h : Fin 4) (d : Fin 128) (e : Fin 256) :
    res_main_while0b_v65 V (ix4 b h d e) = (Ideal.exp (cs (ix4 b h 63 d)) * st (ix4 b h d e)
      + ∑ s : Fin 64, kk (ix5 ⟨k, hk⟩ b h s d) * Ideal.exp (cs (ix4 b h 63 d) - cs (ix4 b h s d)) * vv (ix5 ⟨k, hk⟩ b h s e) : EReal) := by
  unfold res_main_while0b_v65 res_main_while0b_v54
  rw [hV, hkk, hvv, hst, hcs]
  have s1 := slice128 kk k hk b h
  have s2 := slice256 vv k hk b h
  revert s1 s2
  generalize shapeCast S4x4x64x128 (Host.dynamicSlice S1x4x4x64x128 kk (start k) sliceFits_S64x4x4x64x128_S1x4x4x64x128) shapeCasts_S1x4x4x64x128_S4x4x64x128 = ks
  generalize shapeCast S4x4x64x256 (Host.dynamicSlice S1x4x4x64x256 vv (start k) sliceFits_S64x4x4x64x256_S1x4x4x64x256) shapeCasts_S1x4x4x64x256_S4x4x64x256 = vs
  intro s1 s2
  simp only [← s1, ← s2]
  pointwise

theorem v53_at (V : Valuation τ sig (Elt Ideal)) (k : ℕ) (hk : k < 64) (hV : V (Proc.devRef .tc main_v27_4) = fun _ => BitVec.ofNat 32 k)
    (aa : FVec Ideal S64x4x4x64x128 .f32) (haa : V (Proc.devRef .tc main_v27_3) = aa) (b h : Fin 4) (s : Fin 64) (d : Fin 128) :
    res_main_while0b_v53 V (ix4 b h s d) = (∑ j ∈ Finset.range (s.val + 1), (if hj : j < 64 then aa (ix5 ⟨k, hk⟩ b h ⟨j, hj⟩ d) else 0) : EReal) := by
  unfold res_main_while0b_v53
  rw [hV, haa]
  refine (window_at _ b h s d).trans (Finset.sum_congr rfl fun j _ => ?_)
  by_cases hj : j < 64
  · rw [dif_pos hj, dif_pos hj]
    exact slice128 aa k hk b h ⟨j, hj⟩ d
  · rw [dif_neg hj, dif_neg hj]

theorem dotq (q : FVec Ideal S4x4x64x128 .f32) (st : FVec Ideal S4x4x128x256 .f32) (b h : Fin 4) (s : Fin 64) (e : Fin 256) :
    Host.dotGeneral (F := Ideal) dot_S4x4x64x128_S4x4x128x256_S4x4x64x256_3_2_2_3_01_01 none q st (ix4 b h s e) = (∑ d : Fin 128, q (ix4 b h s d) * st (ix4 b h d e) : EReal) := by
  pointwise

end Cert.Reference4Ideal.Ref

end
-- ==== Proof.GlaRefFold.lean ====
module

public import proofs.«01_k».proof.Proof.GlaRefStep

@[expose] public section

set_option maxRecDepth 16384

noncomputable section

/-! The plain program's loop, and its result. -/

namespace Cert.Reference4Ideal.Ref

open Idealize.ShloMosaic Idealize.ShloMosaic.TcCoe Idealize.ShloMosaic.Tactic Cert.Reference4Ideal.Gen
open Idealize.ShloMosaic.StableHlo Cert.Reference4Ideal.Value
open Cert.Kernel4Ideal.Gla (at0 at1 at2 at3 zin la csum gate c16 sg kd wn qs fin outv goal)

variable (m : (ℓ : Loc nD τ sig) → Buf (Elt Ideal) ℓ)

/-- One row of the loop's output. -/
def row (c : Dev nD) (b h n s e : ℕ) : EReal :=
  ∑ d : Fin 128, A m c b (64 * n + s) (3072 + (128 * h + d.val)) * qc * sg (A m c) (W m c) (B m c) b (256 * h + e) (128 * h + d.val) (n + 1)

/-- What the loop's buffers hold before trip `k`. -/
structure Inv (c : Dev nD) (k : ℕ) (V : Valuation τ sig (Elt Ideal)) : Prop where
  hq : V (Proc.devRef .tc main_v27_0) = entryContents preI m c (Proc.devRef .tc main_v27_0)
  hk : V (Proc.devRef .tc main_v27_1) = entryContents preI m c (Proc.devRef .tc main_v27_1)
  hv : V (Proc.devRef .tc main_v27_2) = entryContents preI m c (Proc.devRef .tc main_v27_2)
  ha : V (Proc.devRef .tc main_v27_3) = entryContents preI m c (Proc.devRef .tc main_v27_3)
  hn : V (Proc.devRef .tc main_v27_4) = fun _ => BitVec.ofNat 32 k
  hst : ∀ (b h : Fin 4) (d : Fin 128) (e : Fin 256), V (Proc.devRef .tc main_v27_5) (ix4 b h d e) = sg (A m c) (W m c) (B m c) b.val (256 * h.val + e.val) (128 * h.val + d.val) k
  hout : ∀ (n : Fin 64) (b h : Fin 4) (s : Fin 64) (e : Fin 256), n.val < k → V (Proc.devRef .tc main_v27_6) (ix5 n b h s e) = row m c b.val h.val n.val s.val e.val

theorem sum_ext (s : Finset ℕ) (f g : ℕ → EReal) (h : ∀ j ∈ s, f j = g j) : ∑ j ∈ s, f j = ∑ j ∈ s, g j := Finset.sum_congr rfl h

theorem Inv.cum {c : Dev nD} {k : ℕ} {V : Valuation τ sig (Elt Ideal)} (H : Inv m c k V) (hk : k < 64) (b h : Fin 4) (s : Fin 64) (d : Fin 128) :
    res_main_while0b_v53 V (ix4 b h s d) = csum (la (A m c) (W m c) (B m c) b.val (128 * h.val + d.val)) k s.val := by
  refine (v53_at V k hk H.hn _ H.ha b h s d).trans ?_
  refine sum_ext _ _ _ fun j hj => ?_
  have hj' : j < 64 := by have := Finset.mem_range.mp hj; omega
  rw [dif_pos hj']
  exact a_at m c ⟨k, hk⟩ b h ⟨j, hj'⟩ d

theorem Inv.state {c : Dev nD} {k : ℕ} {V : Valuation τ sig (Elt Ideal)} (H : Inv m c k V) (hk : k < 64) (b h : Fin 4) (d : Fin 128) (e : Fin 256) :
    res_main_while0b_v65 V (ix4 b h d e) = sg (A m c) (W m c) (B m c) b.val (256 * h.val + e.val) (128 * h.val + d.val) (k + 1) := by
  refine (v65_at V k hk H.hn _ H.hk _ H.hv _ rfl _ rfl b h d e).trans ?_
  have e1 := H.cum m hk b h
  have e2 := H.hst b h d e
  refine congrArg₂ (· + ·) ((congrArg₂ (fun x y : EReal => Ideal.exp x * y) (e1 63 d) e2).trans (mul_comm _ _)) (Finset.sum_congr rfl fun s _ => ?_)
  refine (congrArg₂ (fun x y : EReal => x * y) (congrArg₂ (fun x y : EReal => x * y) (k_at m c ⟨k, hk⟩ b h s d) (congrArg₂ (fun x y : EReal => Ideal.exp (x - y)) (e1 63 d) (e1 s d))) (v_at m c ⟨k, hk⟩ b h s e)).trans ?_
  exact mul_comm _ _

theorem Inv.step {c : Dev nD} {k : ℕ} {V : Valuation τ sig (Elt Ideal)} (H : Inv m c k V) (hk : k < 64) : Inv m c (k + 1) (STEP V) where
  hq := (STEP_main_v27_0 V).trans H.hq
  hk := (STEP_main_v27_1 V).trans H.hk
  hv := (STEP_main_v27_2 V).trans H.hv
  ha := (STEP_main_v27_3 V).trans H.ha
  hn := by
    rw [STEP_main_v27_4, step_main_v27_4, H.hn]
    funext i
    show BitVec.ofNat 32 k + 1#32 = BitVec.ofNat 32 (k + 1)
    rw [BitVec.ofNat_add]
  hst b h d e := by
    rw [STEP_main_v27_5]
    exact H.state m hk b h d e
  hout n b h s e hn := by
    rw [STEP_main_v27_6, step_main_v27_6, H.hn, id]
    refine (upd256 _ _ k hk n b h s e).trans ?_
    by_cases hnk : n.val = k
    · rw [if_pos hnk]
      refine (dotq _ _ b h s e).trans (Finset.sum_congr rfl fun d _ => ?_)
      refine congrArg₂ (fun x y : EReal => x * y) ?_ ?_
      · rw [H.hq, hnk]
        exact (slice128 _ k hk b h s d).trans (q_at m c ⟨k, hk⟩ b h s d)
      · rw [hnk]
        exact H.state m hk b h d e
    · rw [if_neg hnk]
      exact H.hout n b h s e (by omega)

theorem inv (c : Dev nD) : ∀ k, k ≤ 64 → Inv m c k (STEP^[k] (entryContents preI m c))
  | 0, _ => ⟨rfl, rfl, rfl, rfl, ctr_entry m c, fun b h d e => s0_at m c _, fun n _ _ _ _ h => absurd h (by omega)⟩
  | k + 1, hk => by
    rw [Function.iterate_succ_apply']
    exact (inv c k (by omega)).step m (by omega)

theorem qc_real : ∃ y : ℝ, 0 ≤ y ∧ qc = (y : EReal) := by
  refine ⟨11863283 / 134217728, by norm_num, ?_⟩
  unfold qc
  simp only [Ideal.ofBits, Ideal.ieee]
  simp
  rw [← EReal.coe_mul]
  norm_num

theorem sum_qc (f : Fin 128 → EReal) : ∑ d, f d * qc = (∑ d, f d) * qc := by
  obtain ⟨y, hy, e⟩ := qc_real
  rw [e]
  generalize (Finset.univ : Finset (Fin 128)) = s
  induction s using Finset.induction_on with
  | empty => simp
  | insert a s ha ih =>
    rw [Finset.sum_insert ha, Finset.sum_insert ha, ih, EReal.right_distrib_of_nonneg_of_ne_top (by exact_mod_cast hy) (EReal.coe_ne_top _)]

theorem row_eq (c : Dev nD) (b h n s : ℕ) (e : Fin 256) : row m c b h n s e.val = qs (fun d => A m c b (64 * n + s) (3072 + (128 * h + d.val)))
    (fun e d => sg (A m c) (W m c) (B m c) b (256 * h + e.val) (128 * h + d.val) (n + 1)) e := by
  rw [row, qs, ← sum_qc]
  exact Finset.sum_congr rfl fun d _ => mul_right_comm _ _ _

theorem out_at (V : Valuation τ sig (Elt Ideal)) (o : FVec Ideal S64x4x4x64x256 .f32) (ho : V (Proc.devRef .tc main_v27_6) = o)
    (x : FVec Ideal S4x4096x6160 .f32) (hx : V (Proc.devRef .tc main_arg0) = x) (g : FVec Ideal S256 .f32) (hg : V (Proc.devRef .tc main_arg3) = g) (r : Fin 16384) (l : Fin 1024) :
    out_main_v48 V (ix2 r l) = fin (o (ix5 ⟨r.val % 4096 / 64, by omega⟩ ⟨r.val / 4096, by omega⟩ ⟨l.val / 256, by omega⟩ ⟨r.val % 4096 % 64, by omega⟩ ⟨l.val % 256, by omega⟩))
      (fun e => o (ix5 ⟨r.val % 4096 / 64, by omega⟩ ⟨r.val / 4096, by omega⟩ ⟨l.val / 256, by omega⟩ ⟨r.val % 4096 % 64, by omega⟩ e)) (g (ix1 ⟨l.val % 256, by omega⟩))
      (x (ix3 ⟨r.val / 4096, by omega⟩ ⟨r.val % 4096, by omega⟩ ⟨5120 + l.val, by omega⟩)) := by
  unfold out_main_v48
  rw [ho, hx, hg]
  pointwise
  rfl

theorem out_eq (c : Dev nD) : out_main_v48 (STEP^[64] (entryContents preI m c))
    = goal (m ((c : Thread nD τ).loc main_arg0)) (m ((c : Thread nD τ).loc main_arg1)) (m ((c : Thread nD τ).loc main_arg2)) (m ((c : Thread nD τ).loc main_arg3)) := by
  have H := inv m c 64 (le_refl _)
  funext i
  obtain ⟨r, l, rfl⟩ : ∃ (r : Fin 16384) (l : Fin 1024), i = ix2 r l := ⟨i 0, i 1, by funext a; fin_cases a <;> rfl⟩
  refine (out_at _ _ rfl _ (iter_main_arg0 m c 64) _ (iter_main_arg3 m c 64) r l).trans ?_
  have ho : ∀ e : Fin 256, _ := fun e => (H.hout ⟨r.val % 4096 / 64, by omega⟩ ⟨r.val / 4096, by omega⟩ ⟨l.val / 256, by omega⟩ ⟨r.val % 4096 % 64, by omega⟩ e (by show r.val % 4096 / 64 < 64; omega)).trans
    (row_eq m c _ _ _ _ e)
  show _ = outv (A m c) (W m c) (B m c) (G m c) (r.val / 4096) (l.val / 256) (r.val % 4096 / 64) (r.val % 64) ⟨l.val % 256, by omega⟩
  have e64 : r.val % 64 = r.val % 4096 % 64 := by omega
  rw [outv, e64]
  refine congr (congr (congr (congrArg fin ?_) ?_) ?_) ?_
  · exact ho ⟨l.val % 256, by omega⟩
  · exact funext ho
  · exact at0_eq _ _ _ rfl
  · refine at3_eq _ _ _ _ _ rfl ?_ ?_
    · show r.val % 4096 = 64 * (r.val % 4096 / 64) + r.val % 4096 % 64
      omega
    · show 5120 + l.val = 5120 + (256 * (l.val / 256) + l.val % 256)
      omega

end Cert.Reference4Ideal.Ref

end
-- ==== Proof.Exec.lean ====
/- The expert kernel's body run once at a tile in use and once at a tile not in use, over any float values: what it leaves in
   the output block and in the scratch, from the blocks it is handed. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.KernelIdeal.Ex

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The propositions the run is stated in. -/
abbrev MM (F : FTy → Type) [FloatOps F] : Type := MT nD τ sig Unit (Elt F) ℕ (UR sig nD τ) ℕ

/-- The tables and the scratch, whole. -/
abbrev tb0 : Memref sig .tc .smem S159 .i32 := Memref.whole main_arg0
abbrev tb1 : Memref sig .tc .smem S159 .i32 := Memref.whole main_arg1
abbrev tb2 : Memref sig .tc .smem S159 .i32 := Memref.whole main_arg2
abbrev scM : Memref sig .tc .vmem S256x2048 .bf16 := Memref.whole cc0_scratch0

/-- The word of the third table the body branches on. -/
abbrev wrd (i : grid0.Coords) (T2 : S159.Idx → Elt F .i32) : Elt F .i32 :=
  View.readAt (Elt F) tb2.view (Rect.unit (s := S159) (k0_off1 i) S1.size (k0_off1_inb i)).toLoadRect T2 (Shape.Idx.first (numel1_S1.symm ▸ Nat.one_pos))

/-- One staging buffer of the output, through which what it holds is stated. -/
abbrev VO : View sig .tc .vmem S4096x128 .f32 := (Memref.whole cc0_stg4_0 : Memref sig .tc .vmem S4096x128 .f32).view

/-- What the body is handed and what it hands back, at any output block and scratch. -/
abbrev held (c : Dev nD) (arg4 : Memref sig .tc .vmem S4096x128 .f32) (arg5 : Memref sig .tc .vmem S1x2048x512 .bf16) (arg6 : Memref sig .tc .vmem S1x2048x512 .bf16) (arg7 : Memref sig .tc .vmem S1x512x2048 .bf16)
    (T0 T1 T2 : S159.Idx → Elt F .i32) (x0 : S4096x128.Idx → Elt F .f32) (x1 x2 : S1x2048x512.Idx → Elt F .bf16) (x3 : S1x512x2048.Idx → Elt F .bf16) (R : sProp (MM F)) : sProp (MM F) :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ R)

set_option backward.proofsInPublic true in
set_option maxHeartbeats 8000000 in
/-- A tile not in use. -/
def runZ (c : Dev nD) (i : grid0.Coords) (arg4 : Memref sig .tc .vmem S4096x128 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S4096x128 .f32) (harg8 : arg8.IsWhole)
    (T0 T1 T2 : S159.Idx → Elt F .i32) (x0 : S4096x128.Idx → Elt F .f32) (x1 x2 : S1x2048x512.Idx → Elt F .bf16) (x3 : S1x512x2048.Idx → Elt F .bf16) (xa : Buf (Elt F) ((c : Thread nD τ).loc cc0_scratch0))
    (k0_h1 : k0_cond1 (wrd i T2) = 1#1) (k0_h2 : ¬ k0_cond2 (wrd i T2) = 1#1) :
    { out0 : List (View.Piece (Elt F) S4096x128 .f32) //
      ∀ (K : PUnit → sProp (MM F)),
        held c arg4 arg5 arg6 arg7 T0 T1 T2 x0 x1 x2 x3
          iprop((∃ d, owns (c : Thread nD τ) arg8 fullShare d)
          ∗ (scM.view.loc (c : Thread nD τ) ↦{fullShare} xa)
          ∗ (held c arg4 arg5 arg6 arg7 T0 T1 T2 x0 x1 x2 x3 iprop((∃ f, arg8.view.loc (c : Thread nD τ) ↦[arg8.view.set]{fullShare} arg8.view.writes (Elt F) f out0)
              ∗ (∃ g, scM.view.loc (c : Thread nD τ) ↦{fullShare} g)) -∗ K ⟨⟩))
          ⊢ wp frame (wpE (defs₀ (F := F)) Variants.none c none) Set.univ (cc0_expert_mlp i tb0 (Memref.isWhole_whole _) tb1 (Memref.isWhole_whole _) tb2 (Memref.isWhole_whole _) arg4 harg4 arg5 harg5 arg6 harg6 arg7 harg7 arg8 harg8 scM (Memref.isWhole_whole _)) K } :=
  ⟨_, fun K => by
    unfold owns
    rw [cc0_expert_mlp_eq_skeleton]; unfold cc0_expert_mlp_skel
    iintro ⟨H0, H1, H2, H3, HT0, HT1, HT2, ⟨%d4, %f4, -, HO4⟩, HS0, Hk⟩
    have hS0 : scM.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = k0_cond1 _ = _; exact k0_h1) | (guard_target = ¬(k0_cond2 _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexists _; iexact HS0⟩

set_option backward.proofsInPublic true in
set_option maxHeartbeats 8000000 in
/-- A tile in use. -/
def runU (c : Dev nD) (i : grid0.Coords) (arg4 : Memref sig .tc .vmem S4096x128 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S4096x128 .f32) (harg8 : arg8.IsWhole)
    (T0 T1 T2 : S159.Idx → Elt F .i32) (x0 : S4096x128.Idx → Elt F .f32) (x1 x2 : S1x2048x512.Idx → Elt F .bf16) (x3 : S1x512x2048.Idx → Elt F .bf16) (xa : Buf (Elt F) ((c : Thread nD τ).loc cc0_scratch0))
    (k0_h1 : ¬ k0_cond1 (wrd i T2) = 1#1) (k0_h2 : k0_cond2 (wrd i T2) = 1#1) :
    { out0 : List (View.Piece (Elt F) S4096x128 .f32) //
      ∀ (K : PUnit → sProp (MM F)),
        held c arg4 arg5 arg6 arg7 T0 T1 T2 x0 x1 x2 x3
          iprop((∃ d, owns (c : Thread nD τ) arg8 fullShare d)
          ∗ (scM.view.loc (c : Thread nD τ) ↦{fullShare} xa)
          ∗ (held c arg4 arg5 arg6 arg7 T0 T1 T2 x0 x1 x2 x3 iprop((∃ f, arg8.view.loc (c : Thread nD τ) ↦[arg8.view.set]{fullShare} arg8.view.writes (Elt F) f out0)
              ∗ (∃ g, scM.view.loc (c : Thread nD τ) ↦{fullShare} g)) -∗ K ⟨⟩))
          ⊢ wp frame (wpE (defs₀ (F := F)) Variants.none c none) Set.univ (cc0_expert_mlp i tb0 (Memref.isWhole_whole _) tb1 (Memref.isWhole_whole _) tb2 (Memref.isWhole_whole _) arg4 harg4 arg5 harg5 arg6 harg6 arg7 harg7 arg8 harg8 scM (Memref.isWhole_whole _)) K } :=
  ⟨_, fun K => by
    unfold owns
    rw [cc0_expert_mlp_eq_skeleton]; unfold cc0_expert_mlp_skel
    iintro ⟨H0, H1, H2, H3, HT0, HT1, HT2, ⟨%d4, %f4, -, HO4⟩, HS0, Hk⟩
    have hS0 : scM.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ = _); exact k0_h1) | (guard_target = k0_cond2 _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexists _; iexact HS0⟩

end Cert.KernelIdeal.Ex

end
-- ==== Proof.Pc.lean ====
/- What the expert kernel's body leaves at a tile, told as functions of the blocks it is handed: the tokens cast and laid out as
   rows of 2048, and the output block read from the rows of the product. Over any float values. -/
module

public import proofs.«01_k».proof.Proof.Exec
public import Idealize.ShloMosaic.Lib.VecWindow
public import Idealize.ShloMosaic.Lib.Pipeline.Value

@[expose] public section

set_option maxRecDepth 16384

noncomputable section

namespace Cert.KernelIdeal.Ex

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The index of row `r`, lane `l` of the tokens' block. -/
def ixa (r : Fin 4096) (l : Fin 128) : S4096x128.Idx := fun | ⟨0, _⟩ => r | ⟨1, _⟩ => l
/-- The index of token `p`, feature `d` of the block laid out as rows. -/
def ixb (p : Fin 256) (d : Fin 2048) : S256x2048.Idx := fun | ⟨0, _⟩ => p | ⟨1, _⟩ => d

/-- The tokens cast and laid out: feature `128 s + l` of token `p` is lane `l` of row `16 p + s`. -/
def xc (x0 : S4096x128.Idx → Elt F .f32) : S256x2048.Idx → Elt F .bf16 := fun j =>
  FloatOps.truncf .bf16 bitsLt_bf16_f32 (x0 (ixa ⟨16 * (j 0).val + (j 1).val / 128, by have h0 : (j 0).val < 256 := (j 0).isLt; have h1 : (j 1).val < 2048 := (j 1).isLt; omega⟩ ⟨(j 1).val % 128, Nat.mod_lt _ (by decide)⟩))

/-- The rows of the product. -/
def yv (x0 : S4096x128.Idx → Elt F .f32) (x1 x2 : S1x2048x512.Idx → Elt F .bf16) (x3 : S1x512x2048.Idx → Elt F .bf16) : S256x2048.Idx → Elt F .f32 :=
  k0_pay24 (k0_pay23 (xc x0) x1 x2) x3

/-- The output block at a tile in use. -/
def outU (x0 : S4096x128.Idx → Elt F .f32) (x1 x2 : S1x2048x512.Idx → Elt F .bf16) (x3 : S1x512x2048.Idx → Elt F .bf16) : S4096x128.Idx → Elt F .f32 := fun y =>
  yv x0 x1 x2 x3 (ixb ⟨(y 0).val / 16, by have h0 : (y 0).val < 4096 := (y 0).isLt; omega⟩ ⟨128 * ((y 0).val % 16) + (y 1).val, by have h1 : (y 1).val < 128 := (y 1).isLt; omega⟩)

theorem mem_col (o : ℕ) (inb) (y : S256x2048.Idx) (h : o ≤ (y 1).val ∧ (y 1).val < o + 128) :
    y ∈ (Rect.unit (s := S256x2048) ![0, o] S256x128.size inb).set :=
  LoadRect.mem_set _ |>.mpr fun a => by
    have h0 : (y 0).val < 256 := (y 0).isLt
    match a with
    | ⟨0, _⟩ => exact ⟨(y 0).val, h0, by show (y 0).val = 0 + 1 * (y 0).val; omega⟩
    | ⟨1, _⟩ => exact ⟨(y 1).val - o, by show _ < 128; omega, by show (y 1).val = o + 1 * ((y 1).val - o); omega⟩

theorem mem_str (s : ℕ) (inb) (hp) (y : S4096x128.Idx) (hs : s < 16) (h : (y 0).val % 16 = s) :
    y ∈ (⟨⟨![s, 0], S256x128.size, ![16, 1], inb⟩, hp⟩ : Rect S4096x128).set :=
  LoadRect.mem_set _ |>.mpr fun a => by
    have h0 : (y 0).val < 4096 := (y 0).isLt
    have h1 : (y 1).val < 128 := (y 1).isLt
    match a with
    | ⟨0, _⟩ => exact ⟨(y 0).val / 16, by show _ < 256; omega, by show (y 0).val = s + 16 * ((y 0).val / 16); omega⟩
    | ⟨1, _⟩ => exact ⟨(y 1).val, h1, by show (y 1).val = 0 + 1 * (y 1).val; omega⟩

/-- One column's store holds the tokens laid out. -/
theorem col_ok (arg4 : Memref sig .tc .vmem S4096x128 .f32) (x0 : S4096x128.Idx → Elt F .f32) (s o : ℕ) (hs : s < 16) (ho : o = 128 * s) (inb) (inb')
    (w : Vec F S256x128 .f32) (hw : w = View.readAt (Elt F) arg4.view ⟨![s, 0], S256x128.size, ![16, 1], inb'⟩ (arg4.view.rep x0))
    (p : FVec F S256x128 .bf16) (hp : p = shapeCast S256x128 (truncf .bf16 w bitsLt_bf16_f32) shapeCasts_S256x128_S256x128) (z : S256x128.Idx) :
    p z = xc x0 ((Rect.unit (s := S256x2048) ![0, o] S256x128.size inb).emb z) := by
  have h1 : (z 1).val < 128 := (z 1).isLt
  subst hp; subst hw
  rw [shapeCast_self]
  unfold xc truncf
  refine congrArg _ ?_
  rw [View.readAt_rep]
  refine congrArg x0 (funext fun a => Fin.ext ?_)
  match a with
  | ⟨0, _⟩ => show s + 16 * (z 0).val = 16 * (0 + 1 * (z 0).val) + (o + 1 * (z 1).val) / 128; omega
  | ⟨1, _⟩ => show 0 + 1 * (z 1).val = (o + 1 * (z 1).val) % 128; omega

/-- One strided store holds rows of the product. -/
theorem str_ok (x0 : S4096x128.Idx → Elt F .f32) (x1 x2 : S1x2048x512.Idx → Elt F .bf16) (x3 : S1x512x2048.Idx → Elt F .bf16)
    (s o : ℕ) (hs : s < 16) (ho : o = 128 * s) (inb) (hp) (hsl) (w : FVec F S256x128 .f32) (hw : w = extractStridedSlice S256x128 ![0, o] (yv x0 x1 x2 x3) hsl) (z : S256x128.Idx) :
    w z = outU x0 x1 x2 x3 ((⟨⟨![s, 0], S256x128.size, ![16, 1], inb⟩, hp⟩ : Rect S4096x128).emb z) := by
  have h1 : (z 1).val < 128 := (z 1).isLt
  subst hw
  unfold outU extractStridedSlice
  refine congrArg (yv x0 x1 x2 x3) (funext fun a => Fin.ext ?_)
  match a with
  | ⟨0, _⟩ => show 0 + (z 0).val = (s + 16 * (z 0).val) / 16; omega
  | ⟨1, _⟩ => show o + (z 1).val = 128 * ((s + 16 * (z 0).val) % 16) + (0 + 1 * (z 1).val); omega

set_option maxHeartbeats 4000000 in
/-- The scratch, read back whole after its sixteen stores. -/
theorem v88_eq (arg4 : Memref sig .tc .vmem S4096x128 .f32) (x0 : S4096x128.Idx → Elt F .f32) : runU.sl.v88 arg4 x0 = xc x0 := by
  funext y
  unfold runU.sl.v88 View.readCov
  rw [View.readAt_apply]
  have hy : ((Rect.unit (s := S256x2048) ![0, 0] S256x2048.size inb_S256x2048_S256x2048_0_0).toLoadRect.idx y) = y :=
    funext fun a => Fin.ext (by match a with
      | ⟨0, _⟩ => show 0 + 1 * (y 0).val = (y 0).val; omega
      | ⟨1, _⟩ => show 0 + 1 * (y 1).val = (y 1).val; omega)
  rw [hy]
  have h1 : (y 1).val < 2048 := (y 1).isLt
  refine View.read_writes_apply_of_pieces scM.view _ (xc x0) _ ?_ y ?_
  · intro p hp
    unfold runU.sl.HS0_16 at hp
    simp only [List.mem_cons, List.not_mem_nil, or_false] at hp
    rcases hp with rfl|rfl|rfl|rfl|rfl|rfl|rfl|rfl|rfl|rfl|rfl|rfl|rfl|rfl|rfl|rfl
    · exact fun z => col_ok arg4 x0 15 1920 (by decide) rfl inb_S256x2048_S256x128_0_1920 inb_S4096x128_S256x128_15_0_s_16_1 _ rfl _ rfl z
    · exact fun z => col_ok arg4 x0 14 1792 (by decide) rfl inb_S256x2048_S256x128_0_1792 inb_S4096x128_S256x128_14_0_s_16_1 _ rfl _ rfl z
    · exact fun z => col_ok arg4 x0 13 1664 (by decide) rfl inb_S256x2048_S256x128_0_1664 inb_S4096x128_S256x128_13_0_s_16_1 _ rfl _ rfl z
    · exact fun z => col_ok arg4 x0 12 1536 (by decide) rfl inb_S256x2048_S256x128_0_1536 inb_S4096x128_S256x128_12_0_s_16_1 _ rfl _ rfl z
    · exact fun z => col_ok arg4 x0 11 1408 (by decide) rfl inb_S256x2048_S256x128_0_1408 inb_S4096x128_S256x128_11_0_s_16_1 _ rfl _ rfl z
    · exact fun z => col_ok arg4 x0 10 1280 (by decide) rfl inb_S256x2048_S256x128_0_1280 inb_S4096x128_S256x128_10_0_s_16_1 _ rfl _ rfl z
    · exact fun z => col_ok arg4 x0 9 1152 (by decide) rfl inb_S256x2048_S256x128_0_1152 inb_S4096x128_S256x128_9_0_s_16_1 _ rfl _ rfl z
    · exact fun z => col_ok arg4 x0 8 1024 (by decide) rfl inb_S256x2048_S256x128_0_1024 inb_S4096x128_S256x128_8_0_s_16_1 _ rfl _ rfl z
    · exact fun z => col_ok arg4 x0 7 896 (by decide) rfl inb_S256x2048_S256x128_0_896 inb_S4096x128_S256x128_7_0_s_16_1 _ rfl _ rfl z
    · exact fun z => col_ok arg4 x0 6 768 (by decide) rfl inb_S256x2048_S256x128_0_768 inb_S4096x128_S256x128_6_0_s_16_1 _ rfl _ rfl z
    · exact fun z => col_ok arg4 x0 5 640 (by decide) rfl inb_S256x2048_S256x128_0_640 inb_S4096x128_S256x128_5_0_s_16_1 _ rfl _ rfl z
    · exact fun z => col_ok arg4 x0 4 512 (by decide) rfl inb_S256x2048_S256x128_0_512 inb_S4096x128_S256x128_4_0_s_16_1 _ rfl _ rfl z
    · exact fun z => col_ok arg4 x0 3 384 (by decide) rfl inb_S256x2048_S256x128_0_384 inb_S4096x128_S256x128_3_0_s_16_1 _ rfl _ rfl z
    · exact fun z => col_ok arg4 x0 2 256 (by decide) rfl inb_S256x2048_S256x128_0_256 inb_S4096x128_S256x128_2_0_s_16_1 _ rfl _ rfl z
    · exact fun z => col_ok arg4 x0 1 128 (by decide) rfl inb_S256x2048_S256x128_0_128 inb_S4096x128_S256x128_1_0_s_16_1 _ rfl _ rfl z
    · exact fun z => col_ok arg4 x0 0 0 (by decide) rfl inb_S256x2048_S256x128_0_0 inb_S4096x128_S256x128_0_0_s_16_1 _ rfl _ rfl z
  · have key : ∀ s, s < 16 → (y 1).val / 128 = s → ∃ p ∈ runU.sl.HS0_16 arg4 x0, y ∈ p.1.set := by
      intro s hs e
      unfold runU.sl.HS0_16
      match s, hs, e with
      | 0, _, e => exact ⟨_, List.mem_iff_getElem?.mpr ⟨15, rfl⟩, mem_col 0 inb_S256x2048_S256x128_0_0 y (by omega)⟩
      | 1, _, e => exact ⟨_, List.mem_iff_getElem?.mpr ⟨14, rfl⟩, mem_col 128 inb_S256x2048_S256x128_0_128 y (by omega)⟩
      | 2, _, e => exact ⟨_, List.mem_iff_getElem?.mpr ⟨13, rfl⟩, mem_col 256 inb_S256x2048_S256x128_0_256 y (by omega)⟩
      | 3, _, e => exact ⟨_, List.mem_iff_getElem?.mpr ⟨12, rfl⟩, mem_col 384 inb_S256x2048_S256x128_0_384 y (by omega)⟩
      | 4, _, e => exact ⟨_, List.mem_iff_getElem?.mpr ⟨11, rfl⟩, mem_col 512 inb_S256x2048_S256x128_0_512 y (by omega)⟩
      | 5, _, e => exact ⟨_, List.mem_iff_getElem?.mpr ⟨10, rfl⟩, mem_col 640 inb_S256x2048_S256x128_0_640 y (by omega)⟩
      | 6, _, e => exact ⟨_, List.mem_iff_getElem?.mpr ⟨9, rfl⟩, mem_col 768 inb_S256x2048_S256x128_0_768 y (by omega)⟩
      | 7, _, e => exact ⟨_, List.mem_iff_getElem?.mpr ⟨8, rfl⟩, mem_col 896 inb_S256x2048_S256x128_0_896 y (by omega)⟩
      | 8, _, e => exact ⟨_, List.mem_iff_getElem?.mpr ⟨7, rfl⟩, mem_col 1024 inb_S256x2048_S256x128_0_1024 y (by omega)⟩
      | 9, _, e => exact ⟨_, List.mem_iff_getElem?.mpr ⟨6, rfl⟩, mem_col 1152 inb_S256x2048_S256x128_0_1152 y (by omega)⟩
      | 10, _, e => exact ⟨_, List.mem_iff_getElem?.mpr ⟨5, rfl⟩, mem_col 1280 inb_S256x2048_S256x128_0_1280 y (by omega)⟩
      | 11, _, e => exact ⟨_, List.mem_iff_getElem?.mpr ⟨4, rfl⟩, mem_col 1408 inb_S256x2048_S256x128_0_1408 y (by omega)⟩
      | 12, _, e => exact ⟨_, List.mem_iff_getElem?.mpr ⟨3, rfl⟩, mem_col 1536 inb_S256x2048_S256x128_0_1536 y (by omega)⟩
      | 13, _, e => exact ⟨_, List.mem_iff_getElem?.mpr ⟨2, rfl⟩, mem_col 1664 inb_S256x2048_S256x128_0_1664 y (by omega)⟩
      | 14, _, e => exact ⟨_, List.mem_iff_getElem?.mpr ⟨1, rfl⟩, mem_col 1792 inb_S256x2048_S256x128_0_1792 y (by omega)⟩
      | 15, _, e => exact ⟨_, List.mem_iff_getElem?.mpr ⟨0, rfl⟩, mem_col 1920 inb_S256x2048_S256x128_0_1920 y (by omega)⟩
      | n + 16, h, _ => omega
    exact key _ (by omega) rfl

theorem r1_eq (arg4 : Memref sig .tc .vmem S4096x128 .f32) (arg5 arg6 : Memref sig .tc .vmem S1x2048x512 .bf16)
    (x0 : S4096x128.Idx → Elt F .f32) (x1 x2 : S1x2048x512.Idx → Elt F .bf16) :
    runU.sl.r_1 arg4 arg5 arg6 x0 x1 x2 = k0_pay23 (xc x0) x1 x2 := by
  unfold runU.sl.r_1
  rw [v88_eq, View.readAt_rep_full, View.readAt_rep_full]

theorem r2_eq (arg4 : Memref sig .tc .vmem S4096x128 .f32) (arg5 arg6 : Memref sig .tc .vmem S1x2048x512 .bf16) (arg7 : Memref sig .tc .vmem S1x512x2048 .bf16)
    (x0 : S4096x128.Idx → Elt F .f32) (x1 x2 : S1x2048x512.Idx → Elt F .bf16) (x3 : S1x512x2048.Idx → Elt F .bf16) :
    runU.sl.r_2 arg4 arg5 arg6 arg7 x0 x1 x2 x3 = yv x0 x1 x2 x3 := by
  unfold runU.sl.r_2
  rw [r1_eq, View.readAt_rep_full]; rfl

theorem r3_eq (arg4 : Memref sig .tc .vmem S4096x128 .f32) (arg5 arg6 : Memref sig .tc .vmem S1x2048x512 .bf16) (arg7 : Memref sig .tc .vmem S1x512x2048 .bf16)
    (x0 : S4096x128.Idx → Elt F .f32) (x1 x2 : S1x2048x512.Idx → Elt F .bf16) (x3 : S1x512x2048.Idx → Elt F .bf16) :
    runU.sl.r_3 arg4 arg5 arg6 arg7 x0 x1 x2 x3 = k0_pay35 (k0_pay23 (xc x0) x1 x2) x3 := by
  unfold runU.sl.r_3
  rw [r1_eq, View.readAt_rep_full]

set_option maxHeartbeats 4000000 in
/-- The output block after the sixteen stores of a tile in use, whatever it held before. -/
theorem runU_read {κ : Kind} {sp : Space} (v : View sig κ sp S4096x128 .f32) (f : v.ty.Contents (Elt F)) (c : Dev nD) (i : grid0.Coords) (arg4 : Memref sig .tc .vmem S4096x128 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S4096x128 .f32) (harg8 : arg8.IsWhole)
    (T0 T1 T2 : S159.Idx → Elt F .i32) (x0 : S4096x128.Idx → Elt F .f32) (x1 x2 : S1x2048x512.Idx → Elt F .bf16) (x3 : S1x512x2048.Idx → Elt F .bf16) (xa : Buf (Elt F) ((c : Thread nD τ).loc cc0_scratch0)) (h1) (h2) :
    v.read (Elt F) (v.writes (Elt F) f (runU c i arg4 harg4 arg5 harg5 arg6 harg6 arg7 harg7 arg8 harg8 T0 T1 T2 x0 x1 x2 x3 xa h1 h2).1) = outU x0 x1 x2 x3 := by
  funext y
  have e3 : View.readAt (Elt F) arg7.view (Rect.unit ![0, 0, 0] S1x512x2048.size inb_S1x512x2048_S1x512x2048_0_0_0).toLoadRect (arg7.view.rep x3) = x3 := View.readAt_rep_full _ _ _
  unfold runU
  dsimp only
  simp only [r1_eq, r2_eq, r3_eq]
  refine View.read_writes_apply_of_pieces v _ (outU x0 x1 x2 x3) _ ?_ y ?_
  · intro p hp
    simp only [List.mem_cons, List.not_mem_nil, or_false] at hp
    rcases hp with rfl|rfl|rfl|rfl|rfl|rfl|rfl|rfl|rfl|rfl|rfl|rfl|rfl|rfl|rfl|rfl
    · exact fun z => str_ok x0 x1 x2 x3 15 1920 (by decide) rfl inb_S4096x128_S256x128_15_0_s_16_1 _ slices_S256x2048_o0_1920_S256x128 _ rfl z
    · exact fun z => str_ok x0 x1 x2 x3 14 1792 (by decide) rfl inb_S4096x128_S256x128_14_0_s_16_1 _ slices_S256x2048_o0_1792_S256x128 _ rfl z
    · exact fun z => str_ok x0 x1 x2 x3 13 1664 (by decide) rfl inb_S4096x128_S256x128_13_0_s_16_1 _ slices_S256x2048_o0_1664_S256x128 _ rfl z
    · exact fun z => str_ok x0 x1 x2 x3 12 1536 (by decide) rfl inb_S4096x128_S256x128_12_0_s_16_1 _ slices_S256x2048_o0_1536_S256x128 _ rfl z
    · exact fun z => str_ok x0 x1 x2 x3 11 1408 (by decide) rfl inb_S4096x128_S256x128_11_0_s_16_1 _ slices_S256x2048_o0_1408_S256x128 _ rfl z
    · exact fun z => str_ok x0 x1 x2 x3 10 1280 (by decide) rfl inb_S4096x128_S256x128_10_0_s_16_1 _ slices_S256x2048_o0_1280_S256x128 _ rfl z
    · exact fun z => str_ok x0 x1 x2 x3 9 1152 (by decide) rfl inb_S4096x128_S256x128_9_0_s_16_1 _ slices_S256x2048_o0_1152_S256x128 _ (congrArg (fun q => extractStridedSlice S256x128 ![0, 1152] (k0_pay24 (k0_pay23 (xc x0) x1 x2) q) slices_S256x2048_o0_1152_S256x128) e3) z
    · exact fun z => str_ok x0 x1 x2 x3 8 1024 (by decide) rfl inb_S4096x128_S256x128_8_0_s_16_1 _ slices_S256x2048_o0_1024_S256x128 _ (congrArg (fun q => extractStridedSlice S256x128 ![0, 1024] (k0_pay24 (k0_pay23 (xc x0) x1 x2) q) slices_S256x2048_o0_1024_S256x128) e3) z
    · exact fun z => str_ok x0 x1 x2 x3 7 896 (by decide) rfl inb_S4096x128_S256x128_7_0_s_16_1 _ slices_S256x2048_o0_896_S256x128 _ (congrArg (fun q => extractStridedSlice S256x128 ![0, 896] (k0_pay24 (k0_pay23 (xc x0) x1 x2) q) slices_S256x2048_o0_896_S256x128) e3) z
    · exact fun z => str_ok x0 x1 x2 x3 6 768 (by decide) rfl inb_S4096x128_S256x128_6_0_s_16_1 _ slices_S256x2048_o0_768_S256x128 _ (congrArg (fun q => extractStridedSlice S256x128 ![0, 768] (k0_pay24 (k0_pay23 (xc x0) x1 x2) q) slices_S256x2048_o0_768_S256x128) e3) z
    · exact fun z => str_ok x0 x1 x2 x3 5 640 (by decide) rfl inb_S4096x128_S256x128_5_0_s_16_1 _ slices_S256x2048_o0_640_S256x128 _ (congrArg (fun q => extractStridedSlice S256x128 ![0, 640] (k0_pay24 (k0_pay23 (xc x0) x1 x2) q) slices_S256x2048_o0_640_S256x128) e3) z
    · exact fun z => str_ok x0 x1 x2 x3 4 512 (by decide) rfl inb_S4096x128_S256x128_4_0_s_16_1 _ slices_S256x2048_o0_512_S256x128 _ (congrArg (fun q => extractStridedSlice S256x128 ![0, 512] (k0_pay24 (k0_pay23 (xc x0) x1 x2) q) slices_S256x2048_o0_512_S256x128) e3) z
    · exact fun z => str_ok x0 x1 x2 x3 3 384 (by decide) rfl inb_S4096x128_S256x128_3_0_s_16_1 _ slices_S256x2048_o0_384_S256x128 _ (congrArg (fun q => extractStridedSlice S256x128 ![0, 384] (k0_pay24 (k0_pay23 (xc x0) x1 x2) q) slices_S256x2048_o0_384_S256x128) e3) z
    · exact fun z => str_ok x0 x1 x2 x3 2 256 (by decide) rfl inb_S4096x128_S256x128_2_0_s_16_1 _ slices_S256x2048_o0_256_S256x128 _ (congrArg (fun q => extractStridedSlice S256x128 ![0, 256] (k0_pay24 (k0_pay23 (xc x0) x1 x2) q) slices_S256x2048_o0_256_S256x128) e3) z
    · exact fun z => str_ok x0 x1 x2 x3 1 128 (by decide) rfl inb_S4096x128_S256x128_1_0_s_16_1 _ slices_S256x2048_o0_128_S256x128 _ (congrArg (fun q => extractStridedSlice S256x128 ![0, 128] (k0_pay24 (k0_pay23 (xc x0) x1 x2) q) slices_S256x2048_o0_128_S256x128) e3) z
    · exact fun z => str_ok x0 x1 x2 x3 0 0 (by decide) rfl inb_S4096x128_S256x128_0_0_s_16_1 _ slices_S256x2048_o0_0_S256x128 _ (congrArg (fun q => extractStridedSlice S256x128 ![0, 0] (k0_pay24 (k0_pay23 (xc x0) x1 x2) q) slices_S256x2048_o0_0_S256x128) e3) z
  · obtain ⟨s, e⟩ : ∃ s, (y 0).val % 16 = s := ⟨_, rfl⟩
    have hs : s < 16 := by omega
    match s, hs, e with
    | 0, _, e => exact ⟨_, List.mem_iff_getElem?.mpr ⟨15, rfl⟩, mem_str 0 inb_S4096x128_S256x128_0_0_s_16_1 _ y (by decide) e⟩
    | 1, _, e => exact ⟨_, List.mem_iff_getElem?.mpr ⟨14, rfl⟩, mem_str 1 inb_S4096x128_S256x128_1_0_s_16_1 _ y (by decide) e⟩
    | 2, _, e => exact ⟨_, List.mem_iff_getElem?.mpr ⟨13, rfl⟩, mem_str 2 inb_S4096x128_S256x128_2_0_s_16_1 _ y (by decide) e⟩
    | 3, _, e => exact ⟨_, List.mem_iff_getElem?.mpr ⟨12, rfl⟩, mem_str 3 inb_S4096x128_S256x128_3_0_s_16_1 _ y (by decide) e⟩
    | 4, _, e => exact ⟨_, List.mem_iff_getElem?.mpr ⟨11, rfl⟩, mem_str 4 inb_S4096x128_S256x128_4_0_s_16_1 _ y (by decide) e⟩
    | 5, _, e => exact ⟨_, List.mem_iff_getElem?.mpr ⟨10, rfl⟩, mem_str 5 inb_S4096x128_S256x128_5_0_s_16_1 _ y (by decide) e⟩
    | 6, _, e => exact ⟨_, List.mem_iff_getElem?.mpr ⟨9, rfl⟩, mem_str 6 inb_S4096x128_S256x128_6_0_s_16_1 _ y (by decide) e⟩
    | 7, _, e => exact ⟨_, List.mem_iff_getElem?.mpr ⟨8, rfl⟩, mem_str 7 inb_S4096x128_S256x128_7_0_s_16_1 _ y (by decide) e⟩
    | 8, _, e => exact ⟨_, List.mem_iff_getElem?.mpr ⟨7, rfl⟩, mem_str 8 inb_S4096x128_S256x128_8_0_s_16_1 _ y (by decide) e⟩
    | 9, _, e => exact ⟨_, List.mem_iff_getElem?.mpr ⟨6, rfl⟩, mem_str 9 inb_S4096x128_S256x128_9_0_s_16_1 _ y (by decide) e⟩
    | 10, _, e => exact ⟨_, List.mem_iff_getElem?.mpr ⟨5, rfl⟩, mem_str 10 inb_S4096x128_S256x128_10_0_s_16_1 _ y (by decide) e⟩
    | 11, _, e => exact ⟨_, List.mem_iff_getElem?.mpr ⟨4, rfl⟩, mem_str 11 inb_S4096x128_S256x128_11_0_s_16_1 _ y (by decide) e⟩
    | 12, _, e => exact ⟨_, List.mem_iff_getElem?.mpr ⟨3, rfl⟩, mem_str 12 inb_S4096x128_S256x128_12_0_s_16_1 _ y (by decide) e⟩
    | 13, _, e => exact ⟨_, List.mem_iff_getElem?.mpr ⟨2, rfl⟩, mem_str 13 inb_S4096x128_S256x128_13_0_s_16_1 _ y (by decide) e⟩
    | 14, _, e => exact ⟨_, List.mem_iff_getElem?.mpr ⟨1, rfl⟩, mem_str 14 inb_S4096x128_S256x128_14_0_s_16_1 _ y (by decide) e⟩
    | 15, _, e => exact ⟨_, List.mem_iff_getElem?.mpr ⟨0, rfl⟩, mem_str 15 inb_S4096x128_S256x128_15_0_s_16_1 _ y (by decide) e⟩
    | n + 16, h, _ => omega

set_option maxHeartbeats 4000000 in
/-- The output block after the one store of a tile not in use. -/
theorem runZ_read {κ : Kind} {sp : Space} (v : View sig κ sp S4096x128 .f32) (f : v.ty.Contents (Elt F)) (c : Dev nD) (i : grid0.Coords) (arg4 : Memref sig .tc .vmem S4096x128 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S4096x128 .f32) (harg8 : arg8.IsWhole)
    (T0 T1 T2 : S159.Idx → Elt F .i32) (x0 : S4096x128.Idx → Elt F .f32) (x1 x2 : S1x2048x512.Idx → Elt F .bf16) (x3 : S1x512x2048.Idx → Elt F .bf16) (xa : Buf (Elt F) ((c : Thread nD τ).loc cc0_scratch0)) (h1) (h2) :
    v.read (Elt F) (v.writes (Elt F) f (runZ c i arg4 harg4 arg5 harg5 arg6 harg6 arg7 harg7 arg8 harg8 T0 T1 T2 x0 x1 x2 x3 xa h1 h2).1) = k0_pay1 := by
  unfold runZ runZ.sl.HO4_1
  exact View.read_writes_full v f _ _ _

end Cert.KernelIdeal.Ex

end
-- ==== Proof.Frm.lean ====
/- The expert kernel launched at any tables within range, over any float values: what the pipeline is handed, what its body
   leaves at each tile, the run, and the arguments unchanged. -/
module

public import proofs.«01_k».proof.Proof.Pc
public import Idealize.ShloMosaic.Lib.Claim
public import Idealize.ShloMosaic.Lib.Pipeline.Frame
public import Idealize.ShloMosaic.Lib.Pipeline.TableIdle
public import Idealize.ShloMosaic.Lib.Quiescent
public import Idealize.ShloMosaic.Adequacy
public import Idealize.ShloMosaic.Init

@[expose] public section

set_option maxRecDepth 16384

noncomputable section

namespace Cert.KernelIdeal.Ex

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

/-- The buffers' contents where the region is entered: the weights cast by the host before it. -/
abbrev V (c : Dev nD) (b : Ref sig .tc) : Buf (Elt F) ((c : Thread nD τ).loc b) :=
  StableHlo.after hostOps0 (fun b => m (c, b)) b

theorem fresh0 : (hostOps0 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh0 main_chain

theorem V_arg (b : Ref sig .tc) (h0 : b ≠ main_v0) (h1 : b ≠ main_v1) (h2 : b ≠ main_v2) (c : Dev nD) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The tables as launched (there is one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block the tables name is inside its array. -/
abbrev Ok : Prop := ok0 (F := F) (tbl m)

variable (hO : Ok m)

abbrev adm : (pcfg0 (F := F)).Adm := ⟨tbl m, hO⟩
abbrev cfgM : Pipeline.Cfg sig Λ₀ := cfg0 (adm m hO)
abbrev pcs : Fin 1 → Pipeline.Cfg sig Λ₀ := Pipeline.pin (pcfgs (F := F)) fun _ => adm m hO

abbrev crd (t : Fin (cfgM m hO).N) : grid0.Coords := (cfgM m hO).grid.coords t

/-- Each window's buffer at a tile. -/
abbrev m0 (t : Fin (cfgM m hO).N) : Memref sig .tc .vmem S4096x128 .f32 := spec0_0.stage ((cfgM m hO).slots t (0 : Fin 5))
abbrev h0 (t : Fin (cfgM m hO).N) : (m0 m hO t).IsWhole := hstage0_0 (((cfgM m hO).slots t (0 : Fin 5)).cast nbuf0_0)
abbrev m1 (t : Fin (cfgM m hO).N) : Memref sig .tc .vmem S1x2048x512 .bf16 := spec0_1.stage ((cfgM m hO).slots t (1 : Fin 5))
abbrev h1 (t : Fin (cfgM m hO).N) : (m1 m hO t).IsWhole := hstage0_1 (((cfgM m hO).slots t (1 : Fin 5)).cast nbuf0_1)
abbrev m2 (t : Fin (cfgM m hO).N) : Memref sig .tc .vmem S1x2048x512 .bf16 := spec0_2.stage ((cfgM m hO).slots t (2 : Fin 5))
abbrev h2 (t : Fin (cfgM m hO).N) : (m2 m hO t).IsWhole := hstage0_2 (((cfgM m hO).slots t (2 : Fin 5)).cast nbuf0_2)
abbrev m3 (t : Fin (cfgM m hO).N) : Memref sig .tc .vmem S1x512x2048 .bf16 := spec0_3.stage ((cfgM m hO).slots t (3 : Fin 5))
abbrev h3 (t : Fin (cfgM m hO).N) : (m3 m hO t).IsWhole := hstage0_3 (((cfgM m hO).slots t (3 : Fin 5)).cast nbuf0_3)
abbrev m4 (t : Fin (cfgM m hO).N) : Memref sig .tc .vmem S4096x128 .f32 := spec0_4.stage ((cfgM m hO).slots t (4 : Fin 5))
abbrev h4 (t : Fin (cfgM m hO).N) : (m4 m hO t).IsWhole := hstage0_4 (((cfgM m hO).slots t (4 : Fin 5)).cast nbuf0_4)

/-- A window's block at a tile. -/
def iblk (c : Dev nD) (w : Fin (cfgM m hO).W) (t : Fin (cfgM m hO).N) : (((cfgM m hO).win w).xblock (crd m hO t)).Idx → Elt F ((cfgM m hO).win w).elt :=
  (((cfgM m hO).win w).blk t).view.read (Elt F) (V m c (Pipeline.arrRef spec0 w))

/-- The two branches exclude each other and one is taken. -/
theorem cond1_of (v : BitVec 32) (h : ¬ k0_cond2 v = 1#1) : k0_cond1 v = 1#1 := by
  have key : ∀ b : BitVec 1, ¬ Scalar.cmpi .ne (Scalar.extui b : BitVec 32) 0#32 = 1#1 → Scalar.cmpi .ne (Scalar.extui (Scalar.xori b 1#1) : BitVec 32) 0#32 = 1#1 := by decide
  exact key _ h
theorem cond1_not (v : BitVec 32) (h : k0_cond2 v = 1#1) : ¬ k0_cond1 v = 1#1 := by
  have key : ∀ b : BitVec 1, Scalar.cmpi .ne (Scalar.extui b : BitVec 32) 0#32 = 1#1 → ¬ Scalar.cmpi .ne (Scalar.extui (Scalar.xori b 1#1) : BitVec 32) 0#32 = 1#1 := by decide
  exact key _ h

/-- The tile is in use. -/
abbrev cnd (t : Fin (cfgM m hO).N) : Prop := k0_cond2 (wrd (crd m hO t) (tbl m 2)) = 1#1

/-- At every tile the body stores its output's block. -/
theorem idle4 (t : Fin (cfgM m hO).N) : (cfgM m hO).idle (4 : Fin 5) ((cfgM m hO).grid.coords t) = false := by
  show (!(k0_cond1 ((tbl m).atD 2 (k0_off1 (crd m hO t))) == 1#1) && !(k0_cond2 ((tbl m).atD 2 (k0_off1 (crd m hO t))) == 1#1)) = false
  by_cases h : k0_cond2 ((tbl m).atD 2 (k0_off1 (crd m hO t))) = 1#1
  · simp [h]
  · simp [cond1_of _ h]

open Classical in
/-- The output block the body leaves at a tile. -/
def outB (c : Dev nD) (t : Fin (cfgM m hO).N) : S4096x128.Idx → Elt F .f32 :=
  if cnd m hO t then outU (iblk m hO c (0 : Fin 5) t) (iblk m hO c (1 : Fin 5) t) (iblk m hO c (2 : Fin 5) t) (iblk m hO c (3 : Fin 5) t) else k0_pay1

/-- What the pipeline is handed on a core. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c (0 : Fin 5) t
    | ⟨1, _⟩ => iblk m hO c (1 : Fin 5) t
    | ⟨2, _⟩ => iblk m hO c (2 : Fin 5) t
    | ⟨3, _⟩ => iblk m hO c (3 : Fin 5) t
    | ⟨4, _⟩ => outB m hO c t
  Φ _ := iprop(Pipeline.ΦA spec0 c ∗ Pipeline.ΦT pre0 (tbl m) c)
  q _ := fullShare
  owed _ := 0

theorem after_0 (c : Dev nD) (t : Fin (cfgM m hO).N) : (dats m hO 0 c).after (0 : Fin 5) t = iblk m hO c (0 : Fin 5) t := rfl
/-- Input 0 holds its block, fetched at this tile or at one before it. -/
theorem before_0 (c : Dev nD) (t : Fin (cfgM m hO).N) (d) : (dats m hO 0 c).before (0 : Fin 5) t d = iblk m hO c (0 : Fin 5) t :=
  ((dats m hO 0 c).before_in_eq_fetched (0 : Fin 5) rfl (fun _ => rfl) (fun _ _ _ => rfl) (fun t => by rw [after_0]; unfold Dat.blockOf iblk; rfl) t d).trans
    (by unfold Dat.fetched Dat.blockOf iblk; rfl)

theorem after_1 (c : Dev nD) (t : Fin (cfgM m hO).N) : (dats m hO 0 c).after (1 : Fin 5) t = iblk m hO c (1 : Fin 5) t := rfl
/-- Input 1 holds its block, fetched at this tile or at one before it. -/
theorem before_1 (c : Dev nD) (t : Fin (cfgM m hO).N) (d) : (dats m hO 0 c).before (1 : Fin 5) t d = iblk m hO c (1 : Fin 5) t :=
  ((dats m hO 0 c).before_in_eq_fetched (1 : Fin 5) rfl (fun _ => rfl) (fun _ _ _ => rfl) (fun t => by rw [after_1]; unfold Dat.blockOf iblk; rfl) t d).trans
    (by unfold Dat.fetched Dat.blockOf iblk; rfl)

theorem after_2 (c : Dev nD) (t : Fin (cfgM m hO).N) : (dats m hO 0 c).after (2 : Fin 5) t = iblk m hO c (2 : Fin 5) t := rfl
/-- Input 2 holds its block, fetched at this tile or at one before it. -/
theorem before_2 (c : Dev nD) (t : Fin (cfgM m hO).N) (d) : (dats m hO 0 c).before (2 : Fin 5) t d = iblk m hO c (2 : Fin 5) t :=
  ((dats m hO 0 c).before_in_eq_fetched (2 : Fin 5) rfl (fun _ => rfl) (fun _ _ _ => rfl) (fun t => by rw [after_2]; unfold Dat.blockOf iblk; rfl) t d).trans
    (by unfold Dat.fetched Dat.blockOf iblk; rfl)

theorem after_3 (c : Dev nD) (t : Fin (cfgM m hO).N) : (dats m hO 0 c).after (3 : Fin 5) t = iblk m hO c (3 : Fin 5) t := rfl
/-- Input 3 holds its block, fetched at this tile or at one before it. -/
theorem before_3 (c : Dev nD) (t : Fin (cfgM m hO).N) (d) : (dats m hO 0 c).before (3 : Fin 5) t d = iblk m hO c (3 : Fin 5) t :=
  ((dats m hO 0 c).before_in_eq_fetched (3 : Fin 5) rfl (fun _ => rfl) (fun _ _ _ => rfl) (fun t => by rw [after_3]; unfold Dat.blockOf iblk; rfl) t d).trans
    (by unfold Dat.fetched Dat.blockOf iblk; rfl)

theorem after_4 (c : Dev nD) (t : Fin (cfgM m hO).N) : (dats m hO 0 c).after (4 : Fin 5) t = outB m hO c t := by
  delta dats; rfl

/-- The tables as the body holds them, one by one. -/
theorem tabs_eq (c : Dev nD) (v : pre0.Contents (Elt F)) :
    (Pipeline.ΦT (U := UR sig nD τ) pre0 v c : sProp (MM F))
      = iprop((((c : Thread nD τ).loc main_arg0) ↦{fullShare.right} v 0) ∗ (((c : Thread nD τ).loc main_arg1) ↦{fullShare.right} v 1) ∗ (((c : Thread nD τ).loc main_arg2) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What is carried from tile to tile: the scratch at any contents, the generator, the tables. -/
theorem phi_eq (c : Dev nD) (t) : (dats m hO 0 c).Φ t
    = iprop(((∃ f : Buf (Elt F) ((c : Thread nD τ).loc cc0_scratch0), ((c : Thread nD τ).loc cc0_scratch0) ↦{fullShare} f) ∗ ∃ r, prngReg c r)
        ∗ (((c : Thread nD τ).loc main_arg0) ↦{fullShare.right} tbl m 0) ∗ (((c : Thread nD τ).loc main_arg1) ↦{fullShare.right} tbl m 1) ∗ (((c : Thread nD τ).loc main_arg2) ↦{fullShare.right} tbl m 2)) := by
  show iprop(Pipeline.ΦA spec0 c ∗ Pipeline.ΦT pre0 (tbl m) c) = _
  rw [tabs_eq]; unfold Pipeline.ΦA; rw [scopedRest0_eq]

/-- The body at a tile, as the pipeline calls it. -/
abbrev bodyAt (t : Fin (cfgM m hO).N) : Prog (TpuEff nD τ sig (Elt F) Λ₀ .tc) PUnit :=
  cc0_expert_mlp (crd m hO t) (Memref.whole main_arg0) (Memref.isWhole_whole _) (Memref.whole main_arg1) (Memref.isWhole_whole _) (Memref.whole main_arg2) (Memref.isWhole_whole _) (m0 m hO t) (h0 m hO t) (m1 m hO t) (h1 m hO t) (m2 m hO t) (h2 m hO t) (m3 m hO t) (h3 m hO t) (m4 m hO t) (h4 m hO t) (Memref.whole cc0_scratch0) (Memref.isWhole_whole _)

set_option maxHeartbeats 8000000 in
/-- The body at a tile, whichever branch it takes. -/
theorem sound_body (c : Dev nD) (t : Fin (cfgM m hO).N) :
    iprop((dats m hO 0 c).Φ t.castSucc ∗ (dats m hO 0 c).owesAt () t.castSucc
        ∗ (∃ d, owns (c : Thread nD τ) (m0 m hO t) fullShare ((dats m hO 0 c).before (0 : Fin 5) t d))
        ∗ (∃ d, owns (c : Thread nD τ) (m1 m hO t) fullShare ((dats m hO 0 c).before (1 : Fin 5) t d))
        ∗ (∃ d, owns (c : Thread nD τ) (m2 m hO t) fullShare ((dats m hO 0 c).before (2 : Fin 5) t d))
        ∗ (∃ d, owns (c : Thread nD τ) (m3 m hO t) fullShare ((dats m hO 0 c).before (3 : Fin 5) t d))
        ∗ (∃ d, owns (c : Thread nD τ) (m4 m hO t) fullShare ((dats m hO 0 c).before (4 : Fin 5) t d)))
      ⊢ wp frame (wpE (defs₀ (F := F)) Variants.none c none) Set.univ (bodyAt m hO t) fun _ =>
          iprop((dats m hO 0 c).Φ t.succ ∗ (dats m hO 0 c).owesAt () t.succ
            ∗ bigSep Finset.univ fun w : Fin (cfgM m hO).W =>
                match (cfgM m hO).idle w ((cfgM m hO).grid.coords t) with
                | true =>
                  match ((cfgM m hO).win w).flush t with
                  | false => iprop(∃ d, owns (c : Thread nD τ) (((cfgM m hO).win w).stage ((cfgM m hO).slots t w)) fullShare ((dats m hO 0 c).before w t d))
                  | true => owns (c : Thread nD τ) (((cfgM m hO).win w).stage ((cfgM m hO).slots t w)) fullShare ((dats m hO 0 c).after w t)
                | false => owns (c : Thread nD τ) (((cfgM m hO).win w).stage ((cfgM m hO).slots t w)) fullShare ((dats m hO 0 c).after w t)) := by
  rw [bigSep_W0]
  have i4 := idle4 m hO t
  rewrite [i4]
  simp only [before_0, before_1, before_2, before_3, after_0, after_1, after_2, after_3, after_4, phi_eq]
  rewrite [show (dats m hO 0 c).owesAt () t.succ = (dats m hO 0 c).owesAt () t.castSucc from rfl]
  iintro ⟨⟨⟨⟨%a0, HS0⟩, HP⟩, HT0, HT1, HT2⟩, Ho, ⟨%d0, H0⟩, ⟨%d1, H1⟩, ⟨%d2, H2⟩, ⟨%d3, H3⟩, ⟨%d4, H4⟩⟩
  by_cases hc : cnd m hO t
  · iapply ((runU c (crd m hO t) (m0 m hO t) (h0 m hO t) (m1 m hO t) (h1 m hO t) (m2 m hO t) (h2 m hO t) (m3 m hO t) (h3 m hO t) (m4 m hO t) (h4 m hO t) (tbl m 0) (tbl m 1) (tbl m 2) (iblk m hO c (0 : Fin 5) t) (iblk m hO c (1 : Fin 5) t) (iblk m hO c (2 : Fin 5) t) (iblk m hO c (3 : Fin 5) t) a0 (cond1_not _ hc) hc).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexists _; iexact H4
    isplitl [HS0]; · iexact HS0
    iintro ⟨H0, H1, H2, H3, HT0, HT1, HT2, ⟨%e4, H4⟩, HS0⟩
    isplitl [HS0 HP HT0 HT1 HT2]
    · isplitl [HS0 HP]
      · isplitl [HS0]
        · iexact HS0
        iexact HP
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (runU_read (m4 m hO t).view e4 c (crd m hO t) (m0 m hO t) (h0 m hO t) (m1 m hO t) (h1 m hO t) (m2 m hO t) (h2 m hO t) (m3 m hO t) (h3 m hO t) (m4 m hO t) (h4 m hO t) (tbl m 0) (tbl m 1) (tbl m 2) (iblk m hO c (0 : Fin 5) t) (iblk m hO c (1 : Fin 5) t) (iblk m hO c (2 : Fin 5) t) (iblk m hO c (3 : Fin 5) t) a0 (cond1_not _ hc) hc).trans (if_pos hc).symm
  · iapply ((runZ c (crd m hO t) (m0 m hO t) (h0 m hO t) (m1 m hO t) (h1 m hO t) (m2 m hO t) (h2 m hO t) (m3 m hO t) (h3 m hO t) (m4 m hO t) (h4 m hO t) (tbl m 0) (tbl m 1) (tbl m 2) (iblk m hO c (0 : Fin 5) t) (iblk m hO c (1 : Fin 5) t) (iblk m hO c (2 : Fin 5) t) (iblk m hO c (3 : Fin 5) t) a0 (cond1_of _ hc) hc).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexists _; iexact H4
    isplitl [HS0]; · iexact HS0
    iintro ⟨H0, H1, H2, H3, HT0, HT1, HT2, ⟨%e4, H4⟩, HS0⟩
    isplitl [HS0 HP HT0 HT1 HT2]
    · isplitl [HS0 HP]
      · isplitl [HS0]
        · iexact HS0
        iexact HP
      isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (runZ_read (m4 m hO t).view e4 c (crd m hO t) (m0 m hO t) (h0 m hO t) (m1 m hO t) (h1 m hO t) (m2 m hO t) (h2 m hO t) (m3 m hO t) (h3 m hO t) (m4 m hO t) (h4 m hO t) (tbl m 0) (tbl m 1) (tbl m 2) (iblk m hO c (0 : Fin 5) t) (iblk m hO c (1 : Fin 5) t) (iblk m hO c (2 : Fin 5) t) (iblk m hO c (3 : Fin 5) t) a0 (cond1_of _ hc) hc).trans (if_neg hc).symm

/-- The body at every tile. -/
theorem body_obligation (c : Dev nD) : BodyObligation (dats m hO 0 c) (defs₀ (F := F)) Variants.none () Set.univ := fun t => by
  rw [bigSep_W0]
  exact sound_body m hO c t

theorem share_eq (c : Dev nD) (w : Fin (cfgM m hO).W) : (dats m hO 0 c).share w = fullShare := by unfold Dat.share; split <;> rfl

set_option backward.isDefEq.respectTransparency.types false in
set_option maxHeartbeats 4000000 in
/-- The run: every window's array ends at what the tiles wrote, every other buffer as it was at the launch, the counters at zero. -/
theorem run_frame : θ_run (defs (F := F)) (onTc (τ := τ) (main (F := F))) ⟨m, fun _ => 0, ρ⟩
    (fun r => Pipeline.FramePost (pcs m hO) (dats m hO) 0 (V m) r ∧ r.2.sem = fun _ => 0) :=
  Pipeline.θ_run_frameP (pcfgs (F := F)) (fun _ => adm m hO) (dats m hO) 0 launch0 defs₀ Variants.none m ρ main
    (hbody := fun c => (body_obligation m hO c).loose) (hshare := share_eq m hO) (howed := fun _ _ => rfl)
    (V := V m) (hmain := hmain m) (hA := fun _ _ => rfl) (hpf := V_pre m) (hΦ := fun _ _ => rfl)
    (Q' := fun r => Pipeline.FramePost (pcs m hO) (dats m hO) 0 (V m) r ∧ r.2.sem = fun _ => 0) (hQ' := fun _ h => h)

end Cert.KernelIdeal.Ex

end
-- ==== Proof.Args.lean ====
/- The precondition read off the tables, and the kernel's arguments unchanged at the end of its run. -/
module

public import proofs.«01_k».proof.Proof.Frm
public import proofs.«01_k».proof.Proof.Gen.Pre_tables_in_range
public import Idealize.ShloMosaic.Lib.StableHlo.Predicate
public import Idealize.ShloMosaic.Lib.Pointwise

@[expose] public section

set_option maxRecDepth 16384

noncomputable section

namespace Cert.KernelIdeal.Ex

open Cert.KernelIdeal Cert.KernelIdeal.Gen
open Idealize.ShloMosaic
open Idealize.ShloMosaic.TcCoe Idealize.ShloMosaic.Tactic
open Idealize.SL Idealize.SL.Sem

variable {F : FTy → Type} [FloatOps F]

theorem lt_of_range (v : BitVec 32) (n : ℕ) (hn : n < 2 ^ 31)
    (h : IntOp.andi (IntOp.cmpi .sge v 0#32) (IntOp.cmpi .slt v (BitVec.ofNat 32 n)) = 1#1) : v.toNat < n := by
  have h' : (0 ≤ v.toInt) ∧ v.toInt < n := by
    have e : (BitVec.ofNat 32 n).toInt = n := by
      rw [BitVec.toInt_eq_toNat_cond, BitVec.toNat_ofNat, if_pos (by omega)]; omega
    by_cases a : 0 ≤ v.toInt <;> by_cases b : v.toInt < n <;>
      simp_all [IntOp.andi, IntOp.cmpi, BitVec.slt, BitVec.sle]
  rw [BitVec.toInt_eq_toNat_cond] at h'
  split at h' <;> omega

/-- The precondition: the experts and the blocks named are experts and blocks. -/
theorem of_pre (te tb tu : IVec S159 32) (xs : FVec F S651264x128 .f32) (w1 w3 : FVec F S32x2048x512 .f32) (w2 : FVec F S32x512x2048 .f32)
    (h : (Pre_tables_in_range.fn te tb tu xs w1 w3 w2).1 = (fun _ => 1#1) ∧ (Pre_tables_in_range.fn te tb tu xs w1 w3 w2).2 = (fun _ => 1#1)) :
    (∀ x, (te x).toNat < 32) ∧ ∀ x, (tb x).toNat < 159 :=
  ⟨fun x => lt_of_range _ 32 (by decide) (congrFun h.1 x), fun x => lt_of_range _ 159 (by decide) (congrFun h.2 x)⟩

variable (m : (ℓ : Loc nD τ sig) → Buf (Elt F) ℓ) (ρ : Dev nD → PrngReg)

/-- Tables within range name blocks inside their arrays. -/
theorem ok_of_tbl (pf : pre0.Contents (Elt F)) (g0 : ∀ x : S159.Idx, BitVec.toNat (pf 0 x) < 32) (g1 : ∀ x : S159.Idx, BitVec.toNat (pf 1 x) < 159) : ok0 (F := F) pf := by
  refine ⟨fun i => ⟨?_, .inl rfl⟩, fun i => ⟨?_, .inr (Affine.block_words_dvd (s := S32x2048x512) (p := EltTy.packing .bf16) (by decide) (by decide))⟩, fun i => ⟨?_, .inr (Affine.block_words_dvd (s := S32x2048x512) (p := EltTy.packing .bf16) (by decide) (by decide))⟩, fun i => ⟨?_, .inr (Affine.block_words_dvd (s := S32x512x2048) (p := EltTy.packing .bf16) (by decide) (by decide))⟩⟩
  · intro a
    match a with
    | ⟨0, _⟩ => exact (show ∀ n, n < 159 → (n + 1) * 4096 ≤ 651264 from fun n h => by omega) _ (g1 _)
    | ⟨1, _⟩ => exact (show (0 + 1) * 128 ≤ 128 from by decide)
  · intro a
    match a with
    | ⟨0, _⟩ => exact (show ∀ n, n < 32 → (n + 1) * 1 ≤ 32 from fun n h => by omega) _ (g0 _)
    | ⟨1, _⟩ => exact (show (0 + 1) * 2048 ≤ 2048 from by decide)
    | ⟨2, _⟩ => exact (show (0 + 1) * 512 ≤ 512 from by decide)
  · intro a
    match a with
    | ⟨0, _⟩ => exact (show ∀ n, n < 32 → (n + 1) * 1 ≤ 32 from fun n h => by omega) _ (g0 _)
    | ⟨1, _⟩ => exact (show (0 + 1) * 2048 ≤ 2048 from by decide)
    | ⟨2, _⟩ => exact (show (0 + 1) * 512 ≤ 512 from by decide)
  · intro a
    match a with
    | ⟨0, _⟩ => exact (show ∀ n, n < 32 → (n + 1) * 1 ≤ 32 from fun n h => by omega) _ (g0 _)
    | ⟨1, _⟩ => exact (show (0 + 1) * 512 ≤ 512 from by decide)
    | ⟨2, _⟩ => exact (show (0 + 1) * 2048 ≤ 2048 from by decide)

theorem ok_of (h0 : ∀ x, (m (((0 : Dev nD) : Thread nD τ).loc main_arg0) x).toNat < 32) (h1 : ∀ x, (m (((0 : Dev nD) : Thread nD τ).loc main_arg1) x).toNat < 159) : Ok m := by
  have e0 : tbl m 0 = m (((0 : Dev nD) : Thread nD τ).loc main_arg0) := V_arg m main_arg0 (by decide) (by decide) (by decide) 0
  have e1 : tbl m 1 = m (((0 : Dev nD) : Thread nD τ).loc main_arg1) := V_arg m main_arg1 (by decide) (by decide) (by decide) 0
  exact ok_of_tbl (tbl m) (fun x => by rw [e0]; exact h0 x) (fun x => by rw [e1]; exact h1 x)

/-- The run, its result the written array and its arguments as launched. -/
theorem run_args (hO : Ok m) : θ_run (defs (F := F)) (onTc (τ := τ) (main (F := F))) ⟨m, fun _ => 0, ρ⟩
    (fun r => (∀ c : Dev nD,
      r.2.mem ((c.tc : Thread nD τ).loc main_v3) = (dats m hO 0 c).arrAt (4 : Fin 5) (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run (defs (F := F)) _ _).mono (fun r h => ⟨fun c => ?_, h.2⟩) (run_frame m ρ hO)
  obtain ⟨hw, hr⟩ := h.1 c
  refine ⟨hw (4 : Fin 5), ?_, ?_, ?_, ?_, ?_, ?_, ?_⟩
  · exact (hr main_arg0 (show main_arg0 ∈ Pipeline.restRefs sig spec0 from by decide)).trans (V_arg m main_arg0 (by decide) (by decide) (by decide) c)
  · exact (hr main_arg1 (show main_arg1 ∈ Pipeline.restRefs sig spec0 from by decide)).trans (V_arg m main_arg1 (by decide) (by decide) (by decide) c)
  · exact (hr main_arg2 (show main_arg2 ∈ Pipeline.restRefs sig spec0 from by decide)).trans (V_arg m main_arg2 (by decide) (by decide) (by decide) c)
  · exact (hw (0 : Fin 5)).trans (((dats m hO 0 c).arrAt_in (0 : Fin 5) rfl _).trans (V_arg m main_arg3 (by decide) (by decide) (by decide) c))
  · exact (hr main_arg4 (show main_arg4 ∈ Pipeline.restRefs sig spec0 from by decide)).trans (V_arg m main_arg4 (by decide) (by decide) (by decide) c)
  · exact (hr main_arg5 (show main_arg5 ∈ Pipeline.restRefs sig spec0 from by decide)).trans (V_arg m main_arg5 (by decide) (by decide) (by decide) c)
  · exact (hr main_arg6 (show main_arg6 ∈ Pipeline.restRefs sig spec0 from by decide)).trans (V_arg m main_arg6 (by decide) (by decide) (by decide) c)

end Cert.KernelIdeal.Ex

end
-- ==== Proof.Goal.lean ====
/- The experts' result as one formula of the arguments, over the extended reals. -/
module

public import Idealize.ShloMosaic.Lib.Pointwise

@[expose] public section

noncomputable section

namespace Cert.Goal

open Idealize.ShloMosaic Idealize.ShloMosaic.Tactic

/-- Feature `k` of token `p` of block `B`. -/
def xrow (xs : FVec Ideal ⟨2, ![651264, 128]⟩ .f32) (B : Fin 159) (p : Fin 256) (k : Fin 2048) : EReal :=
  xs (ix2 ⟨4096 * B.val + 16 * p.val + k.val / 128, by omega⟩ ⟨k.val % 128, by omega⟩)

/-- One token through an expert's first two weights: `silu(x w1) (x w3)`. -/
def hidv (x : Fin 2048 → EReal) (w1 w3 : Fin 2048 → Fin 512 → EReal) (f : Fin 512) : EReal :=
  (∑ k : Fin 2048, x k * w1 k f) * Ideal.logistic (∑ k : Fin 2048, x k * w1 k f) * (∑ k : Fin 2048, x k * w3 k f)

/-- One token through one expert, at one feature: `Σ_f silu(x w1) (x w3) w2`. -/
def ffn (x : Fin 2048 → EReal) (w1 w3 : Fin 2048 → Fin 512 → EReal) (w2 : Fin 512 → EReal) : EReal :=
  ∑ f : Fin 512, hidv x w1 w3 f * w2 f

/-- The tile's block. -/
def blkOf (tb : IVec ⟨1, ![159]⟩ 32) (t : Fin 159) : Fin 159 := ⟨min (tb (ix1 t)).toInt.toNat 158, by omega⟩
/-- The tile's expert. -/
def expOf (te : IVec ⟨1, ![159]⟩ 32) (t : Fin 159) : Fin 32 := ⟨min (te (ix1 t)).toInt.toNat 31, by omega⟩

/-- Token `p` of tile `t` at feature `d`: the token through the tile's expert where the tile is in use, nothing where it is not. -/
def entry (te tb tu : IVec ⟨1, ![159]⟩ 32) (xs : FVec Ideal ⟨2, ![651264, 128]⟩ .f32) (w1 w3 : FVec Ideal ⟨3, ![32, 2048, 512]⟩ .f32)
    (w2 : FVec Ideal ⟨3, ![32, 512, 2048]⟩ .f32) (t : Fin 159) (p : Fin 256) (d : Fin 2048) : EReal :=
  if 0 < (tu (ix1 t)).toInt then
    ffn (xrow xs (blkOf tb t) p) (fun k f => w1 (ix3 (expOf te t) k f)) (fun k f => w3 (ix3 (expOf te t) k f)) (fun f => w2 (ix3 (expOf te t) f d))
  else 0

/-- The array: row `4096 t + 16 p + s` holds features `128 s` to `128 s + 127` of token `p` of tile `t`. -/
def goal (te tb tu : IVec ⟨1, ![159]⟩ 32) (xs : FVec Ideal ⟨2, ![651264, 128]⟩ .f32) (w1 w3 : FVec Ideal ⟨3, ![32, 2048, 512]⟩ .f32)
    (w2 : FVec Ideal ⟨3, ![32, 512, 2048]⟩ .f32) : FVec Ideal ⟨2, ![651264, 128]⟩ .f32 := fun i =>
  entry te tb tu xs w1 w3 w2 ⟨(i 0).val / 4096, by have h : (i 0).val < 651264 := (i 0).isLt; omega⟩ ⟨(i 0).val % 4096 / 16, by omega⟩
    ⟨128 * ((i 0).val % 16) + (i 1).val, by have h : (i 1).val < 128 := (i 1).isLt; omega⟩

end Cert.Goal

end
-- ==== Proof.Val.lean ====
/- The kernel's array at its end, over the extended reals, as one formula of the arguments. -/
module

public import proofs.«01_k».proof.Proof.Args
public import proofs.«01_k».proof.Proof.Goal
public import Idealize.ShloMosaic.Lib.Pipeline.ValueKit.Geometry

@[expose] public section

set_option maxRecDepth 16384

noncomputable section

namespace Cert.KernelIdeal.Ex

open Cert.KernelIdeal Cert.KernelIdeal.Gen
open Idealize.ShloMosaic
open Idealize.ShloMosaic.TcCoe Idealize.ShloMosaic.Tactic
open Idealize.SL Idealize.SL.Sem

theorem pay23_at (x : FVec Ideal S256x2048 .bf16) (x1 x2 : FVec Ideal S1x2048x512 .bf16) (p : Fin 256) (f : Fin 512) :
    k0_pay23 (F := Ideal) x x1 x2 (ix2 p f) = Goal.hidv (fun k => x (ix2 p k)) (fun k f => x1 (ix3 0 k f)) (fun k f => x2 (ix3 0 k f)) f := by
  unfold Goal.hidv
  pointwise [k0_pay23]

theorem pay24_at (h : FVec Ideal S256x512 .f32) (x3 : FVec Ideal S1x512x2048 .bf16) (p : Fin 256) (d : Fin 2048) :
    k0_pay24 (F := Ideal) h x3 (ix2 p d) = (∑ f : Fin 512, h (ix2 p f) * x3 (ix3 0 f d) : EReal) := by
  pointwise [k0_pay24]

theorem yv_at (x0 : FVec Ideal S4096x128 .f32) (x1 x2 : FVec Ideal S1x2048x512 .bf16) (x3 : FVec Ideal S1x512x2048 .bf16) (p : Fin 256) (d : Fin 2048) :
    yv (F := Ideal) x0 x1 x2 x3 (ix2 p d)
      = Goal.ffn (fun k => x0 (ix2 ⟨16 * p.val + k.val / 128, by omega⟩ ⟨k.val % 128, by omega⟩)) (fun k f => x1 (ix3 0 k f)) (fun k f => x2 (ix3 0 k f)) (fun f => x3 (ix3 0 f d)) := by
  unfold yv Goal.ffn
  rw [pay24_at]
  simp only [pay23_at]
  have hx : ∀ k : Fin 2048, xc (F := Ideal) x0 (ix2 p k) = x0 (ix2 ⟨16 * p.val + k.val / 128, by omega⟩ ⟨k.val % 128, by omega⟩) := fun k => by
    unfold xc
    refine congrArg x0 (funext fun a => ?_)
    match a with
    | ⟨0, _⟩ => rfl
    | ⟨1, _⟩ => rfl
  simp only [hx]

theorem pay1_at (y : S4096x128.Idx) : (k0_pay1 (F := Ideal)) y = (0 : EReal) := by
  unfold k0_pay1
  simp [constant]
  rfl

theorem toInt_of {v : BitVec 32} {n : ℕ} (h : v.toNat < n) (hn : n < 2 ^ 31) : v.toInt = v.toNat := by
  rw [BitVec.toInt_eq_toNat_cond, if_pos (by omega)]

/-- In use means a positive word. -/
theorem cond2_iff (v : BitVec 32) : k0_cond2 v = 1#1 ↔ 0 < v.toInt := by
  unfold k0_cond2
  have key : ∀ b : Bool, Scalar.cmpi .ne (Scalar.extui (BitVec.ofBool b) : BitVec 32) 0#32 = 1#1 ↔ b = true := by decide
  refine (key (BitVec.slt 0#32 v)).trans ?_
  simp [BitVec.slt]

variable (m : (ℓ : Loc nD τ sig) → Buf (Elt Ideal) ℓ) (hO : Ok m)

theorem V0_at (c : Dev nD) (e : Fin 32) (k : Fin 2048) (f : Fin 512) : V m c main_v0 (ix3 e k f) = m ((c : Thread nD τ).loc main_arg4) (ix3 e k f) := by
  simp only [V, hostOps0]
  after_results_simp
  all_goals rfl

theorem V1_at (c : Dev nD) (e : Fin 32) (k : Fin 2048) (f : Fin 512) : V m c main_v1 (ix3 e k f) = m ((c : Thread nD τ).loc main_arg5) (ix3 e k f) := by
  simp only [V, hostOps0]
  after_results_simp
  all_goals rfl

theorem V2_at (c : Dev nD) (e : Fin 32) (k : Fin 512) (f : Fin 2048) : V m c main_v2 (ix3 e k f) = m ((c : Thread nD τ).loc main_arg6) (ix3 e k f) := by
  simp only [V, hostOps0]
  after_results_simp
  all_goals rfl

theorem crd_val (t : Fin (cfgM m hO).N) : (crd m hO t 0).val = t.val := by
  have h : ∀ t : Fin grid0.N, (grid0.coords t 0).val = t.val := by decide +kernel
  exact h t

theorem tbl0 : tbl m 0 = m (((0 : Dev nD) : Thread nD τ).loc main_arg0) := V_arg m main_arg0 (by decide) (by decide) (by decide) 0
theorem tbl1 : tbl m 1 = m (((0 : Dev nD) : Thread nD τ).loc main_arg1) := V_arg m main_arg1 (by decide) (by decide) (by decide) 0
theorem tbl2 : tbl m 2 = m (((0 : Dev nD) : Thread nD τ).loc main_arg2) := V_arg m main_arg2 (by decide) (by decide) (by decide) 0

/-- Tile `t` as a number below 159. -/
def tn (t : Fin (cfgM m hO).N) : Fin 159 := ⟨t.val, t.isLt⟩

theorem first_at (i : grid0.Coords) (n : Fin 159) (hn : (i 0).val = n.val) (inb) (h1) :
    (Rect.unit (s := S159) (k0_off1 i) S1.size inb).emb (Shape.Idx.first h1) = ix1 n := by
  have e := k0_off1_eq i
  refine funext fun a => Fin.ext ?_
  match a with
  | ⟨0, _⟩ =>
    show k0_off1 i 0 + 1 * 0 = n.val
    rw [e]
    exact hn

theorem ix0_0 (t : Fin (cfgM m hO).N) (h1) (h2) : cc0_transform_0 h1 h2 (tbl m) (crd m hO t) 0 = (tbl m 1 (ix1 (tn m hO t))).toNat :=
  congrArg (fun z => (tbl m 1 z).toNat) (first_at (crd m hO t) (tn m hO t) (crd_val m hO t) (h1 _) _)
theorem ix0_1 (t : Fin (cfgM m hO).N) (h1) (h2) : cc0_transform_1 h1 h2 (tbl m) (crd m hO t) 0 = (tbl m 0 (ix1 (tn m hO t))).toNat :=
  congrArg (fun z => (tbl m 0 z).toNat) (first_at (crd m hO t) (tn m hO t) (crd_val m hO t) (h1 _) _)
theorem ix0_2 (t : Fin (cfgM m hO).N) (h1) (h2) : cc0_transform_2 h1 h2 (tbl m) (crd m hO t) 0 = (tbl m 0 (ix1 (tn m hO t))).toNat :=
  congrArg (fun z => (tbl m 0 z).toNat) (first_at (crd m hO t) (tn m hO t) (crd_val m hO t) (h1 _) _)
theorem ix0_3 (t : Fin (cfgM m hO).N) (h1) (h2) : cc0_transform_3 h1 h2 (tbl m) (crd m hO t) 0 = (tbl m 0 (ix1 (tn m hO t))).toNat :=
  congrArg (fun z => (tbl m 0 z).toNat) (first_at (crd m hO t) (tn m hO t) (crd_val m hO t) (h1 _) _)
theorem wrd_at (t : Fin (cfgM m hO).N) : wrd (crd m hO t) (tbl m 2) = tbl m 2 (ix1 (tn m hO t)) :=
  congrArg (tbl m 2) (first_at (crd m hO t) (tn m hO t) (crd_val m hO t) _ _)

theorem blk0 (c : Dev nD) (t : Fin (cfgM m hO).N) (r : Fin 4096) (l : Fin 128) (B : Fin 159) (hB : B.val = (tbl m 1 (ix1 (tn m hO t))).toNat) :
    iblk m hO c (0 : Fin 5) t (ix2 r l) = V m c main_arg3 (ix2 ⟨4096 * B.val + r.val, by omega⟩ l) := by
  unfold iblk
  show V m c main_arg3 _ = _
  refine congrArg (V m c main_arg3) (funext fun a => Fin.ext ?_)
  match a with
  | ⟨0, _⟩ =>
    refine (show _ = cc0_transform_0 k0_off1_inb numel1_S1 (tbl m) (crd m hO t) 0 * 4096 + 1 * r.val from rfl).trans ?_
    rw [ix0_0]
    show _ = 4096 * B.val + r.val
    omega
  | ⟨1, _⟩ =>
    show 0 * 128 + 1 * l.val = l.val
    omega

theorem blk1 (c : Dev nD) (t : Fin (cfgM m hO).N) (k : Fin 2048) (f : Fin 512) (e : Fin 32) (he : e.val = (tbl m 0 (ix1 (tn m hO t))).toNat) :
    iblk m hO c (1 : Fin 5) t (ix3 0 k f) = V m c main_v0 (ix3 e k f) := by
  unfold iblk
  show V m c main_v0 _ = _
  refine congrArg (V m c main_v0) (funext fun a => Fin.ext ?_)
  match a with
  | ⟨0, _⟩ =>
    refine (show _ = cc0_transform_1 k0_off1_inb numel1_S1 (tbl m) (crd m hO t) 0 * 1 + 1 * 0 from rfl).trans ?_
    rw [ix0_1]
    show _ = e.val
    omega
  | ⟨1, _⟩ =>
    show 0 * 2048 + 1 * k.val = k.val
    omega
  | ⟨2, _⟩ =>
    show 0 * 512 + 1 * f.val = f.val
    omega

theorem blk2 (c : Dev nD) (t : Fin (cfgM m hO).N) (k : Fin 2048) (f : Fin 512) (e : Fin 32) (he : e.val = (tbl m 0 (ix1 (tn m hO t))).toNat) :
    iblk m hO c (2 : Fin 5) t (ix3 0 k f) = V m c main_v1 (ix3 e k f) := by
  unfold iblk
  show V m c main_v1 _ = _
  refine congrArg (V m c main_v1) (funext fun a => Fin.ext ?_)
  match a with
  | ⟨0, _⟩ =>
    refine (show _ = cc0_transform_2 k0_off1_inb numel1_S1 (tbl m) (crd m hO t) 0 * 1 + 1 * 0 from rfl).trans ?_
    rw [ix0_2]
    show _ = e.val
    omega
  | ⟨1, _⟩ =>
    show 0 * 2048 + 1 * k.val = k.val
    omega
  | ⟨2, _⟩ =>
    show 0 * 512 + 1 * f.val = f.val
    omega

theorem blk3 (c : Dev nD) (t : Fin (cfgM m hO).N) (k : Fin 512) (f : Fin 2048) (e : Fin 32) (he : e.val = (tbl m 0 (ix1 (tn m hO t))).toNat) :
    iblk m hO c (3 : Fin 5) t (ix3 0 k f) = V m c main_v2 (ix3 e k f) := by
  unfold iblk
  show V m c main_v2 _ = _
  refine congrArg (V m c main_v2) (funext fun a => Fin.ext ?_)
  match a with
  | ⟨0, _⟩ =>
    refine (show _ = cc0_transform_3 k0_off1_inb numel1_S1 (tbl m) (crd m hO t) 0 * 1 + 1 * 0 from rfl).trans ?_
    rw [ix0_3]
    show _ = e.val
    omega
  | ⟨1, _⟩ =>
    show 0 * 512 + 1 * k.val = k.val
    omega
  | ⟨2, _⟩ =>
    show 0 * 2048 + 1 * f.val = f.val
    omega

set_option backward.proofsInPublic true in
/-- Tables of zeros, to decide what does not depend on the tables. -/
def pfZ : pre0.Contents (Elt Ideal) := fun | ⟨0, _⟩ => fun _ => 0#32 | ⟨1, _⟩ => fun _ => 0#32 | ⟨2, _⟩ => fun _ => 0#32 | ⟨_ + 3, h⟩ => absurd h (by simp)

theorem okZ : ok0 (F := Ideal) pfZ := ok_of_tbl pfZ (fun _ => by show (0#32).toNat < 32; decide) (fun _ => by show (0#32).toNat < 159; decide)

theorem covZ : ((cfg0 (F := Ideal) ⟨pfZ, okZ⟩).win (4 : Fin 5)).Covers := by decide +kernel

theorem cov : ((cfgM m hO).win (4 : Fin 5)).Covers := covZ

theorem ix0_4 (t : Fin (cfgM m hO).N) : cc0_transform_4 (crd m hO t) 0 = t.val := by
  have h : ∀ t : Fin grid0.N, cc0_transform_4 (grid0.coords t) 0 = t.val := by decide +kernel
  exact h t

/-- What the body leaves at a tile is the formula there. -/
theorem point_at (t : Fin (cfgM m hO).N) (y : S4096x128.Idx) (hp : ∀ x, (m (((0 : Dev nD) : Thread nD τ).loc main_arg0) x).toNat < 32) (hq : ∀ x, (m (((0 : Dev nD) : Thread nD τ).loc main_arg1) x).toNat < 159)
    (R : Fin 651264) (hR : R.val = 4096 * t.val + (y 0).val) (l : Fin 128) (hl : l.val = (y 1).val) :
    outB m hO 0 t y = Goal.goal (m (((0 : Dev nD) : Thread nD τ).loc main_arg0)) (m (((0 : Dev nD) : Thread nD τ).loc main_arg1)) (m (((0 : Dev nD) : Thread nD τ).loc main_arg2)) (m (((0 : Dev nD) : Thread nD τ).loc main_arg3))
          (m (((0 : Dev nD) : Thread nD τ).loc main_arg4)) (m (((0 : Dev nD) : Thread nD τ).loc main_arg5)) (m (((0 : Dev nD) : Thread nD τ).loc main_arg6)) (ix2 R l) := by
  have y0 : (y 0).val < 4096 := (y 0).isLt
  have y1 : (y 1).val < 128 := (y 1).isLt
  have ht : t.val < 159 := t.isLt
  unfold Goal.goal
  rw [show (⟨((ix2 R l : S651264x128.Idx) 0).val / 4096, _⟩ : Fin 159) = tn m hO t from Fin.ext (show R.val / 4096 = t.val from by omega),
    show (⟨((ix2 R l : S651264x128.Idx) 0).val % 4096 / 16, _⟩ : Fin 256) = ⟨(y 0).val / 16, by omega⟩ from Fin.ext (show R.val % 4096 / 16 = (y 0).val / 16 from by omega),
    show (⟨128 * (((ix2 R l : S651264x128.Idx) 0).val % 16) + ((ix2 R l : S651264x128.Idx) 1).val, _⟩ : Fin 2048) = ⟨128 * ((y 0).val % 16) + (y 1).val, by omega⟩ from Fin.ext (show 128 * (R.val % 16) + l.val = 128 * ((y 0).val % 16) + (y 1).val from by omega)]
  unfold Goal.entry outB
  have hc : cnd m hO t ↔ 0 < (m (((0 : Dev nD) : Thread nD τ).loc main_arg2) (ix1 (tn m hO t))).toInt := by
    unfold cnd
    rw [wrd_at, tbl2]
    exact cond2_iff _
  by_cases h : cnd m hO t
  · rw [if_pos h, if_pos (hc.mp h)]
    have hE : (Goal.expOf (m (((0 : Dev nD) : Thread nD τ).loc main_arg0)) (tn m hO t)).val = (tbl m 0 (ix1 (tn m hO t))).toNat := by
      rw [tbl0]
      show min (BitVec.toInt _).toNat 31 = _
      rw [toInt_of (hp (ix1 (tn m hO t))) (by decide)]
      have := hp (ix1 (tn m hO t))
      omega
    have hB : (Goal.blkOf (m (((0 : Dev nD) : Thread nD τ).loc main_arg1)) (tn m hO t)).val = (tbl m 1 (ix1 (tn m hO t))).toNat := by
      rw [tbl1]
      show min (BitVec.toInt _).toNat 158 = _
      rw [toInt_of (hq (ix1 (tn m hO t))) (by decide)]
      have := hq (ix1 (tn m hO t))
      omega
    refine (show outU (F := Ideal) _ _ _ _ y = yv (F := Ideal) (iblk m hO 0 (0 : Fin 5) t) (iblk m hO 0 (1 : Fin 5) t) (iblk m hO 0 (2 : Fin 5) t) (iblk m hO 0 (3 : Fin 5) t)
      (ix2 (⟨(y 0).val / 16, by omega⟩ : Fin 256) (⟨128 * ((y 0).val % 16) + (y 1).val, by omega⟩ : Fin 2048)) from congrArg (yv (F := Ideal) _ _ _ _) (funext fun a => by
        match a with
        | ⟨0, _⟩ => rfl
        | ⟨1, _⟩ => rfl)).trans ?_
    refine (yv_at _ _ _ _ _ _).trans ?_
    refine congr (congr (congr (congrArg Goal.ffn (funext fun k => ?_)) (funext fun k => funext fun f => ?_)) (funext fun k => funext fun f => ?_)) (funext fun f => ?_)
    · refine (blk0 m hO 0 t _ _ _ hB).trans ?_
      rw [V_arg m main_arg3 (by decide) (by decide) (by decide) 0]
      unfold Goal.xrow
      refine congrArg (m _) (congrArg (fun q => ix2 q _) (Fin.ext ?_))
      show 4096 * _ + (16 * _ + _) = 4096 * _ + 16 * _ + _
      exact (Nat.add_assoc _ _ _).symm
    · exact (blk1 m hO 0 t k f _ hE).trans (V0_at m 0 _ k f)
    · exact (blk2 m hO 0 t k f _ hE).trans (V1_at m 0 _ k f)
    · exact (blk3 m hO 0 t f _ _ hE).trans (V2_at m 0 _ f _)
  · rw [if_neg h, if_neg fun q => h (hc.mpr q)]
    exact pay1_at y

theorem emb4 (t : Fin (cfgM m hO).N) (y : S4096x128.Idx) (R : Fin 651264) (hR : R.val = 4096 * t.val + (y 0).val) (l : Fin 128) (hl : l.val = (y 1).val) :
    (((cfgM m hO).win (4 : Fin 5)).blk t).view.emb y = ix2 R l := by
  funext a
  refine Fin.ext ?_
  match a with
  | ⟨0, _⟩ =>
    refine (show _ = cc0_transform_4 (crd m hO t) 0 * 4096 + 1 * (y 0).val from rfl).trans ?_
    rw [ix0_4]
    show _ = R.val
    omega
  | ⟨1, _⟩ =>
    show 0 * 128 + 1 * (y 1).val = l.val
    omega

/-- The kernel's array at its end. -/
theorem arr_eq (hp : ∀ x, (m (((0 : Dev nD) : Thread nD τ).loc main_arg0) x).toNat < 32) (hq : ∀ x, (m (((0 : Dev nD) : Thread nD τ).loc main_arg1) x).toNat < 159) :
    (dats m hO 0 0).arrAt (4 : Fin 5) (cfgM m hO).N
      = Goal.goal (m (((0 : Dev nD) : Thread nD τ).loc main_arg0)) (m (((0 : Dev nD) : Thread nD τ).loc main_arg1)) (m (((0 : Dev nD) : Thread nD τ).loc main_arg2)) (m (((0 : Dev nD) : Thread nD τ).loc main_arg3))
          (m (((0 : Dev nD) : Thread nD τ).loc main_arg4)) (m (((0 : Dev nD) : Thread nD τ).loc main_arg5)) (m (((0 : Dev nD) : Thread nD τ).loc main_arg6)) := by
  refine (dats m hO 0 0).arrAt_eq_of_covers (4 : Fin 5) _ (cov m hO) fun t hf y => ?_
  have y0 : (y 0).val < 4096 := (y 0).isLt
  have y1 : (y 1).val < 128 := (y 1).isLt
  have ht : t.val < 159 := t.isLt
  refine (cast_eq _ _).trans ?_
  rw [after_4]
  exact (point_at m hO t y hp hq (⟨4096 * t.val + (y 0).val, by omega⟩ : Fin 651264) rfl (⟨(y 1).val, y1⟩ : Fin 128) rfl).trans
    (congrArg (Goal.goal _ _ _ _ _ _ _) (emb4 m hO t y _ rfl _ rfl).symm)

end Cert.KernelIdeal.Ex

end
-- ==== Proof.RefRun.lean ====
/- The plain program's run: its operations composed, stage by stage, over any float values. -/
module

public import proofs.«01_k».proof.Proof.Gen.ReferenceIdeal
public import Idealize.ShloMosaic.Lib.StableHlo.Run
public import Idealize.ShloMosaic.Lib.Claim

@[expose] public section

noncomputable section

namespace Cert.ReferenceIdeal.Ref

open Cert.ReferenceIdeal Cert.ReferenceIdeal.Gen
open Idealize.ShloMosaic Idealize.ShloMosaic.TcCoe Idealize.ShloMosaic.Tactic Idealize.SL.Sem Idealize.ShloMosaic.StableHlo

variable {F : FTy → Type} [FloatOps F]

/-- The block each tile takes, a negative one counted from the end. -/
def blkIx (tb : IVec S159 32) : IVec S159x1 32 :=
  broadcastInDim S159x1 ![0] bcast_S159_S159x1_0
    (select (cmpi .slt tb (broadcastInDim S159 ![] bcast_S_S159 (constantI S_ 32 0#32)))
      (addi tb (broadcastInDim S159 ![] bcast_S_S159 (constantI S_ 32 159#32))) tb)

/-- The tokens' rows, tile after tile. -/
def tok (tb : IVec S159 32) (xs : FVec F S651264x128 .f32) : FVec F S40704x2048 .f32 :=
  shapeCast S40704x2048 (Host.gather gather_S159x256x2048_S159x1_S159x256x2048_12_0_n_n_0_1_12562048
    (shapeCast S159x256x2048 xs shapeCasts_S651264x128_S159x256x2048) (blkIx tb)) shapeCasts_S159x256x2048_S40704x2048

/-- Each tile's weight of each expert. -/
def cmb (te tu : IVec S159 32) : FVec F S159x32 .f32 :=
  mulf (uitofp .f32 (cmpi .eq (broadcastInDim S159x32 ![0, 1] bcast_S159x1_S159x32_0_1 (broadcastInDim S159x1 ![0] bcast_S159_S159x1_0 te))
      (broadcastInDim S159x32 ![0, 1] bcast_S1x32_S159x32_0_1 (iotaInDim S1x32 32 1))))
    (broadcastInDim S159x32 ![0, 1] bcast_S159x1_S159x32_0_1
      (uitofp .f32 (broadcastInDim S159x1 ![0] bcast_S159_S159x1_0 (cmpi .sgt tu (broadcastInDim S159 ![] bcast_S_S159 (constantI S_ 32 0#32))))))

/-- Each row's weight of each expert. -/
def cw (te tu : IVec S159 32) : FVec F S40704x32 .f32 :=
  shapeCast S40704x32 (broadcastInDim S159x256x32 ![0, 1, 2] bcast_S159x1x32_S159x256x32_0_1_2
    (broadcastInDim S159x1x32 ![0, 2] bcast_S159x32_S159x1x32_0_2 (cmb te tu))) shapeCasts_S159x256x32_S40704x32

/-- A row through an expert's first weight. -/
def lin (t : FVec F S40704x2048 .f32) (w : FVec F S32x2048x512 .f32) : FVec F S40704x32x512 .f32 :=
  Host.dotGeneral dot_S40704x2048_S32x2048x512_S40704x32x512_1_1_0_02_n_n none t w

def slu (a : FVec F S40704x32x512 .f32) : FVec F S40704x32x512 .f32 :=
  mulf a (Host.divf (broadcastInDim S40704x32x512 ![] bcast_S_S40704x32x512 (constant S_ .f32 0x3F800000#32))
    (addf (broadcastInDim S40704x32x512 ![] bcast_S_S40704x32x512 (constant S_ .f32 0x3F800000#32)) (Host.exp (Host.negf a))))

def hid (a b : FVec F S40704x32x512 .f32) (k : FVec F S40704x32 .f32) : FVec F S40704x32x512 .f32 :=
  mulf (mulf (slu a) b) (broadcastInDim S40704x32x512 ![0, 1, 2] bcast_S40704x32x1_S40704x32x512_0_1_2
    (broadcastInDim S40704x32x1 ![0, 1] bcast_S40704x32_S40704x32x1_0_1 k))

def fin (h : FVec F S40704x32x512 .f32) (w2 : FVec F S32x512x2048 .f32) : FVec F S651264x128 .f32 :=
  shapeCast S651264x128 (Host.dotGeneral dot_S40704x32x512_S32x512x2048_S40704x2048_12_01_0_2_n_n none h w2) shapeCasts_S40704x2048_S651264x128

/-- The result of the arguments. -/
def out (te tb tu : IVec S159 32) (xs : FVec F S651264x128 .f32) (w1 w3 : FVec F S32x2048x512 .f32) (w2 : FVec F S32x512x2048 .f32) : FVec F S651264x128 .f32 :=
  fin (hid (lin (tok tb xs) w1) (lin (tok tb xs) w3) (cw te tu)) w2

/-- The plain program runs, ends with that result and keeps its arguments. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  all_goals simp only [TRef.toBuf, TRef.ofBuf, cast_eq]
  all_goals rfl

end Cert.ReferenceIdeal.Ref

end
-- ==== Proof.RefStage.lean ====
/- The plain program's result read at an index over the extended reals: the sum over the experts keeps the tile's own, or
   nothing where the tile is not in use. -/
module

public import proofs.«01_k».proof.Proof.RefRun
public import proofs.«01_k».proof.Proof.Goal
public import Idealize.ShloMosaic.Lib.ValueIdxCore

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic

theorem gather_at {α : Type} (x : S159x256x2048.Idx → α) (idx : IVec S159x1 32) (t : Fin 159) (p : Fin 256) (k : Fin 2048) :
    Host.gather gather_S159x256x2048_S159x1_S159x256x2048_12_0_n_n_0_1_12562048 x idx (ix3 t p k)
      = x (ix3 ⟨min (idx (ix2 t 0)).toInt.toNat 158, by omega⟩ p k) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S159x256x2048_S159x1_S159x256x2048_12_0_n_n_0_1_12562048.startIndexMap from List.mem_singleton.mpr rfl)]
    have hsi : ∀ q, gather_S159x256x2048_S159x1_S159x256x2048_12_0_n_n_0_1_12562048.siIdx (ix3 t p k) q = ix2 t 0 := by
      intro q
      funext b; refine Fin.ext ?_
      match b with
      | ⟨0, _⟩ => rfl
      | ⟨1, _⟩ => exact Nat.lt_one_iff.mp (Fin.isLt _)
    exact congrArg (fun z => min (idx z).toInt.toNat 158) (hsi _)
  · unfold GatherDims.start
    rw [dif_neg (show (1 : Fin 3) ∉ gather_S159x256x2048_S159x1_S159x256x2048_12_0_n_n_0_1_12562048.startIndexMap from by decide)]
    unfold GatherDims.offCoord
    rw [dif_pos (show (1 : Fin 3) ∈ gather_S159x256x2048_S159x1_S159x256x2048_12_0_n_n_0_1_12562048.sKept from (GatherDims.mem_sKept _ _).mpr ⟨by decide, by decide⟩)]
    exact Nat.zero_add _
  · unfold GatherDims.start
    rw [dif_neg (show (2 : Fin 3) ∉ gather_S159x256x2048_S159x1_S159x256x2048_12_0_n_n_0_1_12562048.startIndexMap from by decide)]
    unfold GatherDims.offCoord
    rw [dif_pos (show (2 : Fin 3) ∈ gather_S159x256x2048_S159x1_S159x256x2048_12_0_n_n_0_1_12562048.sKept from (GatherDims.mem_sKept _ _).mpr ⟨by decide, by decide⟩)]
    exact Nat.zero_add _

theorem lin_at (t : FVec Ideal S40704x2048 .f32) (w : FVec Ideal S32x2048x512 .f32) (r : Fin 40704) (e : Fin 32) (f : Fin 512) :
    lin t w (ix3 r e f) = ∑ k : Fin 2048, (t (ix2 r k) * w (ix3 e k f) : EReal) := by
  pointwise [lin]

theorem slu_at (a : FVec Ideal S40704x32x512 .f32) (r : Fin 40704) (e : Fin 32) (f : Fin 512) :
    slu a (ix3 r e f) = (a (ix3 r e f) * Ideal.logistic (a (ix3 r e f)) : EReal) := by
  pointwise [slu]
  all_goals simp [Ideal.logistic]

theorem hid_at (a b : FVec Ideal S40704x32x512 .f32) (k : FVec Ideal S40704x32 .f32) (r : Fin 40704) (e : Fin 32) (f : Fin 512) :
    hid a b k (ix3 r e f) = (a (ix3 r e f) * Ideal.logistic (a (ix3 r e f)) * b (ix3 r e f) * k (ix2 r e) : EReal) := by
  pointwise [hid, slu]
  all_goals simp [Ideal.logistic]

theorem dot2_at (h : FVec Ideal S40704x32x512 .f32) (w2 : FVec Ideal S32x512x2048 .f32) (r : Fin 40704) (d : Fin 2048) :
    Host.dotGeneral dot_S40704x32x512_S32x512x2048_S40704x2048_12_01_0_2_n_n none h w2 (ix2 r d)
      = ∑ e : Fin 32, ∑ f : Fin 512, (h (ix3 r e f) * w2 (ix3 e f d) : EReal) := by
  pointwise

theorem fin_at (h : FVec Ideal S40704x32x512 .f32) (w2 : FVec Ideal S32x512x2048 .f32) (R : Fin 651264) (l : Fin 128) :
    fin h w2 (ix2 R l) = Host.dotGeneral dot_S40704x32x512_S32x512x2048_S40704x2048_12_01_0_2_n_n none h w2 (ix2 ⟨R.val / 16, by have := R.isLt; omega⟩ ⟨R.val % 16 * 128 + l.val, by have := l.isLt; omega⟩) := by
  pointwise [fin]

theorem cw_at (te tu : IVec S159 32) (r : Fin 40704) (e : Fin 32) :
    cw (F := Ideal) te tu (ix2 r e) = cmb te tu (ix2 ⟨r.val / 256, by have := r.isLt; omega⟩ e) := by
  pointwise [cw]

theorem cmb_at (te tu : IVec S159 32) (t : Fin 159) (e : Fin 32) :
    cmb (F := Ideal) te tu (ix2 t e) = ((if te (ix1 t) = BitVec.ofNat 32 e.val then 1 else 0) * (if 0 < (tu (ix1 t)).toInt then 1 else 0) : EReal) := by
  pointwise [cmb]
  refine congr (congrArg (fun a b : EReal => a * b) ?_) ?_
  · by_cases h : te (ix1 t) = BitVec.ofNat 32 e.val
    · simp [FloatOps.uitofp, IntOp.cmpi, h]
    · simp [FloatOps.uitofp, IntOp.cmpi, h]
  · by_cases h : 0 < (tu (ix1 t)).toInt
    · simp [FloatOps.uitofp, IntOp.cmpi, BitVec.slt, h]
    · simp [FloatOps.uitofp, IntOp.cmpi, BitVec.slt, h]

theorem tok_at (tb : IVec S159 32) (xs : FVec Ideal S651264x128 .f32) (r : Fin 40704) (k : Fin 2048) :
    tok tb xs (ix2 r k) = Host.gather gather_S159x256x2048_S159x1_S159x256x2048_12_0_n_n_0_1_12562048
    (shapeCast S159x256x2048 xs shapeCasts_S651264x128_S159x256x2048) (blkIx tb) (ix3 ⟨r.val / 256, by have := r.isLt; omega⟩ ⟨r.val % 256, by omega⟩ k) := by
  pointwise [tok]

theorem xs_at (xs : FVec Ideal S651264x128 .f32) (t : Fin 159) (p : Fin 256) (k : Fin 2048) :
    shapeCast S159x256x2048 xs shapeCasts_S651264x128_S159x256x2048 (ix3 t p k) = xs (ix2 ⟨t.val * 4096 + p.val * 16 + k.val / 128, by omega⟩ ⟨k.val % 128, by omega⟩) := by
  pointwise

theorem blkIx_at (tb : IVec S159 32) (t : Fin 159) (h : 0 ≤ (tb (ix1 t)).toInt) : blkIx tb (ix2 t 0) = tb (ix1 t) := by
  pointwise [blkIx]
  have e : IntOp.cmpi .slt (tb (ix1 t)) 0#32 = 0#1 := by
    simp only [IntOp.cmpi, BitVec.slt, BitVec.toInt_zero]
    rw [decide_eq_false (by omega)]; rfl
  rw [e]
  rfl

theorem toInt_of {v : BitVec 32} {n : ℕ} (h : v.toNat < n) (hn : n < 2 ^ 31) : v.toInt = v.toNat := by
  rw [BitVec.toInt_eq_toNat_cond, if_pos (by omega)]

theorem tok_row (tb : IVec S159 32) (xs : FVec Ideal S651264x128 .f32) (r : Fin 40704) (k : Fin 2048) (t : Fin 159) (p : Fin 256)
    (ht : t.val = r.val / 256) (hp : p.val = r.val % 256) (h : (tb (ix1 t)).toNat < 159) :
    tok tb xs (ix2 r k) = Goal.xrow xs (Goal.blkOf tb t) p k := by
  have et : (⟨r.val / 256, by have := r.isLt; omega⟩ : Fin 159) = t := Fin.ext ht.symm
  have ep : (⟨r.val % 256, by omega⟩ : Fin 256) = p := Fin.ext hp.symm
  refine (tok_at tb xs r k).trans ?_
  rw [et, ep]
  refine (gather_at _ _ t p k).trans ?_
  have eb : (⟨min (blkIx tb (ix2 t 0)).toInt.toNat 158, by omega⟩ : Fin 159) = Goal.blkOf tb t :=
    Fin.ext (congrArg (fun v : BitVec 32 => min v.toInt.toNat 158) (blkIx_at tb t (by rw [toInt_of h (by decide)]; omega)))
  rw [eb]
  refine (xs_at xs _ p k).trans ?_
  unfold Goal.xrow Goal.blkOf
  refine congrArg xs (congrArg (fun q => ix2 q _) (Fin.ext ?_))
  show min _ 158 * 4096 + p.val * 16 + k.val / 128 = 4096 * min _ 158 + 16 * p.val + k.val / 128
  omega

theorem cw_row (te tu : IVec S159 32) (r : Fin 40704) (e : Fin 32) (t : Fin 159) (ht : t.val = r.val / 256) (h : (te (ix1 t)).toNat < 32) :
    cw (F := Ideal) te tu (ix2 r e) = ((if e = Goal.expOf te t then 1 else 0) * (if 0 < (tu (ix1 t)).toInt then 1 else 0) : EReal) := by
  have et : (⟨r.val / 256, by have := r.isLt; omega⟩ : Fin 159) = t := Fin.ext ht.symm
  rw [cw_at, et, cmb_at]
  have he : (te (ix1 t) = BitVec.ofNat 32 e.val) ↔ e = Goal.expOf te t := by
    have hv : (Goal.expOf te t).val = (te (ix1 t)).toNat := by
      show min (te (ix1 t)).toInt.toNat 31 = _
      rw [toInt_of h (by decide)]; omega
    constructor
    · intro q
      refine Fin.ext ?_
      rw [hv, q, BitVec.toNat_ofNat]; have := e.isLt; omega
    · intro q
      refine BitVec.eq_of_toNat_eq ?_
      rw [q, hv, BitVec.toNat_ofNat]; omega
  simp only [he]

theorem out_eq (te tb tu : IVec S159 32) (xs : FVec Ideal S651264x128 .f32) (w1 w3 : FVec Ideal S32x2048x512 .f32) (w2 : FVec Ideal S32x512x2048 .f32)
    (h0 : ∀ t : Fin 159, (te (ix1 t)).toNat < 32) (h1 : ∀ t : Fin 159, (tb (ix1 t)).toNat < 159) :
    out te tb tu xs w1 w3 w2 = Goal.goal te tb tu xs w1 w3 w2 := by
  funext i
  have i0 : (i 0).val < 651264 := (i 0).isLt
  have i1 : (i 1).val < 128 := (i 1).isLt
  have hi : i = ix2 (⟨(i 0).val, i0⟩ : Fin 651264) (⟨(i 1).val, i1⟩ : Fin 128) := by
    funext a
    fin_cases a <;> rfl
  unfold Goal.goal Goal.entry out
  conv_lhs => rw [hi]
  rw [fin_at, dot2_at]
  simp only [hid_at, lin_at]
  generalize hr : (⟨(i 0).val / 16, _⟩ : Fin 40704) = r
  generalize ht : (⟨(i 0).val / 4096, _⟩ : Fin 159) = t
  generalize hp : (⟨(i 0).val % 4096 / 16, _⟩ : Fin 256) = p
  have vr : (i 0).val / 16 = r.val := congrArg Fin.val hr
  have vt : (i 0).val / 4096 = t.val := congrArg Fin.val ht
  have vp : (i 0).val % 4096 / 16 = p.val := congrArg Fin.val hp
  have ed : (⟨(i 0).val % 16 * 128 + (i 1).val, by omega⟩ : Fin 2048) = ⟨128 * ((i 0).val % 16) + (i 1).val, by omega⟩ := Fin.ext (show (i 0).val % 16 * 128 + (i 1).val = 128 * ((i 0).val % 16) + (i 1).val from by omega)
  rw [show (⟨(⟨(i 0).val, i0⟩ : Fin 651264).val % 16 * 128 + (⟨(i 1).val, i1⟩ : Fin 128).val, _⟩ : Fin 2048) = _ from ed]
  generalize (⟨128 * ((i 0).val % 16) + (i 1).val, _⟩ : Fin 2048) = d
  simp only [tok_row tb xs r _ t p (by omega) (by omega) (h1 t), cw_row te tu r _ t (by omega) (h0 t)]
  by_cases hu : 0 < (tu (ix1 t)).toInt
  · simp only [if_pos hu, mul_one]
    refine (Finset.sum_eq_single (Goal.expOf te t) ?_ ?_).trans ?_
    · intro e _ he
      simp only [if_neg he, mul_zero, zero_mul, Finset.sum_const_zero]
    · intro h; exact absurd (Finset.mem_univ _) h
    · simp only [if_true, mul_one]
      rfl
  · simp only [if_neg hu, mul_zero, zero_mul, Finset.sum_const_zero]

end Cert.ReferenceIdeal.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.PrjRef
public import proofs.«01_k».proof.Proof.AdaRef
public import proofs.«01_k».proof.Proof.GlaVal
public import proofs.«01_k».proof.Proof.OutRef
public import proofs.«01_k».proof.Proof.GlaRefFold
public import proofs.«01_k».proof.Proof.Args
public import proofs.«01_k».proof.Proof.Val
public import proofs.«01_k».proof.Proof.RefStage
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- Over the machine's floats the precondition bounds the tables, -/
theorem tables_kernel (m : (ℓ : Loc Cert.Kernel.nD Cert.Kernel.τ Cert.Kernel.sig) → Buf (Elt Bits) ℓ) (hp : Cert.Pre_Kernel m) :
    (∀ x, (m ((0 : Dev Cert.Kernel.nD).tc.loc Cert.Kernel.main_arg0) x).toNat < 32) ∧
      ∀ x, (m ((0 : Dev Cert.Kernel.nD).tc.loc Cert.Kernel.main_arg1) x).toNat < 159 :=
  Cert.KernelIdeal.Ex.of_pre (F := Bits) _ _ _ _ _ _ _ (hp 0)

/-- and the blocks they name lie inside their arrays. -/
theorem ok_kernel (m : (ℓ : Loc Cert.Kernel.nD Cert.Kernel.τ Cert.Kernel.sig) → Buf (Elt Bits) ℓ) (hp : Cert.Pre_Kernel m) :
    Cert.KernelIdeal.Ex.Ok (F := Bits) m :=
  Cert.KernelIdeal.Ex.ok_of (F := Bits) m (tables_kernel m hp).1 (tables_kernel m hp).2

/-- The two texts of the body are one, -/
theorem bodies_same : (Cert.Kernel.defs₀ (F := Bits)) = Cert.KernelIdeal.defs₀ (F := Bits) := by
  refine congrArg Defs.onTc ?_
  funext a x
  match a, x with
  | 0, (t, s) => exact rfl

/-- and so are the programs' tables of bodies. -/
theorem tables_same : (Cert.Kernel.defs (F := Bits)) = Cert.KernelIdeal.defs (F := Bits) := congrArg (Pipeline.defs (Cert.Kernel.pcfgs (F := Bits))) bodies_same

/-- The kernel over the machine's floats is the same text, so its run is the one run at those floats. -/
theorem frame_kernel : Cert.quiescent_Kernel := fun m ρ hp =>
  (congrArg (fun D => θ_run D (onTc (τ := Cert.Kernel.τ) (Cert.Kernel.main (F := Bits))) ⟨m, fun _ => 0, ρ⟩ _) tables_same).mpr
    ((θ_run Cert.KernelIdeal.defs _ _).mono (fun _ h => ⟨fun c => (h.1 c).2, h.2⟩)
      (Cert.KernelIdeal.Ex.run_args (F := Bits) m ρ (ok_kernel m hp)))

theorem frame_ideal : Cert.quiescent_KernelIdeal := fun m ρ hp =>
  have hr := Cert.KernelIdeal.Ex.of_pre (F := Ideal) _ _ _ _ _ _ _ (hp 0)
  (θ_run Cert.KernelIdeal.defs _ _).mono (fun _ h => ⟨fun c => (h.1 c).2, h.2⟩)
    (Cert.KernelIdeal.Ex.run_args (F := Ideal) m ρ (Cert.KernelIdeal.Ex.ok_of m hr.1 hr.2))

/-- The plain program runs, keeps its arguments and leaves no counter (it declares none). -/
theorem frame_reference : Cert.quiescent_ReferenceIdeal := fun m ρ _ =>
  (θ_run Cert.ReferenceIdeal.defs _ _).mono (fun r h => ⟨fun c => (h c).2, sem_eq_zero_of_no_sems rfl _⟩) (Cert.ReferenceIdeal.Ref.run m ρ)

theorem value : Cert.algebraic_KernelIdeal_ReferenceIdeal := fun m ρ m' ρ' hp ha =>
  have hr := Cert.KernelIdeal.Ex.of_pre (F := Ideal) _ _ _ _ _ _ _ (hp 0)
  have hO := Cert.KernelIdeal.Ex.ok_of m hr.1 hr.2
  ⟨fun c => (Cert.KernelIdeal.Ex.dats m hO 0 c).arrAt (4 : Fin 5) (Cert.KernelIdeal.Ex.cfgM m hO).N,
    (θ_run Cert.KernelIdeal.defs _ _).mono (fun _ h => h.1) (Cert.KernelIdeal.Ex.run_args (F := Ideal) m ρ hO),
    (θ_run Cert.ReferenceIdeal.defs _ _).mono (fun r h c => by
      obtain rfl : c = 0 := Subsingleton.elim _ _
      obtain ⟨hv, h⟩ := h 0
      obtain ⟨a0, a1, a2, a3, a4, a5, a6⟩ := ha 0
      refine ⟨hv.trans (Eq.trans ?_ (Cert.KernelIdeal.Ex.arr_eq m hO hr.1 hr.2).symm), h⟩
      refine Eq.trans ?_ (Cert.ReferenceIdeal.Ref.out_eq _ _ _ _ _ _ _ (fun t => hr.1 _) (fun t => hr.2 _))
      exact congr (congr (congr (congr (congr (congr (congrArg Cert.ReferenceIdeal.Ref.out a0) a1) a2) a3) a4) a5) a6) (Cert.ReferenceIdeal.Ref.run m' ρ')⟩

/-- The plain projection runs, keeps its arguments and leaves no counter (it declares none). -/
theorem frame_reference2 : Cert.quiescent_Reference2Ideal := fun m ρ _ =>
  (θ_run Cert.Reference2Ideal.defs _ _).mono (fun r h => ⟨fun c => (h c).2.2, sem_eq_zero_of_no_sems rfl _⟩) (Cert.Reference2Ideal.Value.run m ρ)

/-- The two texts of the projection's body are one, -/
theorem bodies_same2 : (Cert.Kernel2.defs₀ (F := Bits)) = Cert.Kernel2Ideal.defs₀ (F := Bits) := by
  refine congrArg Defs.onTc ?_
  funext a x
  match a, x with
  | 0, (t, s) => exact rfl

/-- and so are the programs' tables of bodies. -/
theorem tables_same2 : (Cert.Kernel2.defs (F := Bits)) = Cert.Kernel2Ideal.defs (F := Bits) := congrArg (Pipeline.defs (Cert.Kernel2.pcfgs (F := Bits))) bodies_same2

/-- The projection over the machine's floats is the same text, so its run is the one run at those floats. -/
theorem frame_kernel2 : Cert.quiescent_Kernel2 := fun m ρ _ =>
  (congrArg (fun D => θ_run D (onTc (τ := Cert.Kernel2.τ) (Cert.Kernel2.main (F := Bits))) ⟨m, fun _ => 0, ρ⟩ _) tables_same2).mpr
    ((θ_run Cert.Kernel2Ideal.defs _ _).mono (fun _ h => ⟨fun c => (h.1 c).2.2, h.2⟩) (Cert.Kernel2Ideal.Prj.run_args (F := Bits) m ρ))

theorem frame_ideal2 : Cert.quiescent_Kernel2Ideal := fun m ρ _ =>
  (θ_run Cert.Kernel2Ideal.defs _ _).mono (fun _ h => ⟨fun c => (h.1 c).2.2, h.2⟩) (Cert.Kernel2Ideal.Prj.run_args (F := Ideal) m ρ)

theorem value2 : Cert.algebraic_Kernel2Ideal_Reference2Ideal := fun m ρ m' ρ' _ ha =>
  ⟨fun c => (Cert.Kernel2Ideal.Prj.dats m 0 c).arrAt (6 : Fin 8) Cert.Kernel2Ideal.cfg0.N,
    fun c => (Cert.Kernel2Ideal.Prj.dats m 0 c).arrAt (7 : Fin 8) Cert.Kernel2Ideal.cfg0.N,
    (θ_run Cert.Kernel2Ideal.defs _ _).mono (fun _ h => h.1) (Cert.Kernel2Ideal.Prj.run_args (F := Ideal) m ρ),
    (θ_run Cert.Reference2Ideal.defs _ _).mono (fun r h c => by
      obtain ⟨hv, hz, h⟩ := h c
      obtain ⟨a0, a1, a2, a3, a4⟩ := ha c
      refine ⟨hv.trans ((Cert.Reference2Ideal.Ref.outO _ _ _ _ _).trans ?_), hz.trans ((Cert.Reference2Ideal.Ref.outZ _ _ _ _ _).trans ?_), h⟩
      · refine Eq.trans ?_ (Cert.Kernel2Ideal.Prj.arrO_eq m c).symm
        exact congr (congr (congr (congr (congrArg Cert.Kernel2Ideal.Prj.goalO a0) a1) a2) a3) a4
      · refine Eq.trans ?_ (Cert.Kernel2Ideal.Prj.arrZ_eq m c).symm
        exact congr (congr (congr (congr (congrArg Cert.Kernel2Ideal.Prj.goalZ a0) a1) a2) a3) a4) (Cert.Reference2Ideal.Value.run m' ρ')⟩

/-- The plain adaptive scale and shift runs, keeps its arguments and leaves no counter (it declares none). -/
theorem frame_reference3 : Cert.quiescent_Reference3Ideal := fun m ρ _ =>
  (θ_run Cert.Reference3Ideal.defs _ _).mono (fun r h => ⟨fun c => (h c).2, sem_eq_zero_of_no_sems rfl _⟩) (Cert.Reference3Ideal.Value.run m ρ)

theorem value3 : Cert.algebraic_Kernel3Ideal_Reference3Ideal := fun m ρ m' ρ' _ ha =>
  ⟨fun c => (Cert.Kernel3Ideal.Gen.dats m 0 c).arrAt 3 Cert.Kernel3Ideal.cfg0.N, Cert.Kernel3Ideal.Value.run_blocks m ρ,
    (θ_run Cert.Reference3Ideal.defs _ _).mono (fun r h c => by
      obtain ⟨hv, h⟩ := h c
      obtain ⟨a0, a1, a2⟩ := ha c
      refine ⟨hv.trans ((Cert.Reference3Ideal.Ref.out _ _ _).trans ?_), h⟩
      refine Eq.trans ?_ (Cert.Kernel3Ideal.Ada.final_o m c).symm
      exact congr (congr (congrArg Cert.Kernel3Ideal.Ada.goalA a0) a1) a2) (Cert.Reference3Ideal.Value.run m' ρ')⟩

/-- The plain gated linear attention runs, keeps its arguments and leaves no counter (it declares none). -/
theorem frame_reference4 : Cert.quiescent_Reference4Ideal := fun m ρ _ =>
  (θ_run Cert.Reference4Ideal.defs _ _).mono (fun r h => ⟨fun c => (h c).2, sem_eq_zero_of_no_sems rfl _⟩) (Cert.Reference4Ideal.Value.run m ρ)

theorem value4 : Cert.algebraic_Kernel4Ideal_Reference4Ideal := fun m ρ m' ρ' _ ha =>
  ⟨fun c => (Cert.Kernel4Ideal.Gen.dats m 0 c).arrAt 8 Cert.Kernel4Ideal.cfg0.N, Cert.Kernel4Ideal.Value.run_blocks m ρ,
    (θ_run Cert.Reference4Ideal.defs _ _).mono (fun r h c => by
      obtain ⟨hv, h⟩ := h c
      refine ⟨hv.trans ((Cert.Reference4Ideal.Ref.out_eq m' c).trans ?_), h⟩
      obtain ⟨a0, a1, a2, a3⟩ := ha c
      refine Eq.trans ?_ (Cert.Kernel4Ideal.Gla.final_o m c).symm
      exact congr (congr (congr (congrArg Cert.Kernel4Ideal.Gla.goal a0) a1) a2) a3) (Cert.Reference4Ideal.Value.run m' ρ')⟩

/-- The plain output projection runs, keeps its arguments and leaves no counter (it declares none). -/
theorem frame_reference5 : Cert.quiescent_Reference5Ideal := fun m ρ _ =>
  (θ_run Cert.Reference5Ideal.defs _ _).mono (fun r h => ⟨fun c => (h c).2.2.2, sem_eq_zero_of_no_sems rfl _⟩) (Cert.Reference5Ideal.Value.run m ρ)

set_option maxHeartbeats 4000000 in
/-- The two texts of the output projection's body are one, -/
theorem bodies_same5 : (Cert.Kernel5.defs₀ (F := Bits)) = Cert.Kernel5Ideal.defs₀ (F := Bits) := by
  refine congrArg Defs.onTc ?_
  funext a x
  match a, x with
  | 0, (t, s) => exact rfl

/-- and so are the programs' tables of bodies. -/
theorem tables_same5 : (Cert.Kernel5.defs (F := Bits)) = Cert.Kernel5Ideal.defs (F := Bits) := congrArg (Pipeline.defs (Cert.Kernel5.pcfgs (F := Bits))) bodies_same5

/-- The output projection over the machine's floats is the same text, so its run is the one run at those floats. -/
theorem frame_kernel5 : Cert.quiescent_Kernel5 := fun m ρ _ =>
  (congrArg (fun D => θ_run D (onTc (τ := Cert.Kernel5.τ) (Cert.Kernel5.main (F := Bits))) ⟨m, fun _ => 0, ρ⟩ _) tables_same5).mpr
    ((θ_run Cert.Kernel5Ideal.defs _ _).mono (fun _ h => ⟨fun c => (h.1 c).2.2.2, h.2⟩) (Cert.Kernel5Ideal.Out.run_args (F := Bits) m ρ))

theorem frame_ideal5 : Cert.quiescent_Kernel5Ideal := fun m ρ _ =>
  (θ_run Cert.Kernel5Ideal.defs _ _).mono (fun _ h => ⟨fun c => (h.1 c).2.2.2, h.2⟩) (Cert.Kernel5Ideal.Out.run_args (F := Ideal) m ρ)

theorem value5 : Cert.algebraic_Kernel5Ideal_Reference5Ideal := fun m ρ m' ρ' _ ha =>
  ⟨fun c => (Cert.Kernel5Ideal.Out.dats m 0 c).arrAt (11 : Fin 14) Cert.Kernel5Ideal.cfg0.N,
    fun c => (Cert.Kernel5Ideal.Out.dats m 0 c).arrAt (12 : Fin 14) Cert.Kernel5Ideal.cfg0.N,
    fun c => (Cert.Kernel5Ideal.Out.dats m 0 c).arrAt (13 : Fin 14) Cert.Kernel5Ideal.cfg0.N,
    (θ_run Cert.Kernel5Ideal.defs _ _).mono (fun _ h => h.1) (Cert.Kernel5Ideal.Out.run_args (F := Ideal) m ρ),
    (θ_run Cert.Reference5Ideal.defs _ _).mono (fun r h c => by
      obtain ⟨hx, hh, hl, h⟩ := h c
      obtain ⟨a0, a1, a2, a3, a4, a5, a6, a7, a8, a9, a10, a11, a12⟩ := ha c
      refine ⟨hx.trans ((Cert.Reference5Ideal.Ref.outX _ _ _ _ _ _).trans ?_), hh.trans ((Cert.Reference5Ideal.Ref.resH m' c).trans ?_),
        hl.trans ((Cert.Reference5Ideal.Ref.resL m' c).trans ?_), h⟩
      · refine Eq.trans ?_ (Cert.Kernel5Ideal.Out.arrX_eq m c).symm
        exact congr (congr (congr (congr (congr (congrArg Cert.Kernel5Ideal.Out.goalX a0) a1) a2) a3) a4) a5
      · refine Eq.trans ?_ (Cert.Kernel5Ideal.Out.arrH_eq m c).symm
        exact congr (congr (congr (congr (congr (congr (congr (congr (congrArg Cert.Kernel5Ideal.Out.goalH a0) a1) a2) a3) a4) a5) a6) a7) a8
      · refine Eq.trans ?_ (Cert.Kernel5Ideal.Out.arrL_eq m c).symm
        exact congr (congr (congr (congr (congr (congr (congr (congr (congr (congr (congr (congr (congrArg Cert.Kernel5Ideal.Out.goalL a0) a1) a2) a3) a4) a5) a6) a7) a8) a9) a10) a11) a12) (Cert.Reference5Ideal.Value.run m' ρ')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_tables_in_range.Gen.facts,
    frame_kernel,
    frame_ideal,
    frame_reference,
    fun m ρ _ => frame_reference m ρ trivial,
    frame_kernel2,
    frame_ideal2,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    frame_kernel5,
    frame_ideal5,
    frame_reference5,
    trivial,
    value,
    trivial,
    value2,
    trivial,
    value3,
    trivial,
    value4,
    trivial,
    value5⟩

end Cert.Proof

end
